-- ==== Defs.lean ====
def Pre_Kernel [hPre_pillars : Cert.Pre_pillars.Facts] (m : (ℓ : Loc Cert.Kernel.nD Cert.Kernel.τ Cert.Kernel.sig) → Buf (Elt Bits) ℓ) : Prop :=
  ∀ c : Dev Cert.Kernel.nD,
    (Cert.Pre_pillars.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pillars : Cert.Pre_pillars.Facts] (m : (ℓ : Loc Cert.KernelIdeal.nD Cert.KernelIdeal.τ Cert.KernelIdeal.sig) → Buf (Elt Ideal) ℓ) : Prop :=
  ∀ c : Dev Cert.KernelIdeal.nD,
    (Cert.Pre_pillars.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pillars [hPre_pillars : Cert.Pre_pillars.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pillars.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_pillars : Cert.Pre_pillars.Facts] (m : (ℓ : Loc Cert.Reference.nD Cert.Reference.τ Cert.Reference.sig) → Buf (Elt Bits) ℓ) : Prop :=
  ∀ c : Dev Cert.Reference.nD,
    (Cert.Pre_pillars.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_pillars : Cert.Pre_pillars.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pillars : Cert.Pre_pillars.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pillars [hReferenceIdeal : Cert.ReferenceIdeal.Facts] [hPre_pillars : Cert.Pre_pillars.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pillars m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_pillars : Cert.Pre_pillars.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pillars : Cert.Pre_pillars.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_pillars : Cert.Pre_pillars.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v18)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v18) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v24) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_pillars : Cert.Pre_pillars.Facts),
    quiescent_Kernel (hKernel := hKernel) (hPre_pillars := hPre_pillars)
    ∧ quiescent_KernelIdeal (hKernelIdeal := hKernelIdeal) (hPre_pillars := hPre_pillars)
    ∧ quiescent_ReferenceIdeal (hReferenceIdeal := hReferenceIdeal)
    ∧ quiescent_ReferenceIdeal_pre_pillars (hReferenceIdeal := hReferenceIdeal) (hPre_pillars := hPre_pillars)
    ∧ quiescent_Reference (hReference := hReference) (hPre_pillars := hPre_pillars)
    ∧ preserves_Kernel_KernelIdeal
    ∧ algebraic_KernelIdeal_ReferenceIdeal (hKernelIdeal := hKernelIdeal) (hReferenceIdeal := hReferenceIdeal) (hPre_pillars := hPre_pillars)
    ∧ bitexact_Kernel_Reference (hKernel := hKernel) (hReference := hReference) (hPre_pillars := hPre_pillars)
-- ==== Pre_pillars.lean ====
abbrev S24000x64 : Shape := ⟨2, ![24000, 64]⟩
abbrev S24000x4 : Shape := ⟨2, ![24000, 4]⟩
abbrev S24000x1 : Shape := ⟨2, ![24000, 1]⟩
abbrev S24000 : Shape := ⟨1, ![24000]⟩
abbrev S_ : Shape := ⟨0, ![]⟩

class Facts : Prop where
  slices_S24000x4_S24000x1_0_0 : S24000x4.Slices ![0, 0] S24000x1
  shapeCasts_S24000x1_S24000 : S24000x1.ShapeCasts S24000
  slices_S24000x4_S24000x1_0_2 : S24000x4.Slices ![0, 2] S24000x1
  slices_S24000x4_S24000x1_0_3 : S24000x4.Slices ![0, 3] S24000x1
  bcast_S_S24000 : S_.BroadcastsInDim S24000 (![] : Fin 0 → Fin S24000.rank)
  reducesTo_S24000_S_d0 : S24000.ReducesTo [0] S_
  h_S_ : 0 < S_.numel

variable [Facts]

def fn_where {F : FTy → Type} [FloatOps F] (arg0 : IVec S24000 1) (arg1 : IVec S24000 32) (arg2 : IVec S24000 32) : IVec S24000 32 :=
  let v0 : IVec S24000 32 := select arg0 arg1 arg2
  v0

def fn_floor_divide {F : FTy → Type} [FloatOps F] (arg0 : IVec S24000 32) (arg1 : IVec S_ 32) : IVec S24000 32 :=
  let v0 : IVec S_ 32 := id arg1
  let v1 : IVec S24000 32 := broadcastInDim S24000 ![] bcast_S_S24000 v0
  let v2 : IVec S24000 32 := Host.divsi arg0 v1
  let v3 : IVec S24000 32 := signi arg0
  let v4 : IVec S_ 32 := signi v0
  let v5 : IVec S24000 32 := broadcastInDim S24000 ![] bcast_S_S24000 v4
  let v6 : IVec S24000 1 := cmpi .ne v3 v5
  let v7 : IVec S24000 32 := broadcastInDim S24000 ![] bcast_S_S24000 v0
  let v8 : IVec S24000 32 := Host.remsi arg0 v7
  let c : IVec S_ 32 := constantI S_ 32 0#32
  let v9 : IVec S24000 32 := broadcastInDim S24000 ![] bcast_S_S24000 c
  let v10 : IVec S24000 1 := cmpi .ne v8 v9
  let v11 : IVec S24000 1 := andi v6 v10
  let c_0 : IVec S_ 32 := constantI S_ 32 1#32
  let v12 : IVec S24000 32 := broadcastInDim S24000 ![] bcast_S_S24000 c_0
  let v13 : IVec S24000 32 := subi v2 v12
  let v14 : IVec S24000 32 := fn_where (F := F) v11 v13 v2
  v14

def fn_part1 {F : FTy → Type} [FloatOps F] (main_v5 : IVec S24000 32) (main_v16 : IVec S_ 1) (main_v17 : IVec S24000 32) : IVec S_ 1 :=
  let main_v18 : IVec S24000 1 := cmpi .sge main_v5 main_v17
  let main_c_5 : IVec S_ 32 := constantI S_ 32 432#32
  let main_v19 : IVec S24000 32 := broadcastInDim S24000 ![] bcast_S_S24000 main_c_5
  let main_v20 : IVec S24000 1 := cmpi .slt main_v5 main_v19
  let main_v21 : IVec S24000 1 := andi main_v18 main_v20
  let main_c_6 : IVec S_ 1 := constantI S_ 1 1#1
  let main_v22 : IVec S_ 1 := (fun x v => Host.reduce IntOp.andi x v reducesTo_S24000_S_d0 h_S_) main_v21 main_c_6
  let main_v23 : IVec S_ 1 := andi main_v16 main_v22
  main_v23

def fn {F : FTy → Type} [FloatOps F] (main_arg0 : FVec F S24000x64 .f32) (main_arg1 : IVec S24000x4 32) : IVec S_ 1 :=
  let main_v0 : IVec S24000x1 32 := (extractStridedSlice S24000x1 ![0, 0] · slices_S24000x4_S24000x1_0_0) main_arg1
  let main_v1 : IVec S24000 32 := shapeCast S24000 main_v0 shapeCasts_S24000x1_S24000
  let main_v2 : IVec S24000x1 32 := (extractStridedSlice S24000x1 ![0, 2] · slices_S24000x4_S24000x1_0_2) main_arg1
  let main_v3 : IVec S24000 32 := shapeCast S24000 main_v2 shapeCasts_S24000x1_S24000
  let main_v4 : IVec S24000x1 32 := (extractStridedSlice S24000x1 ![0, 3] · slices_S24000x4_S24000x1_0_3) main_arg1
  let main_v5 : IVec S24000 32 := shapeCast S24000 main_v4 shapeCasts_S24000x1_S24000
  let main_v6 : IVec S24000 32 := iotaInDim S24000 32 0
  let main_c : IVec S_ 32 := constantI S_ 32 12000#32
  let main_v7 : IVec S24000 32 := fn_floor_divide (F := F) main_v6 main_c
  let main_v8 : IVec S24000 1 := cmpi .eq main_v1 main_v7
  let main_c_0 : IVec S_ 1 := constantI S_ 1 1#1
  let main_v9 : IVec S_ 1 := (fun x v => Host.reduce IntOp.andi x v reducesTo_S24000_S_d0 h_S_) main_v8 main_c_0
  let main_c_1 : IVec S_ 32 := constantI S_ 32 0#32
  let main_v10 : IVec S24000 32 := broadcastInDim S24000 ![] bcast_S_S24000 main_c_1
  let main_v11 : IVec S24000 1 := cmpi .sge main_v3 main_v10
  let main_c_2 : IVec S_ 32 := constantI S_ 32 496#32
  let main_v12 : IVec S24000 32 := broadcastInDim S24000 ![] bcast_S_S24000 main_c_2
  let main_v13 : IVec S24000 1 := cmpi .slt main_v3 main_v12
  let main_v14 : IVec S24000 1 := andi main_v11 main_v13
  let main_c_3 : IVec S_ 1 := constantI S_ 1 1#1
  let main_v15 : IVec S_ 1 := (fun x v => Host.reduce IntOp.andi x v reducesTo_S24000_S_d0 h_S_) main_v14 main_c_3
  let main_v16 : IVec S_ 1 := andi main_v9 main_v15
  let main_c_4 : IVec S_ 32 := constantI S_ 32 0#32
  let main_v17 : IVec S24000 32 := broadcastInDim S24000 ![] bcast_S_S24000 main_c_4
  fn_part1 (F := F) main_v5 main_v16 main_v17
-- ==== Kernel.lean ====
abbrev S24000x64 : Shape := ⟨2, ![24000, 64]⟩
abbrev S24000x4 : Shape := ⟨2, ![24000, 4]⟩
abbrev S24000x1 : Shape := ⟨2, ![24000, 1]⟩
abbrev S24000 : Shape := ⟨1, ![24000]⟩
abbrev S_ : Shape := ⟨0, ![]⟩
abbrev S64x24000 : Shape := ⟨2, ![64, 24000]⟩
abbrev S64x2x12000 : Shape := ⟨3, ![64, 2, 12000]⟩
abbrev S64x2x12032 : Shape := ⟨3, ![64, 2, 12032]⟩
abbrev S2x12000 : Shape := ⟨2, ![2, 12000]⟩
abbrev S2x12032 : Shape := ⟨2, ![2, 12032]⟩
abbrev S1540096 : Shape := ⟨1, ![1540096]⟩
abbrev S24064 : Shape := ⟨1, ![24064]⟩
abbrev S27426816 : Shape := ⟨1, ![27426816]⟩
abbrev S21168 : Shape := ⟨1, ![21168]⟩
abbrev S4x12032 : Shape := ⟨2, ![4, 12032]⟩
abbrev S12032 : Shape := ⟨1, ![12032]⟩
abbrev S1x12032 : Shape := ⟨2, ![1, 12032]⟩
abbrev S16 : Shape := ⟨1, ![16]⟩
abbrev S20736 : Shape := ⟨1, ![20736]⟩
abbrev S2x64x496x432 : Shape := ⟨4, ![2, 64, 496, 432]⟩
abbrev S2x20736 : Shape := ⟨2, ![2, 20736]⟩
abbrev S48x432 : Shape := ⟨2, ![48, 432]⟩
abbrev S1x20736 : Shape := ⟨2, ![1, 20736]⟩
abbrev S1x1x48x432 : Shape := ⟨4, ![1, 1, 48, 432]⟩
abbrev S1x16 : Shape := ⟨2, ![1, 16]⟩

abbrev nBuf : Table → Nat
  | .hbm => 28
  | .local .scVector .vmem => 9
  | _ => 0

abbrev bufTy : (tb : Table) → Fin (nBuf tb) → BufTy
  | .hbm, ⟨0, _⟩ => ⟨S24000x64, .f32⟩
  | .hbm, ⟨1, _⟩ => ⟨S24000x4, .i32⟩
  | .hbm, ⟨2, _⟩ => ⟨S24000x1, .i32⟩
  | .hbm, ⟨3, _⟩ => ⟨S24000, .i32⟩
  | .hbm, ⟨4, _⟩ => ⟨S_, .i32⟩
  | .hbm, ⟨5, _⟩ => ⟨S24000, .i32⟩
  | .hbm, ⟨6, _⟩ => ⟨S24000, .i32⟩
  | .hbm, ⟨7, _⟩ => ⟨S24000x1, .i32⟩
  | .hbm, ⟨8, _⟩ => ⟨S24000, .i32⟩
  | .hbm, ⟨9, _⟩ => ⟨S24000, .i32⟩
  | .hbm, ⟨10, _⟩ => ⟨S64x24000, .f32⟩
  | .hbm, ⟨11, _⟩ => ⟨S64x2x12000, .f32⟩
  | .hbm, ⟨12, _⟩ => ⟨S_, .i32⟩
  | .hbm, ⟨13, _⟩ => ⟨S_, .f32⟩
  | .hbm, ⟨14, _⟩ => ⟨S64x2x12032, .f32⟩
  | .hbm, ⟨15, _⟩ => ⟨S2x12000, .i32⟩
  | .hbm, ⟨16, _⟩ => ⟨S_, .i32⟩
  | .hbm, ⟨17, _⟩ => ⟨S_, .i32⟩
  | .hbm, ⟨18, _⟩ => ⟨S2x12032, .i32⟩
  | .hbm, ⟨19, _⟩ => ⟨S2x12000, .i32⟩
  | .hbm, ⟨20, _⟩ => ⟨S_, .i32⟩
  | .hbm, ⟨21, _⟩ => ⟨S_, .i32⟩
  | .hbm, ⟨22, _⟩ => ⟨S2x12032, .i32⟩
  | .hbm, ⟨23, _⟩ => ⟨S1540096, .f32⟩
  | .hbm, ⟨24, _⟩ => ⟨S24064, .i32⟩
  | .hbm, ⟨25, _⟩ => ⟨S24064, .i32⟩
  | .hbm, ⟨26, _⟩ => ⟨S27426816, .f32⟩
  | .hbm, ⟨27, _⟩ => ⟨S2x64x496x432, .f32⟩
  | .local .scVector .vmem, ⟨0, _⟩ => ⟨S21168, .f32⟩
  | .local .scVector .vmem, ⟨1, _⟩ => ⟨S21168, .f32⟩
  | .local .scVector .vmem, ⟨2, _⟩ => ⟨S4x12032, .f32⟩
  | .local .scVector .vmem, ⟨3, _⟩ => ⟨S12032, .i32⟩
  | .local .scVector .vmem, ⟨4, _⟩ => ⟨S12032, .i32⟩
  | .local .scVector .vmem, ⟨5, _⟩ => ⟨S12032, .i32⟩
  | .local .scVector .vmem, ⟨6, _⟩ => ⟨S2x20736, .f32⟩
  | .local .scVector .vmem, ⟨7, _⟩ => ⟨S48x432, .f32⟩
  | .local .scVector .vmem, ⟨8, _⟩ => ⟨S48x432, .f32⟩
  | _, _ => ⟨S24000x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_call1_v0 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_call2_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v14_scv : Ref sig .scVector := ⟨.hbm, 23, rfl⟩
abbrev main_v15_scv : Ref sig .scVector := ⟨.hbm, 24, rfl⟩
abbrev main_v16_scv : Ref sig .scVector := ⟨.hbm, 25, rfl⟩
abbrev main_v17_scv : Ref sig .scVector := ⟨.hbm, 26, rfl⟩
abbrev main_v18_scv : Ref sig .scVector := ⟨.hbm, 27, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_scratch0 : Ref sig .scVector := ⟨.vmem, 6, rfl⟩
abbrev cc1_scratch1 : Ref sig .scVector := ⟨.vmem, 7, rfl⟩
abbrev cc1_scratch2 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c12032_i32 : BitVec 32 := 12032#32
  let v0 : BitVec 32 := Scalar.muli arg0 c12032_i32
  ![v0.toNat]
def k0_off2 (i : grid0.Coords) (c0_i32 : BitVec 32) : Fin 1 → Nat :=
  let arg1 : BitVec 32 := BitVec.ofNat 32 (i 1).val
  let c4_i32 : BitVec 32 := 4#32
  let v2 : BitVec 32 := Scalar.muli arg1 c4_i32
  let v3 : BitVec 32 := Scalar.addi v2 c0_i32
  let c2_i32 : BitVec 32 := 2#32
  let v4 : BitVec 32 := Scalar.muli v3 c2_i32
  let arg0 : BitVec 32 := BitVec.ofNat 32 (i 0).val
  let v5 : BitVec 32 := Scalar.addi v4 arg0
  let c12032_i32_1 : BitVec 32 := 12032#32
  let v6 : BitVec 32 := Scalar.muli v5 c12032_i32_1
  ![v6.toNat]
@[reducible] def k0_t1_loop : Scf.Loop 32 :=
  let c0_i32_16 : BitVec 32 := 0#32
  let c1323_i32 : BitVec 32 := 1323#32
  let v24 : BitVec 32 := Scalar.addi c0_i32_16 c1323_i32
  let c1_i32_17 : BitVec 32 := 1#32
  ⟨c0_i32_16, v24, c1_i32_17⟩
def k0_off3 (k0_t1 : Fin k0_t1_loop.trips) : Fin 1 → Nat :=
  let c0_i32_16 : BitVec 32 := 0#32
  let c1_i32_17 : BitVec 32 := 1#32
  let arg14 : BitVec 32 := Scf.iv c0_i32_16 c1_i32_17 k0_t1
  let c16_i32 : BitVec 32 := 16#32
  let v26 : BitVec 32 := Scalar.muli arg14 c16_i32
  let v27 : Index := Scalar.indexCast v26
  ![v27.toNat]
@[reducible] def k0_t2_loop : Scf.Loop 32 :=
  let c0_i32_19 : BitVec 32 := 0#32
  let c11_i32 : BitVec 32 := 11#32
  let v25 : BitVec 32 := Scalar.addi c0_i32_19 c11_i32
  let c1_i32_20 : BitVec 32 := 1#32
  ⟨c0_i32_19, v25, c1_i32_20⟩
def k0_mult1 (k0_t2 : Fin k0_t2_loop.trips) : BitVec 32 :=
  let c0_i32_19 : BitVec 32 := 0#32
  let c1_i32_20 : BitVec 32 := 1#32
  let arg14 : BitVec 32 := Scf.iv c0_i32_19 c1_i32_20 k0_t2
  let c48_i32 : BitVec 32 := 48#32
  let v26 : BitVec 32 := Scalar.muli arg14 c48_i32
  let c448_i32 : BitVec 32 := 448#32
  let v27 : BitVec 32 := Scalar.minsi v26 c448_i32
  v27
@[reducible] def k0_t3_loop : Scf.Loop 32 :=
  let c0_i32_23 : BitVec 32 := 0#32
  let c750_i32 : BitVec 32 := 750#32
  let v29 : BitVec 32 := Scalar.addi c0_i32_23 c750_i32
  let c1_i32_24 : BitVec 32 := 1#32
  ⟨c0_i32_23, v29, c1_i32_24⟩
def k0_off4 (k0_t3 : Fin k0_t3_loop.trips) : Fin 1 → Nat :=
  let c0_i32_23 : BitVec 32 := 0#32
  let c1_i32_24 : BitVec 32 := 1#32
  let arg15 : BitVec 32 := Scf.iv c0_i32_23 c1_i32_24 k0_t3
  let c16_i32_110 : BitVec 32 := 16#32
  let v156 : BitVec 32 := Scalar.muli arg15 c16_i32_110
  let v157 : Index := Scalar.indexCast v156
  ![v157.toNat]

def k0_chk1 (v174 : IVec S16 32) : Prop :=
  (∀ a x, ((![v174] : Fin 1 → IVec S16 32) a x).toNat < S12032.size a)
theorem k0_idx1_inb : ∀ (v174 : IVec S16 32) (k0_hw1 : k0_chk1 v174), ∀ a x, ((![v174] : Fin 1 → IVec S16 32) a x).toNat < S12032.size a := fun v174 k0_hw1 => k0_hw1
def k0_off5 (v30 : BitVec 32) : Fin 1 → Nat :=
  let v32 : Index := Scalar.indexCast v30
  ![v32.toNat]

@[reducible] def k0_t4_loop (v30 : BitVec 32) : Scf.Loop 32 :=
  let c0_i32_34 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v53 : BitVec 32 := Scalar.subi v51 c0_i32_34
  let c1_i32_35 : BitVec 32 := 1#32
  let v55 : BitVec 32 := Scalar.divsi v53 c1_i32_35
  let v56 : BitVec 32 := Scalar.muli v55 c1_i32_35
  let v57 : BitVec 32 := Scalar.addi c0_i32_34 v56
  let c1_i32_36 : BitVec 32 := 1#32
  ⟨c0_i32_34, v57, c1_i32_36⟩
def k0_off6 (v30 : BitVec 32) (k0_t4 : Fin (k0_t4_loop v30).trips) : Fin 1 → Nat :=
  let c0_i32_34 : BitVec 32 := 0#32
  let c1_i32_36 : BitVec 32 := 1#32
  let arg15 : BitVec 32 := Scf.iv c0_i32_34 c1_i32_36 k0_t4
  let c16_i32_110 : BitVec 32 := 16#32
  let v156 : BitVec 32 := Scalar.muli arg15 c16_i32_110
  let v157 : Index := Scalar.indexCast v156
  ![v157.toNat]

def k0_chk3 (v52 : IVec S16 32) (v158 : IVec S16 32) : Prop :=
  (∀ a x, ((![v158] : Fin 1 → IVec S16 32) a x).toNat < S12032.size a) ∧
  (∀ a x, ((![v158] : Fin 1 → IVec S16 32) a x).toNat < S12032.size a) ∧
  (∀ a x, ((![v52, v158] : Fin 2 → IVec S16 32) a x).toNat < S4x12032.size a)
theorem k0_idx2_inb : ∀ (v52 : IVec S16 32) (v158 : IVec S16 32) (k0_hw3 : k0_chk3 v52 v158), ∀ a x, ((![v158] : Fin 1 → IVec S16 32) a x).toNat < S12032.size a := fun v52 v158 k0_hw3 => k0_hw3.1
theorem k0_idx3_inb : ∀ (v52 : IVec S16 32) (v158 : IVec S16 32) (k0_hw3 : k0_chk3 v52 v158), ∀ a x, ((![v158] : Fin 1 → IVec S16 32) a x).toNat < S12032.size a := fun v52 v158 k0_hw3 => k0_hw3.2.1
theorem k0_idx4_inb : ∀ (v52 : IVec S16 32) (v158 : IVec S16 32) (k0_hw3 : k0_chk3 v52 v158), ∀ a x, ((![v52, v158] : Fin 2 → IVec S16 32) a x).toNat < S4x12032.size a := fun v52 v158 k0_hw3 => k0_hw3.2.2

def k0_chk4 (v170 : IVec S16 32) : Prop :=
  (∀ a x, ((![v170] : Fin 1 → IVec S16 32) a x).toNat < S21168.size a)
theorem k0_idx5_inb : ∀ (v170 : IVec S16 32) (k0_hw4 : k0_chk4 v170), ∀ a x, ((![v170] : Fin 1 → IVec S16 32) a x).toNat < S21168.size a := fun v170 k0_hw4 => k0_hw4
@[reducible] def k0_t5_loop (v30 : BitVec 32) : Scf.Loop 32 :=
  let c0_i32_34 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v53 : BitVec 32 := Scalar.subi v51 c0_i32_34
  let c1_i32_35 : BitVec 32 := 1#32
  let v55 : BitVec 32 := Scalar.divsi v53 c1_i32_35
  let v56 : BitVec 32 := Scalar.muli v55 c1_i32_35
  let v57 : BitVec 32 := Scalar.addi c0_i32_34 v56
  let v54 : BitVec 32 := Scalar.addi c0_i32_34 v53
  let c1_i32_37 : BitVec 32 := 1#32
  ⟨v57, v54, c1_i32_37⟩
def k0_off7 (v30 : BitVec 32) (k0_t5 : Fin (k0_t5_loop v30).trips) : Fin 1 → Nat :=
  let c0_i32_34 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v53 : BitVec 32 := Scalar.subi v51 c0_i32_34
  let c1_i32_35 : BitVec 32 := 1#32
  let v55 : BitVec 32 := Scalar.divsi v53 c1_i32_35
  let v56 : BitVec 32 := Scalar.muli v55 c1_i32_35
  let v57 : BitVec 32 := Scalar.addi c0_i32_34 v56
  let c1_i32_37 : BitVec 32 := 1#32
  let arg15 : BitVec 32 := Scf.iv v57 c1_i32_37 k0_t5
  let c16_i32_110 : BitVec 32 := 16#32
  let v156 : BitVec 32 := Scalar.muli arg15 c16_i32_110
  let v157 : Index := Scalar.indexCast v156
  ![v157.toNat]

def k0_chk5 (v52 : IVec S16 32) (v158 : IVec S16 32) : Prop :=
  (∀ a x, ((![v158] : Fin 1 → IVec S16 32) a x).toNat < S12032.size a) ∧
  (∀ a x, ((![v158] : Fin 1 → IVec S16 32) a x).toNat < S12032.size a) ∧
  (∀ a x, ((![v52, v158] : Fin 2 → IVec S16 32) a x).toNat < S4x12032.size a)
theorem k0_idx6_inb : ∀ (v52 : IVec S16 32) (v158 : IVec S16 32) (k0_hw5 : k0_chk5 v52 v158), ∀ a x, ((![v158] : Fin 1 → IVec S16 32) a x).toNat < S12032.size a := fun v52 v158 k0_hw5 => k0_hw5.1
theorem k0_idx7_inb : ∀ (v52 : IVec S16 32) (v158 : IVec S16 32) (k0_hw5 : k0_chk5 v52 v158), ∀ a x, ((![v158] : Fin 1 → IVec S16 32) a x).toNat < S12032.size a := fun v52 v158 k0_hw5 => k0_hw5.2.1
theorem k0_idx8_inb : ∀ (v52 : IVec S16 32) (v158 : IVec S16 32) (k0_hw5 : k0_chk5 v52 v158), ∀ a x, ((![v52, v158] : Fin 2 → IVec S16 32) a x).toNat < S4x12032.size a := fun v52 v158 k0_hw5 => k0_hw5.2.2

def k0_chk6 (v170 : IVec S16 32) : Prop :=
  (∀ a x, ((![v170] : Fin 1 → IVec S16 32) a x).toNat < S21168.size a)
theorem k0_idx9_inb : ∀ (v170 : IVec S16 32) (k0_hw6 : k0_chk6 v170), ∀ a x, ((![v170] : Fin 1 → IVec S16 32) a x).toNat < S21168.size a := fun v170 k0_hw6 => k0_hw6
def k0_off8 (i : grid0.Coords) (k0_t2 : Fin k0_t2_loop.trips) : Fin 1 → Nat :=
  let arg0 : BitVec 32 := BitVec.ofNat 32 (i 0).val
  let c64_i32 : BitVec 32 := 64#32
  let v60 : BitVec 32 := Scalar.muli arg0 c64_i32
  let arg1 : BitVec 32 := BitVec.ofNat 32 (i 1).val
  let c4_i32_38 : BitVec 32 := 4#32
  let v58 : BitVec 32 := Scalar.muli arg1 c4_i32_38
  let c0_i32_39 : BitVec 32 := 0#32
  let v59 : BitVec 32 := Scalar.addi v58 c0_i32_39
  let v61 : BitVec 32 := Scalar.addi v60 v59
  let c496_i32 : BitVec 32 := 496#32
  let v62 : BitVec 32 := Scalar.muli v61 c496_i32
  let c0_i32_19 : BitVec 32 := 0#32
  let c1_i32_20 : BitVec 32 := 1#32
  let arg14 : BitVec 32 := Scf.iv c0_i32_19 c1_i32_20 k0_t2
  let c48_i32 : BitVec 32 := 48#32
  let v26 : BitVec 32 := Scalar.muli arg14 c48_i32
  let c448_i32 : BitVec 32 := 448#32
  let v27 : BitVec 32 := Scalar.minsi v26 c448_i32
  let v28 : BitVec 32 := v27
  let v63 : BitVec 32 := Scalar.addi v62 v28
  let c432_i32 : BitVec 32 := 432#32
  let v64 : BitVec 32 := Scalar.muli v63 c432_i32
  ![v64.toNat]
@[reducible] def k0_t6_loop (v30 : BitVec 32) : Scf.Loop 32 :=
  let c0_i32_43 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v70 : BitVec 32 := Scalar.subi v51 c0_i32_43
  let c1_i32_44 : BitVec 32 := 1#32
  let v72 : BitVec 32 := Scalar.divsi v70 c1_i32_44
  let v73 : BitVec 32 := Scalar.muli v72 c1_i32_44
  let v74 : BitVec 32 := Scalar.addi c0_i32_43 v73
  let c1_i32_45 : BitVec 32 := 1#32
  ⟨c0_i32_43, v74, c1_i32_45⟩
def k0_off9 (v30 : BitVec 32) (k0_t6 : Fin (k0_t6_loop v30).trips) : Fin 1 → Nat :=
  let c0_i32_43 : BitVec 32 := 0#32
  let c1_i32_45 : BitVec 32 := 1#32
  let arg15 : BitVec 32 := Scf.iv c0_i32_43 c1_i32_45 k0_t6
  let c16_i32_110 : BitVec 32 := 16#32
  let v156 : BitVec 32 := Scalar.muli arg15 c16_i32_110
  let v157 : Index := Scalar.indexCast v156
  ![v157.toNat]

def k0_chk7 (v69 : IVec S16 32) (v158 : IVec S16 32) : Prop :=
  (∀ a x, ((![v158] : Fin 1 → IVec S16 32) a x).toNat < S12032.size a) ∧
  (∀ a x, ((![v158] : Fin 1 → IVec S16 32) a x).toNat < S12032.size a) ∧
  (∀ a x, ((![v69, v158] : Fin 2 → IVec S16 32) a x).toNat < S4x12032.size a)
theorem k0_idx10_inb : ∀ (v69 : IVec S16 32) (v158 : IVec S16 32) (k0_hw7 : k0_chk7 v69 v158), ∀ a x, ((![v158] : Fin 1 → IVec S16 32) a x).toNat < S12032.size a := fun v69 v158 k0_hw7 => k0_hw7.1
theorem k0_idx11_inb : ∀ (v69 : IVec S16 32) (v158 : IVec S16 32) (k0_hw7 : k0_chk7 v69 v158), ∀ a x, ((![v158] : Fin 1 → IVec S16 32) a x).toNat < S12032.size a := fun v69 v158 k0_hw7 => k0_hw7.2.1
theorem k0_idx12_inb : ∀ (v69 : IVec S16 32) (v158 : IVec S16 32) (k0_hw7 : k0_chk7 v69 v158), ∀ a x, ((![v69, v158] : Fin 2 → IVec S16 32) a x).toNat < S4x12032.size a := fun v69 v158 k0_hw7 => k0_hw7.2.2

def k0_chk8 (v170 : IVec S16 32) : Prop :=
  (∀ a x, ((![v170] : Fin 1 → IVec S16 32) a x).toNat < S21168.size a)
theorem k0_idx13_inb : ∀ (v170 : IVec S16 32) (k0_hw8 : k0_chk8 v170), ∀ a x, ((![v170] : Fin 1 → IVec S16 32) a x).toNat < S21168.size a := fun v170 k0_hw8 => k0_hw8
@[reducible] def k0_t7_loop (v30 : BitVec 32) : Scf.Loop 32 :=
  let c0_i32_43 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v70 : BitVec 32 := Scalar.subi v51 c0_i32_43
  let c1_i32_44 : BitVec 32 := 1#32
  let v72 : BitVec 32 := Scalar.divsi v70 c1_i32_44
  let v73 : BitVec 32 := Scalar.muli v72 c1_i32_44
  let v74 : BitVec 32 := Scalar.addi c0_i32_43 v73
  let v71 : BitVec 32 := Scalar.addi c0_i32_43 v70
  let c1_i32_46 : BitVec 32 := 1#32
  ⟨v74, v71, c1_i32_46⟩
def k0_off10 (v30 : BitVec 32) (k0_t7 : Fin (k0_t7_loop v30).trips) : Fin 1 → Nat :=
  let c0_i32_43 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v70 : BitVec 32 := Scalar.subi v51 c0_i32_43
  let c1_i32_44 : BitVec 32 := 1#32
  let v72 : BitVec 32 := Scalar.divsi v70 c1_i32_44
  let v73 : BitVec 32 := Scalar.muli v72 c1_i32_44
  let v74 : BitVec 32 := Scalar.addi c0_i32_43 v73
  let c1_i32_46 : BitVec 32 := 1#32
  let arg15 : BitVec 32 := Scf.iv v74 c1_i32_46 k0_t7
  let c16_i32_110 : BitVec 32 := 16#32
  let v156 : BitVec 32 := Scalar.muli arg15 c16_i32_110
  let v157 : Index := Scalar.indexCast v156
  ![v157.toNat]

def k0_chk9 (v69 : IVec S16 32) (v158 : IVec S16 32) : Prop :=
  (∀ a x, ((![v158] : Fin 1 → IVec S16 32) a x).toNat < S12032.size a) ∧
  (∀ a x, ((![v158] : Fin 1 → IVec S16 32) a x).toNat < S12032.size a) ∧
  (∀ a x, ((![v69, v158] : Fin 2 → IVec S16 32) a x).toNat < S4x12032.size a)
theorem k0_idx14_inb : ∀ (v69 : IVec S16 32) (v158 : IVec S16 32) (k0_hw9 : k0_chk9 v69 v158), ∀ a x, ((![v158] : Fin 1 → IVec S16 32) a x).toNat < S12032.size a := fun v69 v158 k0_hw9 => k0_hw9.1
theorem k0_idx15_inb : ∀ (v69 : IVec S16 32) (v158 : IVec S16 32) (k0_hw9 : k0_chk9 v69 v158), ∀ a x, ((![v158] : Fin 1 → IVec S16 32) a x).toNat < S12032.size a := fun v69 v158 k0_hw9 => k0_hw9.2.1
theorem k0_idx16_inb : ∀ (v69 : IVec S16 32) (v158 : IVec S16 32) (k0_hw9 : k0_chk9 v69 v158), ∀ a x, ((![v69, v158] : Fin 2 → IVec S16 32) a x).toNat < S4x12032.size a := fun v69 v158 k0_hw9 => k0_hw9.2.2

def k0_chk10 (v170 : IVec S16 32) : Prop :=
  (∀ a x, ((![v170] : Fin 1 → IVec S16 32) a x).toNat < S21168.size a)
theorem k0_idx17_inb : ∀ (v170 : IVec S16 32) (k0_hw10 : k0_chk10 v170), ∀ a x, ((![v170] : Fin 1 → IVec S16 32) a x).toNat < S21168.size a := fun v170 k0_hw10 => k0_hw10
def k0_off11 (i : grid0.Coords) (k0_t2 : Fin k0_t2_loop.trips) : Fin 1 → Nat :=
  let arg0 : BitVec 32 := BitVec.ofNat 32 (i 0).val
  let c64_i32_49 : BitVec 32 := 64#32
  let v77 : BitVec 32 := Scalar.muli arg0 c64_i32_49
  let arg1 : BitVec 32 := BitVec.ofNat 32 (i 1).val
  let c4_i32_47 : BitVec 32 := 4#32
  let v75 : BitVec 32 := Scalar.muli arg1 c4_i32_47
  let c1_i32_48 : BitVec 32 := 1#32
  let v76 : BitVec 32 := Scalar.addi v75 c1_i32_48
  let v78 : BitVec 32 := Scalar.addi v77 v76
  let c496_i32_50 : BitVec 32 := 496#32
  let v79 : BitVec 32 := Scalar.muli v78 c496_i32_50
  let c0_i32_19 : BitVec 32 := 0#32
  let c1_i32_20 : BitVec 32 := 1#32
  let arg14 : BitVec 32 := Scf.iv c0_i32_19 c1_i32_20 k0_t2
  let c48_i32 : BitVec 32 := 48#32
  let v26 : BitVec 32 := Scalar.muli arg14 c48_i32
  let c448_i32 : BitVec 32 := 448#32
  let v27 : BitVec 32 := Scalar.minsi v26 c448_i32
  let v28 : BitVec 32 := v27
  let v80 : BitVec 32 := Scalar.addi v79 v28
  let c432_i32_51 : BitVec 32 := 432#32
  let v81 : BitVec 32 := Scalar.muli v80 c432_i32_51
  ![v81.toNat]
@[reducible] def k0_t8_loop (v30 : BitVec 32) : Scf.Loop 32 :=
  let c0_i32_58 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v90 : BitVec 32 := Scalar.subi v51 c0_i32_58
  let c1_i32_59 : BitVec 32 := 1#32
  let v92 : BitVec 32 := Scalar.divsi v90 c1_i32_59
  let v93 : BitVec 32 := Scalar.muli v92 c1_i32_59
  let v94 : BitVec 32 := Scalar.addi c0_i32_58 v93
  let c1_i32_60 : BitVec 32 := 1#32
  ⟨c0_i32_58, v94, c1_i32_60⟩
def k0_off12 (v30 : BitVec 32) (k0_t8 : Fin (k0_t8_loop v30).trips) : Fin 1 → Nat :=
  let c0_i32_58 : BitVec 32 := 0#32
  let c1_i32_60 : BitVec 32 := 1#32
  let arg15 : BitVec 32 := Scf.iv c0_i32_58 c1_i32_60 k0_t8
  let c16_i32_110 : BitVec 32 := 16#32
  let v156 : BitVec 32 := Scalar.muli arg15 c16_i32_110
  let v157 : Index := Scalar.indexCast v156
  ![v157.toNat]

def k0_chk11 (v158 : IVec S16 32) : Prop :=
  (∀ a x, ((![v158] : Fin 1 → IVec S16 32) a x).toNat < S12032.size a) ∧
  (∀ a x, ((![v158] : Fin 1 → IVec S16 32) a x).toNat < S12032.size a)
theorem k0_idx18_inb : ∀ (v158 : IVec S16 32) (k0_hw11 : k0_chk11 v158), ∀ a x, ((![v158] : Fin 1 → IVec S16 32) a x).toNat < S12032.size a := fun v158 k0_hw11 => k0_hw11.1
theorem k0_idx19_inb : ∀ (v158 : IVec S16 32) (k0_hw11 : k0_chk11 v158), ∀ a x, ((![v158] : Fin 1 → IVec S16 32) a x).toNat < S12032.size a := fun v158 k0_hw11 => k0_hw11.2

def k0_chk12 (v170 : IVec S16 32) : Prop :=
  (∀ a x, ((![v170] : Fin 1 → IVec S16 32) a x).toNat < S21168.size a)
theorem k0_idx20_inb : ∀ (v170 : IVec S16 32) (k0_hw12 : k0_chk12 v170), ∀ a x, ((![v170] : Fin 1 → IVec S16 32) a x).toNat < S21168.size a := fun v170 k0_hw12 => k0_hw12
@[reducible] def k0_t9_loop (v30 : BitVec 32) : Scf.Loop 32 :=
  let c0_i32_58 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v90 : BitVec 32 := Scalar.subi v51 c0_i32_58
  let c1_i32_59 : BitVec 32 := 1#32
  let v92 : BitVec 32 := Scalar.divsi v90 c1_i32_59
  let v93 : BitVec 32 := Scalar.muli v92 c1_i32_59
  let v94 : BitVec 32 := Scalar.addi c0_i32_58 v93
  let v91 : BitVec 32 := Scalar.addi c0_i32_58 v90
  let c1_i32_61 : BitVec 32 := 1#32
  ⟨v94, v91, c1_i32_61⟩
def k0_off13 (v30 : BitVec 32) (k0_t9 : Fin (k0_t9_loop v30).trips) : Fin 1 → Nat :=
  let c0_i32_58 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v90 : BitVec 32 := Scalar.subi v51 c0_i32_58
  let c1_i32_59 : BitVec 32 := 1#32
  let v92 : BitVec 32 := Scalar.divsi v90 c1_i32_59
  let v93 : BitVec 32 := Scalar.muli v92 c1_i32_59
  let v94 : BitVec 32 := Scalar.addi c0_i32_58 v93
  let c1_i32_61 : BitVec 32 := 1#32
  let arg15 : BitVec 32 := Scf.iv v94 c1_i32_61 k0_t9
  let c16_i32_110 : BitVec 32 := 16#32
  let v156 : BitVec 32 := Scalar.muli arg15 c16_i32_110
  let v157 : Index := Scalar.indexCast v156
  ![v157.toNat]

def k0_chk13 (v158 : IVec S16 32) : Prop :=
  (∀ a x, ((![v158] : Fin 1 → IVec S16 32) a x).toNat < S12032.size a) ∧
  (∀ a x, ((![v158] : Fin 1 → IVec S16 32) a x).toNat < S12032.size a)
theorem k0_idx21_inb : ∀ (v158 : IVec S16 32) (k0_hw13 : k0_chk13 v158), ∀ a x, ((![v158] : Fin 1 → IVec S16 32) a x).toNat < S12032.size a := fun v158 k0_hw13 => k0_hw13.1
theorem k0_idx22_inb : ∀ (v158 : IVec S16 32) (k0_hw13 : k0_chk13 v158), ∀ a x, ((![v158] : Fin 1 → IVec S16 32) a x).toNat < S12032.size a := fun v158 k0_hw13 => k0_hw13.2

def k0_chk14 (v170 : IVec S16 32) : Prop :=
  (∀ a x, ((![v170] : Fin 1 → IVec S16 32) a x).toNat < S21168.size a)
theorem k0_idx23_inb : ∀ (v170 : IVec S16 32) (k0_hw14 : k0_chk14 v170), ∀ a x, ((![v170] : Fin 1 → IVec S16 32) a x).toNat < S21168.size a := fun v170 k0_hw14 => k0_hw14
@[reducible] def k0_t10_loop (v30 : BitVec 32) : Scf.Loop 32 :=
  let c0_i32_63 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v96 : BitVec 32 := Scalar.subi v51 c0_i32_63
  let c1_i32_64 : BitVec 32 := 1#32
  let v98 : BitVec 32 := Scalar.divsi v96 c1_i32_64
  let v99 : BitVec 32 := Scalar.muli v98 c1_i32_64
  let v100 : BitVec 32 := Scalar.addi c0_i32_63 v99
  let c1_i32_65 : BitVec 32 := 1#32
  ⟨c0_i32_63, v100, c1_i32_65⟩
def k0_off14 (v30 : BitVec 32) (k0_t10 : Fin (k0_t10_loop v30).trips) : Fin 1 → Nat :=
  let c0_i32_63 : BitVec 32 := 0#32
  let c1_i32_65 : BitVec 32 := 1#32
  let arg15 : BitVec 32 := Scf.iv c0_i32_63 c1_i32_65 k0_t10
  let c16_i32_110 : BitVec 32 := 16#32
  let v156 : BitVec 32 := Scalar.muli arg15 c16_i32_110
  let v157 : Index := Scalar.indexCast v156
  ![v157.toNat]

def k0_chk15 (v95 : IVec S16 32) (v158 : IVec S16 32) : Prop :=
  (∀ a x, ((![v158] : Fin 1 → IVec S16 32) a x).toNat < S12032.size a) ∧
  (∀ a x, ((![v158] : Fin 1 → IVec S16 32) a x).toNat < S12032.size a) ∧
  (∀ a x, ((![v95, v158] : Fin 2 → IVec S16 32) a x).toNat < S4x12032.size a)
theorem k0_idx24_inb : ∀ (v95 : IVec S16 32) (v158 : IVec S16 32) (k0_hw15 : k0_chk15 v95 v158), ∀ a x, ((![v158] : Fin 1 → IVec S16 32) a x).toNat < S12032.size a := fun v95 v158 k0_hw15 => k0_hw15.1
theorem k0_idx25_inb : ∀ (v95 : IVec S16 32) (v158 : IVec S16 32) (k0_hw15 : k0_chk15 v95 v158), ∀ a x, ((![v158] : Fin 1 → IVec S16 32) a x).toNat < S12032.size a := fun v95 v158 k0_hw15 => k0_hw15.2.1
theorem k0_idx26_inb : ∀ (v95 : IVec S16 32) (v158 : IVec S16 32) (k0_hw15 : k0_chk15 v95 v158), ∀ a x, ((![v95, v158] : Fin 2 → IVec S16 32) a x).toNat < S4x12032.size a := fun v95 v158 k0_hw15 => k0_hw15.2.2

def k0_chk16 (v170 : IVec S16 32) : Prop :=
  (∀ a x, ((![v170] : Fin 1 → IVec S16 32) a x).toNat < S21168.size a)
theorem k0_idx27_inb : ∀ (v170 : IVec S16 32) (k0_hw16 : k0_chk16 v170), ∀ a x, ((![v170] : Fin 1 → IVec S16 32) a x).toNat < S21168.size a := fun v170 k0_hw16 => k0_hw16
@[reducible] def k0_t11_loop (v30 : BitVec 32) : Scf.Loop 32 :=
  let c0_i32_63 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v96 : BitVec 32 := Scalar.subi v51 c0_i32_63
  let c1_i32_64 : BitVec 32 := 1#32
  let v98 : BitVec 32 := Scalar.divsi v96 c1_i32_64
  let v99 : BitVec 32 := Scalar.muli v98 c1_i32_64
  let v100 : BitVec 32 := Scalar.addi c0_i32_63 v99
  let v97 : BitVec 32 := Scalar.addi c0_i32_63 v96
  let c1_i32_66 : BitVec 32 := 1#32
  ⟨v100, v97, c1_i32_66⟩
def k0_off15 (v30 : BitVec 32) (k0_t11 : Fin (k0_t11_loop v30).trips) : Fin 1 → Nat :=
  let c0_i32_63 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v96 : BitVec 32 := Scalar.subi v51 c0_i32_63
  let c1_i32_64 : BitVec 32 := 1#32
  let v98 : BitVec 32 := Scalar.divsi v96 c1_i32_64
  let v99 : BitVec 32 := Scalar.muli v98 c1_i32_64
  let v100 : BitVec 32 := Scalar.addi c0_i32_63 v99
  let c1_i32_66 : BitVec 32 := 1#32
  let arg15 : BitVec 32 := Scf.iv v100 c1_i32_66 k0_t11
  let c16_i32_110 : BitVec 32 := 16#32
  let v156 : BitVec 32 := Scalar.muli arg15 c16_i32_110
  let v157 : Index := Scalar.indexCast v156
  ![v157.toNat]

def k0_chk17 (v95 : IVec S16 32) (v158 : IVec S16 32) : Prop :=
  (∀ a x, ((![v158] : Fin 1 → IVec S16 32) a x).toNat < S12032.size a) ∧
  (∀ a x, ((![v158] : Fin 1 → IVec S16 32) a x).toNat < S12032.size a) ∧
  (∀ a x, ((![v95, v158] : Fin 2 → IVec S16 32) a x).toNat < S4x12032.size a)
theorem k0_idx28_inb : ∀ (v95 : IVec S16 32) (v158 : IVec S16 32) (k0_hw17 : k0_chk17 v95 v158), ∀ a x, ((![v158] : Fin 1 → IVec S16 32) a x).toNat < S12032.size a := fun v95 v158 k0_hw17 => k0_hw17.1
theorem k0_idx29_inb : ∀ (v95 : IVec S16 32) (v158 : IVec S16 32) (k0_hw17 : k0_chk17 v95 v158), ∀ a x, ((![v158] : Fin 1 → IVec S16 32) a x).toNat < S12032.size a := fun v95 v158 k0_hw17 => k0_hw17.2.1
theorem k0_idx30_inb : ∀ (v95 : IVec S16 32) (v158 : IVec S16 32) (k0_hw17 : k0_chk17 v95 v158), ∀ a x, ((![v95, v158] : Fin 2 → IVec S16 32) a x).toNat < S4x12032.size a := fun v95 v158 k0_hw17 => k0_hw17.2.2

def k0_chk18 (v170 : IVec S16 32) : Prop :=
  (∀ a x, ((![v170] : Fin 1 → IVec S16 32) a x).toNat < S21168.size a)
theorem k0_idx31_inb : ∀ (v170 : IVec S16 32) (k0_hw18 : k0_chk18 v170), ∀ a x, ((![v170] : Fin 1 → IVec S16 32) a x).toNat < S21168.size a := fun v170 k0_hw18 => k0_hw18
def k0_off16 (i : grid0.Coords) (k0_t2 : Fin k0_t2_loop.trips) : Fin 1 → Nat :=
  let arg0 : BitVec 32 := BitVec.ofNat 32 (i 0).val
  let c64_i32_69 : BitVec 32 := 64#32
  let v103 : BitVec 32 := Scalar.muli arg0 c64_i32_69
  let arg1 : BitVec 32 := BitVec.ofNat 32 (i 1).val
  let c4_i32_67 : BitVec 32 := 4#32
  let v101 : BitVec 32 := Scalar.muli arg1 c4_i32_67
  let c2_i32_68 : BitVec 32 := 2#32
  let v102 : BitVec 32 := Scalar.addi v101 c2_i32_68
  let v104 : BitVec 32 := Scalar.addi v103 v102
  let c496_i32_70 : BitVec 32 := 496#32
  let v105 : BitVec 32 := Scalar.muli v104 c496_i32_70
  let c0_i32_19 : BitVec 32 := 0#32
  let c1_i32_20 : BitVec 32 := 1#32
  let arg14 : BitVec 32 := Scf.iv c0_i32_19 c1_i32_20 k0_t2
  let c48_i32 : BitVec 32 := 48#32
  let v26 : BitVec 32 := Scalar.muli arg14 c48_i32
  let c448_i32 : BitVec 32 := 448#32
  let v27 : BitVec 32 := Scalar.minsi v26 c448_i32
  let v28 : BitVec 32 := v27
  let v106 : BitVec 32 := Scalar.addi v105 v28
  let c432_i32_71 : BitVec 32 := 432#32
  let v107 : BitVec 32 := Scalar.muli v106 c432_i32_71
  ![v107.toNat]
@[reducible] def k0_t12_loop (v30 : BitVec 32) : Scf.Loop 32 :=
  let c0_i32_78 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v116 : BitVec 32 := Scalar.subi v51 c0_i32_78
  let c1_i32_79 : BitVec 32 := 1#32
  let v118 : BitVec 32 := Scalar.divsi v116 c1_i32_79
  let v119 : BitVec 32 := Scalar.muli v118 c1_i32_79
  let v120 : BitVec 32 := Scalar.addi c0_i32_78 v119
  let c1_i32_80 : BitVec 32 := 1#32
  ⟨c0_i32_78, v120, c1_i32_80⟩
def k0_off17 (v30 : BitVec 32) (k0_t12 : Fin (k0_t12_loop v30).trips) : Fin 1 → Nat :=
  let c0_i32_78 : BitVec 32 := 0#32
  let c1_i32_80 : BitVec 32 := 1#32
  let arg15 : BitVec 32 := Scf.iv c0_i32_78 c1_i32_80 k0_t12
  let c16_i32_110 : BitVec 32 := 16#32
  let v156 : BitVec 32 := Scalar.muli arg15 c16_i32_110
  let v157 : Index := Scalar.indexCast v156
  ![v157.toNat]

def k0_chk19 (v158 : IVec S16 32) : Prop :=
  (∀ a x, ((![v158] : Fin 1 → IVec S16 32) a x).toNat < S12032.size a) ∧
  (∀ a x, ((![v158] : Fin 1 → IVec S16 32) a x).toNat < S12032.size a)
theorem k0_idx32_inb : ∀ (v158 : IVec S16 32) (k0_hw19 : k0_chk19 v158), ∀ a x, ((![v158] : Fin 1 → IVec S16 32) a x).toNat < S12032.size a := fun v158 k0_hw19 => k0_hw19.1
theorem k0_idx33_inb : ∀ (v158 : IVec S16 32) (k0_hw19 : k0_chk19 v158), ∀ a x, ((![v158] : Fin 1 → IVec S16 32) a x).toNat < S12032.size a := fun v158 k0_hw19 => k0_hw19.2

def k0_chk20 (v170 : IVec S16 32) : Prop :=
  (∀ a x, ((![v170] : Fin 1 → IVec S16 32) a x).toNat < S21168.size a)
theorem k0_idx34_inb : ∀ (v170 : IVec S16 32) (k0_hw20 : k0_chk20 v170), ∀ a x, ((![v170] : Fin 1 → IVec S16 32) a x).toNat < S21168.size a := fun v170 k0_hw20 => k0_hw20
@[reducible] def k0_t13_loop (v30 : BitVec 32) : Scf.Loop 32 :=
  let c0_i32_78 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v116 : BitVec 32 := Scalar.subi v51 c0_i32_78
  let c1_i32_79 : BitVec 32 := 1#32
  let v118 : BitVec 32 := Scalar.divsi v116 c1_i32_79
  let v119 : BitVec 32 := Scalar.muli v118 c1_i32_79
  let v120 : BitVec 32 := Scalar.addi c0_i32_78 v119
  let v117 : BitVec 32 := Scalar.addi c0_i32_78 v116
  let c1_i32_81 : BitVec 32 := 1#32
  ⟨v120, v117, c1_i32_81⟩
def k0_off18 (v30 : BitVec 32) (k0_t13 : Fin (k0_t13_loop v30).trips) : Fin 1 → Nat :=
  let c0_i32_78 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v116 : BitVec 32 := Scalar.subi v51 c0_i32_78
  let c1_i32_79 : BitVec 32 := 1#32
  let v118 : BitVec 32 := Scalar.divsi v116 c1_i32_79
  let v119 : BitVec 32 := Scalar.muli v118 c1_i32_79
  let v120 : BitVec 32 := Scalar.addi c0_i32_78 v119
  let c1_i32_81 : BitVec 32 := 1#32
  let arg15 : BitVec 32 := Scf.iv v120 c1_i32_81 k0_t13
  let c16_i32_110 : BitVec 32 := 16#32
  let v156 : BitVec 32 := Scalar.muli arg15 c16_i32_110
  let v157 : Index := Scalar.indexCast v156
  ![v157.toNat]

def k0_chk21 (v158 : IVec S16 32) : Prop :=
  (∀ a x, ((![v158] : Fin 1 → IVec S16 32) a x).toNat < S12032.size a) ∧
  (∀ a x, ((![v158] : Fin 1 → IVec S16 32) a x).toNat < S12032.size a)
theorem k0_idx35_inb : ∀ (v158 : IVec S16 32) (k0_hw21 : k0_chk21 v158), ∀ a x, ((![v158] : Fin 1 → IVec S16 32) a x).toNat < S12032.size a := fun v158 k0_hw21 => k0_hw21.1
theorem k0_idx36_inb : ∀ (v158 : IVec S16 32) (k0_hw21 : k0_chk21 v158), ∀ a x, ((![v158] : Fin 1 → IVec S16 32) a x).toNat < S12032.size a := fun v158 k0_hw21 => k0_hw21.2

def k0_chk22 (v170 : IVec S16 32) : Prop :=
  (∀ a x, ((![v170] : Fin 1 → IVec S16 32) a x).toNat < S21168.size a)
theorem k0_idx37_inb : ∀ (v170 : IVec S16 32) (k0_hw22 : k0_chk22 v170), ∀ a x, ((![v170] : Fin 1 → IVec S16 32) a x).toNat < S21168.size a := fun v170 k0_hw22 => k0_hw22
@[reducible] def k0_t14_loop (v30 : BitVec 32) : Scf.Loop 32 :=
  let c0_i32_83 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v122 : BitVec 32 := Scalar.subi v51 c0_i32_83
  let c1_i32_84 : BitVec 32 := 1#32
  let v124 : BitVec 32 := Scalar.divsi v122 c1_i32_84
  let v125 : BitVec 32 := Scalar.muli v124 c1_i32_84
  let v126 : BitVec 32 := Scalar.addi c0_i32_83 v125
  let c1_i32_85 : BitVec 32 := 1#32
  ⟨c0_i32_83, v126, c1_i32_85⟩
def k0_off19 (v30 : BitVec 32) (k0_t14 : Fin (k0_t14_loop v30).trips) : Fin 1 → Nat :=
  let c0_i32_83 : BitVec 32 := 0#32
  let c1_i32_85 : BitVec 32 := 1#32
  let arg15 : BitVec 32 := Scf.iv c0_i32_83 c1_i32_85 k0_t14
  let c16_i32_110 : BitVec 32 := 16#32
  let v156 : BitVec 32 := Scalar.muli arg15 c16_i32_110
  let v157 : Index := Scalar.indexCast v156
  ![v157.toNat]

def k0_chk23 (v121 : IVec S16 32) (v158 : IVec S16 32) : Prop :=
  (∀ a x, ((![v158] : Fin 1 → IVec S16 32) a x).toNat < S12032.size a) ∧
  (∀ a x, ((![v158] : Fin 1 → IVec S16 32) a x).toNat < S12032.size a) ∧
  (∀ a x, ((![v121, v158] : Fin 2 → IVec S16 32) a x).toNat < S4x12032.size a)
theorem k0_idx38_inb : ∀ (v121 : IVec S16 32) (v158 : IVec S16 32) (k0_hw23 : k0_chk23 v121 v158), ∀ a x, ((![v158] : Fin 1 → IVec S16 32) a x).toNat < S12032.size a := fun v121 v158 k0_hw23 => k0_hw23.1
theorem k0_idx39_inb : ∀ (v121 : IVec S16 32) (v158 : IVec S16 32) (k0_hw23 : k0_chk23 v121 v158), ∀ a x, ((![v158] : Fin 1 → IVec S16 32) a x).toNat < S12032.size a := fun v121 v158 k0_hw23 => k0_hw23.2.1
theorem k0_idx40_inb : ∀ (v121 : IVec S16 32) (v158 : IVec S16 32) (k0_hw23 : k0_chk23 v121 v158), ∀ a x, ((![v121, v158] : Fin 2 → IVec S16 32) a x).toNat < S4x12032.size a := fun v121 v158 k0_hw23 => k0_hw23.2.2

def k0_chk24 (v170 : IVec S16 32) : Prop :=
  (∀ a x, ((![v170] : Fin 1 → IVec S16 32) a x).toNat < S21168.size a)
theorem k0_idx41_inb : ∀ (v170 : IVec S16 32) (k0_hw24 : k0_chk24 v170), ∀ a x, ((![v170] : Fin 1 → IVec S16 32) a x).toNat < S21168.size a := fun v170 k0_hw24 => k0_hw24
@[reducible] def k0_t15_loop (v30 : BitVec 32) : Scf.Loop 32 :=
  let c0_i32_83 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v122 : BitVec 32 := Scalar.subi v51 c0_i32_83
  let c1_i32_84 : BitVec 32 := 1#32
  let v124 : BitVec 32 := Scalar.divsi v122 c1_i32_84
  let v125 : BitVec 32 := Scalar.muli v124 c1_i32_84
  let v126 : BitVec 32 := Scalar.addi c0_i32_83 v125
  let v123 : BitVec 32 := Scalar.addi c0_i32_83 v122
  let c1_i32_86 : BitVec 32 := 1#32
  ⟨v126, v123, c1_i32_86⟩
def k0_off20 (v30 : BitVec 32) (k0_t15 : Fin (k0_t15_loop v30).trips) : Fin 1 → Nat :=
  let c0_i32_83 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v122 : BitVec 32 := Scalar.subi v51 c0_i32_83
  let c1_i32_84 : BitVec 32 := 1#32
  let v124 : BitVec 32 := Scalar.divsi v122 c1_i32_84
  let v125 : BitVec 32 := Scalar.muli v124 c1_i32_84
  let v126 : BitVec 32 := Scalar.addi c0_i32_83 v125
  let c1_i32_86 : BitVec 32 := 1#32
  let arg15 : BitVec 32 := Scf.iv v126 c1_i32_86 k0_t15
  let c16_i32_110 : BitVec 32 := 16#32
  let v156 : BitVec 32 := Scalar.muli arg15 c16_i32_110
  let v157 : Index := Scalar.indexCast v156
  ![v157.toNat]

def k0_chk25 (v121 : IVec S16 32) (v158 : IVec S16 32) : Prop :=
  (∀ a x, ((![v158] : Fin 1 → IVec S16 32) a x).toNat < S12032.size a) ∧
  (∀ a x, ((![v158] : Fin 1 → IVec S16 32) a x).toNat < S12032.size a) ∧
  (∀ a x, ((![v121, v158] : Fin 2 → IVec S16 32) a x).toNat < S4x12032.size a)
theorem k0_idx42_inb : ∀ (v121 : IVec S16 32) (v158 : IVec S16 32) (k0_hw25 : k0_chk25 v121 v158), ∀ a x, ((![v158] : Fin 1 → IVec S16 32) a x).toNat < S12032.size a := fun v121 v158 k0_hw25 => k0_hw25.1
theorem k0_idx43_inb : ∀ (v121 : IVec S16 32) (v158 : IVec S16 32) (k0_hw25 : k0_chk25 v121 v158), ∀ a x, ((![v158] : Fin 1 → IVec S16 32) a x).toNat < S12032.size a := fun v121 v158 k0_hw25 => k0_hw25.2.1
theorem k0_idx44_inb : ∀ (v121 : IVec S16 32) (v158 : IVec S16 32) (k0_hw25 : k0_chk25 v121 v158), ∀ a x, ((![v121, v158] : Fin 2 → IVec S16 32) a x).toNat < S4x12032.size a := fun v121 v158 k0_hw25 => k0_hw25.2.2

def k0_chk26 (v170 : IVec S16 32) : Prop :=
  (∀ a x, ((![v170] : Fin 1 → IVec S16 32) a x).toNat < S21168.size a)
theorem k0_idx45_inb : ∀ (v170 : IVec S16 32) (k0_hw26 : k0_chk26 v170), ∀ a x, ((![v170] : Fin 1 → IVec S16 32) a x).toNat < S21168.size a := fun v170 k0_hw26 => k0_hw26
def k0_off21 (i : grid0.Coords) (k0_t2 : Fin k0_t2_loop.trips) : Fin 1 → Nat :=
  let arg0 : BitVec 32 := BitVec.ofNat 32 (i 0).val
  let c64_i32_89 : BitVec 32 := 64#32
  let v129 : BitVec 32 := Scalar.muli arg0 c64_i32_89
  let arg1 : BitVec 32 := BitVec.ofNat 32 (i 1).val
  let c4_i32_87 : BitVec 32 := 4#32
  let v127 : BitVec 32 := Scalar.muli arg1 c4_i32_87
  let c3_i32_88 : BitVec 32 := 3#32
  let v128 : BitVec 32 := Scalar.addi v127 c3_i32_88
  let v130 : BitVec 32 := Scalar.addi v129 v128
  let c496_i32_90 : BitVec 32 := 496#32
  let v131 : BitVec 32 := Scalar.muli v130 c496_i32_90
  let c0_i32_19 : BitVec 32 := 0#32
  let c1_i32_20 : BitVec 32 := 1#32
  let arg14 : BitVec 32 := Scf.iv c0_i32_19 c1_i32_20 k0_t2
  let c48_i32 : BitVec 32 := 48#32
  let v26 : BitVec 32 := Scalar.muli arg14 c48_i32
  let c448_i32 : BitVec 32 := 448#32
  let v27 : BitVec 32 := Scalar.minsi v26 c448_i32
  let v28 : BitVec 32 := v27
  let v132 : BitVec 32 := Scalar.addi v131 v28
  let c432_i32_91 : BitVec 32 := 432#32
  let v133 : BitVec 32 := Scalar.muli v132 c432_i32_91
  ![v133.toNat]
@[reducible] def k0_t16_loop (v30 : BitVec 32) : Scf.Loop 32 :=
  let c0_i32_98 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v142 : BitVec 32 := Scalar.subi v51 c0_i32_98
  let c1_i32_99 : BitVec 32 := 1#32
  let v144 : BitVec 32 := Scalar.divsi v142 c1_i32_99
  let v145 : BitVec 32 := Scalar.muli v144 c1_i32_99
  let v146 : BitVec 32 := Scalar.addi c0_i32_98 v145
  let c1_i32_100 : BitVec 32 := 1#32
  ⟨c0_i32_98, v146, c1_i32_100⟩
def k0_off22 (v30 : BitVec 32) (k0_t16 : Fin (k0_t16_loop v30).trips) : Fin 1 → Nat :=
  let c0_i32_98 : BitVec 32 := 0#32
  let c1_i32_100 : BitVec 32 := 1#32
  let arg15 : BitVec 32 := Scf.iv c0_i32_98 c1_i32_100 k0_t16
  let c16_i32_110 : BitVec 32 := 16#32
  let v156 : BitVec 32 := Scalar.muli arg15 c16_i32_110
  let v157 : Index := Scalar.indexCast v156
  ![v157.toNat]

def k0_chk27 (v158 : IVec S16 32) : Prop :=
  (∀ a x, ((![v158] : Fin 1 → IVec S16 32) a x).toNat < S12032.size a) ∧
  (∀ a x, ((![v158] : Fin 1 → IVec S16 32) a x).toNat < S12032.size a)
theorem k0_idx46_inb : ∀ (v158 : IVec S16 32) (k0_hw27 : k0_chk27 v158), ∀ a x, ((![v158] : Fin 1 → IVec S16 32) a x).toNat < S12032.size a := fun v158 k0_hw27 => k0_hw27.1
theorem k0_idx47_inb : ∀ (v158 : IVec S16 32) (k0_hw27 : k0_chk27 v158), ∀ a x, ((![v158] : Fin 1 → IVec S16 32) a x).toNat < S12032.size a := fun v158 k0_hw27 => k0_hw27.2

def k0_chk28 (v170 : IVec S16 32) : Prop :=
  (∀ a x, ((![v170] : Fin 1 → IVec S16 32) a x).toNat < S21168.size a)
theorem k0_idx48_inb : ∀ (v170 : IVec S16 32) (k0_hw28 : k0_chk28 v170), ∀ a x, ((![v170] : Fin 1 → IVec S16 32) a x).toNat < S21168.size a := fun v170 k0_hw28 => k0_hw28
@[reducible] def k0_t17_loop (v30 : BitVec 32) : Scf.Loop 32 :=
  let c0_i32_98 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v142 : BitVec 32 := Scalar.subi v51 c0_i32_98
  let c1_i32_99 : BitVec 32 := 1#32
  let v144 : BitVec 32 := Scalar.divsi v142 c1_i32_99
  let v145 : BitVec 32 := Scalar.muli v144 c1_i32_99
  let v146 : BitVec 32 := Scalar.addi c0_i32_98 v145
  let v143 : BitVec 32 := Scalar.addi c0_i32_98 v142
  let c1_i32_101 : BitVec 32 := 1#32
  ⟨v146, v143, c1_i32_101⟩
def k0_off23 (v30 : BitVec 32) (k0_t17 : Fin (k0_t17_loop v30).trips) : Fin 1 → Nat :=
  let c0_i32_98 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v142 : BitVec 32 := Scalar.subi v51 c0_i32_98
  let c1_i32_99 : BitVec 32 := 1#32
  let v144 : BitVec 32 := Scalar.divsi v142 c1_i32_99
  let v145 : BitVec 32 := Scalar.muli v144 c1_i32_99
  let v146 : BitVec 32 := Scalar.addi c0_i32_98 v145
  let c1_i32_101 : BitVec 32 := 1#32
  let arg15 : BitVec 32 := Scf.iv v146 c1_i32_101 k0_t17
  let c16_i32_110 : BitVec 32 := 16#32
  let v156 : BitVec 32 := Scalar.muli arg15 c16_i32_110
  let v157 : Index := Scalar.indexCast v156
  ![v157.toNat]

def k0_chk29 (v158 : IVec S16 32) : Prop :=
  (∀ a x, ((![v158] : Fin 1 → IVec S16 32) a x).toNat < S12032.size a) ∧
  (∀ a x, ((![v158] : Fin 1 → IVec S16 32) a x).toNat < S12032.size a)
theorem k0_idx49_inb : ∀ (v158 : IVec S16 32) (k0_hw29 : k0_chk29 v158), ∀ a x, ((![v158] : Fin 1 → IVec S16 32) a x).toNat < S12032.size a := fun v158 k0_hw29 => k0_hw29.1
theorem k0_idx50_inb : ∀ (v158 : IVec S16 32) (k0_hw29 : k0_chk29 v158), ∀ a x, ((![v158] : Fin 1 → IVec S16 32) a x).toNat < S12032.size a := fun v158 k0_hw29 => k0_hw29.2

def k0_chk30 (v170 : IVec S16 32) : Prop :=
  (∀ a x, ((![v170] : Fin 1 → IVec S16 32) a x).toNat < S21168.size a)
theorem k0_idx51_inb : ∀ (v170 : IVec S16 32) (k0_hw30 : k0_chk30 v170), ∀ a x, ((![v170] : Fin 1 → IVec S16 32) a x).toNat < S21168.size a := fun v170 k0_hw30 => k0_hw30
@[reducible] def k0_t18_loop (v30 : BitVec 32) : Scf.Loop 32 :=
  let c0_i32_106 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v151 : BitVec 32 := Scalar.subi v51 c0_i32_106
  let c1_i32_107 : BitVec 32 := 1#32
  let v153 : BitVec 32 := Scalar.divsi v151 c1_i32_107
  let v154 : BitVec 32 := Scalar.muli v153 c1_i32_107
  let v155 : BitVec 32 := Scalar.addi c0_i32_106 v154
  let c1_i32_108 : BitVec 32 := 1#32
  ⟨c0_i32_106, v155, c1_i32_108⟩
def k0_off24 (v30 : BitVec 32) (k0_t18 : Fin (k0_t18_loop v30).trips) : Fin 1 → Nat :=
  let c0_i32_106 : BitVec 32 := 0#32
  let c1_i32_108 : BitVec 32 := 1#32
  let arg15 : BitVec 32 := Scf.iv c0_i32_106 c1_i32_108 k0_t18
  let c16_i32_110 : BitVec 32 := 16#32
  let v156 : BitVec 32 := Scalar.muli arg15 c16_i32_110
  let v157 : Index := Scalar.indexCast v156
  ![v157.toNat]

def k0_chk31 (v158 : IVec S16 32) : Prop :=
  (∀ a x, ((![v158] : Fin 1 → IVec S16 32) a x).toNat < S12032.size a) ∧
  (∀ a x, ((![v158] : Fin 1 → IVec S16 32) a x).toNat < S12032.size a)
theorem k0_idx52_inb : ∀ (v158 : IVec S16 32) (k0_hw31 : k0_chk31 v158), ∀ a x, ((![v158] : Fin 1 → IVec S16 32) a x).toNat < S12032.size a := fun v158 k0_hw31 => k0_hw31.1
theorem k0_idx53_inb : ∀ (v158 : IVec S16 32) (k0_hw31 : k0_chk31 v158), ∀ a x, ((![v158] : Fin 1 → IVec S16 32) a x).toNat < S12032.size a := fun v158 k0_hw31 => k0_hw31.2

def k0_chk32 (v170 : IVec S16 32) : Prop :=
  (∀ a x, ((![v170] : Fin 1 → IVec S16 32) a x).toNat < S21168.size a)
theorem k0_idx54_inb : ∀ (v170 : IVec S16 32) (k0_hw32 : k0_chk32 v170), ∀ a x, ((![v170] : Fin 1 → IVec S16 32) a x).toNat < S21168.size a := fun v170 k0_hw32 => k0_hw32
@[reducible] def k0_t19_loop (v30 : BitVec 32) : Scf.Loop 32 :=
  let c0_i32_106 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v151 : BitVec 32 := Scalar.subi v51 c0_i32_106
  let c1_i32_107 : BitVec 32 := 1#32
  let v153 : BitVec 32 := Scalar.divsi v151 c1_i32_107
  let v154 : BitVec 32 := Scalar.muli v153 c1_i32_107
  let v155 : BitVec 32 := Scalar.addi c0_i32_106 v154
  let v152 : BitVec 32 := Scalar.addi c0_i32_106 v151
  let c1_i32_109 : BitVec 32 := 1#32
  ⟨v155, v152, c1_i32_109⟩
def k0_off25 (v30 : BitVec 32) (k0_t19 : Fin (k0_t19_loop v30).trips) : Fin 1 → Nat :=
  let c0_i32_106 : BitVec 32 := 0#32
  let c15_i32 : BitVec 32 := 15#32
  let v34 : BitVec 32 := Scalar.addi v30 c15_i32
  let c0_i32_27 : BitVec 32 := 0#32
  let v36 : BitVec 1 := Scalar.cmpi .sgt v34 c0_i32_27
  let v37 : BitVec 32 := Scalar.extui v36
  let c0_i32_28 : BitVec 32 := 0#32
  let v38 : BitVec 1 := Scalar.cmpi .slt v34 c0_i32_28
  let v39 : BitVec 32 := Scalar.extui v38
  let v40 : BitVec 32 := Scalar.subi v37 v39
  let c16_i32 : BitVec 32 := 16#32
  let c0_i32_29 : BitVec 32 := 0#32
  let v41 : BitVec 1 := Scalar.cmpi .sgt c16_i32 c0_i32_29
  let v42 : BitVec 32 := Scalar.extui v41
  let c0_i32_30 : BitVec 32 := 0#32
  let v43 : BitVec 1 := Scalar.cmpi .slt c16_i32 c0_i32_30
  let v44 : BitVec 32 := Scalar.extui v43
  let v45 : BitVec 32 := Scalar.subi v42 v44
  let v46 : BitVec 1 := Scalar.cmpi .ne v40 v45
  let v47 : BitVec 32 := Scalar.remsi v34 c16_i32
  let c0_i32_31 : BitVec 32 := 0#32
  let v48 : BitVec 1 := Scalar.cmpi .ne v47 c0_i32_31
  let v49 : BitVec 1 := Scalar.andi v46 v48
  let v35 : BitVec 32 := Scalar.divsi v34 c16_i32
  let c1_i32_32 : BitVec 32 := 1#32
  let v50 : BitVec 32 := Scalar.subi v35 c1_i32_32
  let v51 : BitVec 32 := Scalar.select v49 v50 v35
  let v151 : BitVec 32 := Scalar.subi v51 c0_i32_106
  let c1_i32_107 : BitVec 32 := 1#32
  let v153 : BitVec 32 := Scalar.divsi v151 c1_i32_107
  let v154 : BitVec 32 := Scalar.muli v153 c1_i32_107
  let v155 : BitVec 32 := Scalar.addi c0_i32_106 v154
  let c1_i32_109 : BitVec 32 := 1#32
  let arg15 : BitVec 32 := Scf.iv v155 c1_i32_109 k0_t19
  let c16_i32_110 : BitVec 32 := 16#32
  let v156 : BitVec 32 := Scalar.muli arg15 c16_i32_110
  let v157 : Index := Scalar.indexCast v156
  ![v157.toNat]

def k0_chk2_0 (v30 : BitVec 32) : Prop :=
  (∀ a, (k0_off5 v30) a + S16.size a ≤ S12032.size a) ∧
  ((k0_t4_loop v30).OK) ∧
  (∀ k0_t4 : Fin (k0_t4_loop v30).trips, ∀ a, (k0_off6 v30 k0_t4) a + S16.size a ≤ S12032.size a) ∧
  ((k0_t5_loop v30).OK) ∧
  (∀ k0_t5 : Fin (k0_t5_loop v30).trips, ∀ a, (k0_off7 v30 k0_t5) a + S16.size a ≤ S12032.size a) ∧
  ((k0_t6_loop v30).OK) ∧
  (∀ k0_t6 : Fin (k0_t6_loop v30).trips, ∀ a, (k0_off9 v30 k0_t6) a + S16.size a ≤ S12032.size a) ∧
  ((k0_t7_loop v30).OK) ∧
  (∀ k0_t7 : Fin (k0_t7_loop v30).trips, ∀ a, (k0_off10 v30 k0_t7) a + S16.size a ≤ S12032.size a) ∧
  ((k0_t8_loop v30).OK) ∧
  (∀ k0_t8 : Fin (k0_t8_loop v30).trips, ∀ a, (k0_off12 v30 k0_t8) a + S16.size a ≤ S12032.size a) ∧
  ((k0_t9_loop v30).OK) ∧
  (∀ k0_t9 : Fin (k0_t9_loop v30).trips, ∀ a, (k0_off13 v30 k0_t9) a + S16.size a ≤ S12032.size a) ∧
  ((k0_t10_loop v30).OK) ∧
  (∀ k0_t10 : Fin (k0_t10_loop v30).trips, ∀ a, (k0_off14 v30 k0_t10) a + S16.size a ≤ S12032.size a) ∧
  ((k0_t11_loop v30).OK) ∧
  (∀ k0_t11 : Fin (k0_t11_loop v30).trips, ∀ a, (k0_off15 v30 k0_t11) a + S16.size a ≤ S12032.size a) ∧
  ((k0_t12_loop v30).OK) ∧
  (∀ k0_t12 : Fin (k0_t12_loop v30).trips, ∀ a, (k0_off17 v30 k0_t12) a + S16.size a ≤ S12032.size a) ∧
  ((k0_t13_loop v30).OK) ∧
  (∀ k0_t13 : Fin (k0_t13_loop v30).trips, ∀ a, (k0_off18 v30 k0_t13) a + S16.size a ≤ S12032.size a) ∧
  ((k0_t14_loop v30).OK) ∧
  (∀ k0_t14 : Fin (k0_t14_loop v30).trips, ∀ a, (k0_off19 v30 k0_t14) a + S16.size a ≤ S12032.size a) ∧
  ((k0_t15_loop v30).OK) ∧
  (∀ k0_t15 : Fin (k0_t15_loop v30).trips, ∀ a, (k0_off20 v30 k0_t15) a + S16.size a ≤ S12032.size a) ∧
  ((k0_t16_loop v30).OK) ∧
  (∀ k0_t16 : Fin (k0_t16_loop v30).trips, ∀ a, (k0_off22 v30 k0_t16) a + S16.size a ≤ S12032.size a) ∧
  ((k0_t17_loop v30).OK) ∧
  (∀ k0_t17 : Fin (k0_t17_loop v30).trips, ∀ a, (k0_off23 v30 k0_t17) a + S16.size a ≤ S12032.size a) ∧
  ((k0_t18_loop v30).OK) ∧
  (∀ k0_t18 : Fin (k0_t18_loop v30).trips, ∀ a, (k0_off24 v30 k0_t18) a + S16.size a ≤ S12032.size a) ∧
  ((k0_t19_loop v30).OK)
def k0_chk2_1 (v30 : BitVec 32) : Prop :=
  (∀ k0_t19 : Fin (k0_t19_loop v30).trips, ∀ a, (k0_off25 v30 k0_t19) a + S16.size a ≤ S12032.size a)
def k0_chk2 (v30 : BitVec 32) : Prop :=
  k0_chk2_0 v30 ∧
  k0_chk2_1 v30
theorem k0_off5_inb : ∀ (v30 : BitVec 32) (k0_hw2 : k0_chk2 v30), ∀ a, (k0_off5 v30) a + S16.size a ≤ S12032.size a := fun v30 k0_hw2 => k0_hw2.1.1
theorem k0_t4_ok : ∀ (v30 : BitVec 32) (k0_hw2 : k0_chk2 v30), (k0_t4_loop v30).OK := fun v30 k0_hw2 => k0_hw2.1.2.1
theorem k0_off6_inb : ∀ (v30 : BitVec 32) (k0_hw2 : k0_chk2 v30) (k0_t4 : Fin (k0_t4_loop v30).trips), ∀ a, (k0_off6 v30 k0_t4) a + S16.size a ≤ S12032.size a := fun v30 k0_hw2 k0_t4 => k0_hw2.1.2.2.1 k0_t4
theorem k0_t5_ok : ∀ (v30 : BitVec 32) (k0_hw2 : k0_chk2 v30), (k0_t5_loop v30).OK := fun v30 k0_hw2 => k0_hw2.1.2.2.2.1
theorem k0_off7_inb : ∀ (v30 : BitVec 32) (k0_hw2 : k0_chk2 v30) (k0_t5 : Fin (k0_t5_loop v30).trips), ∀ a, (k0_off7 v30 k0_t5) a + S16.size a ≤ S12032.size a := fun v30 k0_hw2 k0_t5 => k0_hw2.1.2.2.2.2.1 k0_t5
theorem k0_t6_ok : ∀ (v30 : BitVec 32) (k0_hw2 : k0_chk2 v30), (k0_t6_loop v30).OK := fun v30 k0_hw2 => k0_hw2.1.2.2.2.2.2.1
theorem k0_off9_inb : ∀ (v30 : BitVec 32) (k0_hw2 : k0_chk2 v30) (k0_t6 : Fin (k0_t6_loop v30).trips), ∀ a, (k0_off9 v30 k0_t6) a + S16.size a ≤ S12032.size a := fun v30 k0_hw2 k0_t6 => k0_hw2.1.2.2.2.2.2.2.1 k0_t6
theorem k0_t7_ok : ∀ (v30 : BitVec 32) (k0_hw2 : k0_chk2 v30), (k0_t7_loop v30).OK := fun v30 k0_hw2 => k0_hw2.1.2.2.2.2.2.2.2.1
theorem k0_off10_inb : ∀ (v30 : BitVec 32) (k0_hw2 : k0_chk2 v30) (k0_t7 : Fin (k0_t7_loop v30).trips), ∀ a, (k0_off10 v30 k0_t7) a + S16.size a ≤ S12032.size a := fun v30 k0_hw2 k0_t7 => k0_hw2.1.2.2.2.2.2.2.2.2.1 k0_t7
theorem k0_t8_ok : ∀ (v30 : BitVec 32) (k0_hw2 : k0_chk2 v30), (k0_t8_loop v30).OK := fun v30 k0_hw2 => k0_hw2.1.2.2.2.2.2.2.2.2.2.1
theorem k0_off12_inb : ∀ (v30 : BitVec 32) (k0_hw2 : k0_chk2 v30) (k0_t8 : Fin (k0_t8_loop v30).trips), ∀ a, (k0_off12 v30 k0_t8) a + S16.size a ≤ S12032.size a := fun v30 k0_hw2 k0_t8 => k0_hw2.1.2.2.2.2.2.2.2.2.2.2.1 k0_t8
theorem k0_t9_ok : ∀ (v30 : BitVec 32) (k0_hw2 : k0_chk2 v30), (k0_t9_loop v30).OK := fun v30 k0_hw2 => k0_hw2.1.2.2.2.2.2.2.2.2.2.2.2.1
theorem k0_off13_inb : ∀ (v30 : BitVec 32) (k0_hw2 : k0_chk2 v30) (k0_t9 : Fin (k0_t9_loop v30).trips), ∀ a, (k0_off13 v30 k0_t9) a + S16.size a ≤ S12032.size a := fun v30 k0_hw2 k0_t9 => k0_hw2.1.2.2.2.2.2.2.2.2.2.2.2.2.1 k0_t9
theorem k0_t10_ok : ∀ (v30 : BitVec 32) (k0_hw2 : k0_chk2 v30), (k0_t10_loop v30).OK := fun v30 k0_hw2 => k0_hw2.1.2.2.2.2.2.2.2.2.2.2.2.2.2.1
theorem k0_off14_inb : ∀ (v30 : BitVec 32) (k0_hw2 : k0_chk2 v30) (k0_t10 : Fin (k0_t10_loop v30).trips), ∀ a, (k0_off14 v30 k0_t10) a + S16.size a ≤ S12032.size a := fun v30 k0_hw2 k0_t10 => k0_hw2.1.2.2.2.2.2.2.2.2.2.2.2.2.2.2.1 k0_t10
theorem k0_t11_ok : ∀ (v30 : BitVec 32) (k0_hw2 : k0_chk2 v30), (k0_t11_loop v30).OK := fun v30 k0_hw2 => k0_hw2.1.2.2.2.2.2.2.2.2.2.2.2.2.2.2.2.1
theorem k0_off15_inb : ∀ (v30 : BitVec 32) (k0_hw2 : k0_chk2 v30) (k0_t11 : Fin (k0_t11_loop v30).trips), ∀ a, (k0_off15 v30 k0_t11) a + S16.size a ≤ S12032.size a := fun v30 k0_hw2 k0_t11 => k0_hw2.1.2.2.2.2.2.2.2.2.2.2.2.2.2.2.2.2.1 k0_t11
theorem k0_t12_ok : ∀ (v30 : BitVec 32) (k0_hw2 : k0_chk2 v30), (k0_t12_loop v30).OK := fun v30 k0_hw2 => k0_hw2.1.2.2.2.2.2.2.2.2.2.2.2.2.2.2.2.2.2.1
theorem k0_off17_inb : ∀ (v30 : BitVec 32) (k0_hw2 : k0_chk2 v30) (k0_t12 : Fin (k0_t12_loop v30).trips), ∀ a, (k0_off17 v30 k0_t12) a + S16.size a ≤ S12032.size a := fun v30 k0_hw2 k0_t12 => k0_hw2.1.2.2.2.2.2.2.2.2.2.2.2.2.2.2.2.2.2.2.1 k0_t12
theorem k0_t13_ok : ∀ (v30 : BitVec 32) (k0_hw2 : k0_chk2 v30), (k0_t13_loop v30).OK := fun v30 k0_hw2 => k0_hw2.1.2.2.2.2.2.2.2.2.2.2.2.2.2.2.2.2.2.2.2.1
theorem k0_off18_inb : ∀ (v30 : BitVec 32) (k0_hw2 : k0_chk2 v30) (k0_t13 : Fin (k0_t13_loop v30).trips), ∀ a, (k0_off18 v30 k0_t13) a + S16.size a ≤ S12032.size a := fun v30 k0_hw2 k0_t13 => k0_hw2.1.2.2.2.2.2.2.2.2.2.2.2.2.2.2.2.2.2.2.2.2.1 k0_t13
theorem k0_t14_ok : ∀ (v30 : BitVec 32) (k0_hw2 : k0_chk2 v30), (k0_t14_loop v30).OK := fun v30 k0_hw2 => k0_hw2.1.2.2.2.2.2.2.2.2.2.2.2.2.2.2.2.2.2.2.2.2.2.1
theorem k0_off19_inb : ∀ (v30 : BitVec 32) (k0_hw2 : k0_chk2 v30) (k0_t14 : Fin (k0_t14_loop v30).trips), ∀ a, (k0_off19 v30 k0_t14) a + S16.size a ≤ S12032.size a := fun v30 k0_hw2 k0_t14 => k0_hw2.1.2.2.2.2.2.2.2.2.2.2.2.2.2.2.2.2.2.2.2.2.2.2.1 k0_t14
theorem k0_t15_ok : ∀ (v30 : BitVec 32) (k0_hw2 : k0_chk2 v30), (k0_t15_loop v30).OK := fun v30 k0_hw2 => k0_hw2.1.2.2.2.2.2.2.2.2.2.2.2.2.2.2.2.2.2.2.2.2.2.2.2.1
theorem k0_off20_inb : ∀ (v30 : BitVec 32) (k0_hw2 : k0_chk2 v30) (k0_t15 : Fin (k0_t15_loop v30).trips), ∀ a, (k0_off20 v30 k0_t15) a + S16.size a ≤ S12032.size a := fun v30 k0_hw2 k0_t15 => k0_hw2.1.2.2.2.2.2.2.2.2.2.2.2.2.2.2.2.2.2.2.2.2.2.2.2.2.1 k0_t15
theorem k0_t16_ok : ∀ (v30 : BitVec 32) (k0_hw2 : k0_chk2 v30), (k0_t16_loop v30).OK := fun v30 k0_hw2 => k0_hw2.1.2.2.2.2.2.2.2.2.2.2.2.2.2.2.2.2.2.2.2.2.2.2.2.2.2.1
theorem k0_off22_inb : ∀ (v30 : BitVec 32) (k0_hw2 : k0_chk2 v30) (k0_t16 : Fin (k0_t16_loop v30).trips), ∀ a, (k0_off22 v30 k0_t16) a + S16.size a ≤ S12032.size a := fun v30 k0_hw2 k0_t16 => k0_hw2.1.2.2.2.2.2.2.2.2.2.2.2.2.2.2.2.2.2.2.2.2.2.2.2.2.2.2.1 k0_t16
theorem k0_t17_ok : ∀ (v30 : BitVec 32) (k0_hw2 : k0_chk2 v30), (k0_t17_loop v30).OK := fun v30 k0_hw2 => k0_hw2.1.2.2.2.2.2.2.2.2.2.2.2.2.2.2.2.2.2.2.2.2.2.2.2.2.2.2.2.1
theorem k0_off23_inb : ∀ (v30 : BitVec 32) (k0_hw2 : k0_chk2 v30) (k0_t17 : Fin (k0_t17_loop v30).trips), ∀ a, (k0_off23 v30 k0_t17) a + S16.size a ≤ S12032.size a := fun v30 k0_hw2 k0_t17 => k0_hw2.1.2.2.2.2.2.2.2.2.2.2.2.2.2.2.2.2.2.2.2.2.2.2.2.2.2.2.2.2.1 k0_t17
theorem k0_t18_ok : ∀ (v30 : BitVec 32) (k0_hw2 : k0_chk2 v30), (k0_t18_loop v30).OK := fun v30 k0_hw2 => k0_hw2.1.2.2.2.2.2.2.2.2.2.2.2.2.2.2.2.2.2.2.2.2.2.2.2.2.2.2.2.2.2.1
theorem k0_off24_inb : ∀ (v30 : BitVec 32) (k0_hw2 : k0_chk2 v30) (k0_t18 : Fin (k0_t18_loop v30).trips), ∀ a, (k0_off24 v30 k0_t18) a + S16.size a ≤ S12032.size a := fun v30 k0_hw2 k0_t18 => k0_hw2.1.2.2.2.2.2.2.2.2.2.2.2.2.2.2.2.2.2.2.2.2.2.2.2.2.2.2.2.2.2.2.1 k0_t18
theorem k0_t19_ok : ∀ (v30 : BitVec 32) (k0_hw2 : k0_chk2 v30), (k0_t19_loop v30).OK := fun v30 k0_hw2 => k0_hw2.1.2.2.2.2.2.2.2.2.2.2.2.2.2.2.2.2.2.2.2.2.2.2.2.2.2.2.2.2.2.2.2
theorem k0_off25_inb : ∀ (v30 : BitVec 32) (k0_hw2 : k0_chk2 v30) (k0_t19 : Fin (k0_t19_loop v30).trips), ∀ a, (k0_off25 v30 k0_t19) a + S16.size a ≤ S12032.size a := fun v30 k0_hw2 k0_t19 => k0_hw2.2 k0_t19

def k0_chk33 (v158 : IVec S16 32) : Prop :=
  (∀ a x, ((![v158] : Fin 1 → IVec S16 32) a x).toNat < S12032.size a) ∧
  (∀ a x, ((![v158] : Fin 1 → IVec S16 32) a x).toNat < S12032.size a)
theorem k0_idx55_inb : ∀ (v158 : IVec S16 32) (k0_hw33 : k0_chk33 v158), ∀ a x, ((![v158] : Fin 1 → IVec S16 32) a x).toNat < S12032.size a := fun v158 k0_hw33 => k0_hw33.1
theorem k0_idx56_inb : ∀ (v158 : IVec S16 32) (k0_hw33 : k0_chk33 v158), ∀ a x, ((![v158] : Fin 1 → IVec S16 32) a x).toNat < S12032.size a := fun v158 k0_hw33 => k0_hw33.2

def k0_chk34 (v170 : IVec S16 32) : Prop :=
  (∀ a x, ((![v170] : Fin 1 → IVec S16 32) a x).toNat < S21168.size a)
theorem k0_idx57_inb : ∀ (v170 : IVec S16 32) (k0_hw34 : k0_chk34 v170), ∀ a x, ((![v170] : Fin 1 → IVec S16 32) a x).toNat < S21168.size a := fun v170 k0_hw34 => k0_hw34
abbrev grid1 : Pipeline.Grid := ⟨2, ![2, 16], ![false, false]⟩

def k1_mult1 : BitVec 32 :=
  let c0_i32 : BitVec 32 := 0#32
  let c448_i32 : BitVec 32 := 448#32
  let v0 : BitVec 32 := Scalar.minsi c0_i32 c448_i32
  v0
def k1_off1 (i : grid1.Coords) : Fin 1 → Nat :=
  let arg0 : BitVec 32 := BitVec.ofNat 32 (i 0).val
  let c64_i32 : BitVec 32 := 64#32
  let v4 : BitVec 32 := Scalar.muli arg0 c64_i32
  let arg1 : BitVec 32 := BitVec.ofNat 32 (i 1).val
  let c4_i32 : BitVec 32 := 4#32
  let v2 : BitVec 32 := Scalar.muli arg1 c4_i32
  let c0_i32_0 : BitVec 32 := 0#32
  let v3 : BitVec 32 := Scalar.addi v2 c0_i32_0
  let v5 : BitVec 32 := Scalar.addi v4 v3
  let c496_i32 : BitVec 32 := 496#32
  let v6 : BitVec 32 := Scalar.muli v5 c496_i32
  let c0_i32 : BitVec 32 := 0#32
  let c448_i32 : BitVec 32 := 448#32
  let v0 : BitVec 32 := Scalar.minsi c0_i32 c448_i32
  let v1 : BitVec 32 := v0
  let v7 : BitVec 32 := Scalar.addi v6 v1
  let c432_i32 : BitVec 32 := 432#32
  let v8 : BitVec 32 := Scalar.muli v7 c432_i32
  ![v8.toNat]
@[reducible] def k1_t1_loop : Scf.Loop 32 :=
  let c0_i32_4 : BitVec 32 := 0#32
  let c11_i32 : BitVec 32 := 11#32
  let v15 : BitVec 32 := Scalar.addi c0_i32_4 c11_i32
  let c1_i32 : BitVec 32 := 1#32
  ⟨c0_i32_4, v15, c1_i32⟩
def k1_mult2 (k1_t1 : Fin k1_t1_loop.trips) : BitVec 32 :=
  let c0_i32_4 : BitVec 32 := 0#32
  let c1_i32 : BitVec 32 := 1#32
  let arg11 : BitVec 32 := Scf.iv c0_i32_4 c1_i32 k1_t1
  let c48_i32 : BitVec 32 := 48#32
  let v24 : BitVec 32 := Scalar.muli arg11 c48_i32
  let c448_i32_18 : BitVec 32 := 448#32
  let v25 : BitVec 32 := Scalar.minsi v24 c448_i32_18
  v25
def k1_mult3 (k1_t1 : Fin k1_t1_loop.trips) : BitVec 32 :=
  let c0_i32_4 : BitVec 32 := 0#32
  let c1_i32 : BitVec 32 := 1#32
  let arg11 : BitVec 32 := Scf.iv c0_i32_4 c1_i32 k1_t1
  let c48_i32_21 : BitVec 32 := 48#32
  let v29 : BitVec 32 := Scalar.muli arg11 c48_i32_21
  let c448_i32_22 : BitVec 32 := 448#32
  let v30 : BitVec 32 := Scalar.minsi v29 c448_i32_22
  v30
def k1_off2 (i : grid1.Coords) (k1_t1 : Fin k1_t1_loop.trips) (c1_i32_24 : BitVec 32) : Fin 1 → Nat :=
  let arg0 : BitVec 32 := BitVec.ofNat 32 (i 0).val
  let c64_i32_25 : BitVec 32 := 64#32
  let v34 : BitVec 32 := Scalar.muli arg0 c64_i32_25
  let arg1 : BitVec 32 := BitVec.ofNat 32 (i 1).val
  let c4_i32_23 : BitVec 32 := 4#32
  let v32 : BitVec 32 := Scalar.muli arg1 c4_i32_23
  let v33 : BitVec 32 := Scalar.addi v32 c1_i32_24
  let v35 : BitVec 32 := Scalar.addi v34 v33
  let c496_i32_26 : BitVec 32 := 496#32
  let v36 : BitVec 32 := Scalar.muli v35 c496_i32_26
  let c0_i32_4 : BitVec 32 := 0#32
  let c1_i32 : BitVec 32 := 1#32
  let arg11 : BitVec 32 := Scf.iv c0_i32_4 c1_i32 k1_t1
  let c48_i32_21 : BitVec 32 := 48#32
  let v29 : BitVec 32 := Scalar.muli arg11 c48_i32_21
  let c448_i32_22 : BitVec 32 := 448#32
  let v30 : BitVec 32 := Scalar.minsi v29 c448_i32_22
  let v31 : BitVec 32 := v30
  let v37 : BitVec 32 := Scalar.addi v36 v31
  let c432_i32_27 : BitVec 32 := 432#32
  let v38 : BitVec 32 := Scalar.muli v37 c432_i32_27
  ![v38.toNat]
@[reducible] def k1_t2_loop : Scf.Loop 32 :=
  let c0_i32_39 : BitVec 32 := 0#32
  let c48_i32_40 : BitVec 32 := 48#32
  let v56 : BitVec 32 := Scalar.addi c0_i32_39 c48_i32_40
  let c1_i32_41 : BitVec 32 := 1#32
  ⟨c0_i32_39, v56, c1_i32_41⟩
def k1_off3 (k1_t2 : Fin k1_t2_loop.trips) (c0_i32_125 : BitVec 32) : Fin 2 → Nat :=
  let c0_i32_126 : BitVec 32 := 0#32
  let v162 : Index := Scalar.indexCast c0_i32_126
  let c0_i32_39 : BitVec 32 := 0#32
  let c1_i32_41 : BitVec 32 := 1#32
  let arg12 : BitVec 32 := Scf.iv c0_i32_39 c1_i32_41 k1_t2
  let c432_i32_124 : BitVec 32 := 432#32
  let v160 : BitVec 32 := Scalar.muli arg12 c432_i32_124
  let v161 : BitVec 32 := Scalar.addi v160 c0_i32_125
  let v163 : Index := Scalar.indexCast v161
  ![0, v163.toNat]
def k1_off4 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v166 : Index := Scalar.indexCast arg12
  let c0 : Index := 0#32
  ![v166.toNat, 0]
def k1_off5 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v176 : Index := Scalar.indexCast arg12
  let c16 : Index := 16#32
  ![v176.toNat, 16]
def k1_off6 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v186 : Index := Scalar.indexCast arg12
  let c32 : Index := 32#32
  ![v186.toNat, 32]
def k1_off7 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v196 : Index := Scalar.indexCast arg12
  let c48 : Index := 48#32
  ![v196.toNat, 48]
def k1_off8 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v206 : Index := Scalar.indexCast arg12
  let c64 : Index := 64#32
  ![v206.toNat, 64]
def k1_off9 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v216 : Index := Scalar.indexCast arg12
  let c80 : Index := 80#32
  ![v216.toNat, 80]
def k1_off10 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v226 : Index := Scalar.indexCast arg12
  let c96 : Index := 96#32
  ![v226.toNat, 96]
def k1_off11 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v236 : Index := Scalar.indexCast arg12
  let c112 : Index := 112#32
  ![v236.toNat, 112]
def k1_off12 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v246 : Index := Scalar.indexCast arg12
  let c128 : Index := 128#32
  ![v246.toNat, 128]
def k1_off13 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v256 : Index := Scalar.indexCast arg12
  let c144 : Index := 144#32
  ![v256.toNat, 144]
def k1_off14 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v266 : Index := Scalar.indexCast arg12
  let c160 : Index := 160#32
  ![v266.toNat, 160]
def k1_off15 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v276 : Index := Scalar.indexCast arg12
  let c176 : Index := 176#32
  ![v276.toNat, 176]
def k1_off16 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v286 : Index := Scalar.indexCast arg12
  let c192 : Index := 192#32
  ![v286.toNat, 192]
def k1_off17 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v296 : Index := Scalar.indexCast arg12
  let c208 : Index := 208#32
  ![v296.toNat, 208]
def k1_off18 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v306 : Index := Scalar.indexCast arg12
  let c224 : Index := 224#32
  ![v306.toNat, 224]
def k1_off19 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v316 : Index := Scalar.indexCast arg12
  let c240 : Index := 240#32
  ![v316.toNat, 240]
def k1_off20 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v326 : Index := Scalar.indexCast arg12
  let c256 : Index := 256#32
  ![v326.toNat, 256]
def k1_off21 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v336 : Index := Scalar.indexCast arg12
  let c272 : Index := 272#32
  ![v336.toNat, 272]
def k1_off22 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v346 : Index := Scalar.indexCast arg12
  let c288 : Index := 288#32
  ![v346.toNat, 288]
def k1_off23 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v356 : Index := Scalar.indexCast arg12
  let c304 : Index := 304#32
  ![v356.toNat, 304]
def k1_off24 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v366 : Index := Scalar.indexCast arg12
  let c320 : Index := 320#32
  ![v366.toNat, 320]
def k1_off25 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v376 : Index := Scalar.indexCast arg12
  let c336 : Index := 336#32
  ![v376.toNat, 336]
def k1_off26 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v386 : Index := Scalar.indexCast arg12
  let c352 : Index := 352#32
  ![v386.toNat, 352]
def k1_off27 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v396 : Index := Scalar.indexCast arg12
  let c368 : Index := 368#32
  ![v396.toNat, 368]
def k1_off28 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v406 : Index := Scalar.indexCast arg12
  let c384 : Index := 384#32
  ![v406.toNat, 384]
def k1_off29 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v416 : Index := Scalar.indexCast arg12
  let c400 : Index := 400#32
  ![v416.toNat, 400]
def k1_off30 (k1_t2 : Fin k1_t2_loop.trips) : Fin 2 → Nat :=
  let c0_i32_39 : BitVec 32 := 0#32
  let c1_i32_41 : BitVec 32 := 1#32
  let arg12 : BitVec 32 := Scf.iv c0_i32_39 c1_i32_41 k1_t2
  let v426 : Index := Scalar.indexCast arg12
  let c416 : Index := 416#32
  ![v426.toNat, 416]
def k1_off31 (i : grid1.Coords) (k1_t1 : Fin k1_t1_loop.trips) (c0_i32_20 : BitVec 32) : Fin 4 → Nat :=
  let arg0 : BitVec 32 := BitVec.ofNat 32 (i 0).val
  let arg1 : BitVec 32 := BitVec.ofNat 32 (i 1).val
  let c4_i32_19 : BitVec 32 := 4#32
  let v27 : BitVec 32 := Scalar.muli arg1 c4_i32_19
  let v28 : BitVec 32 := Scalar.addi v27 c0_i32_20
  let c0_i32_4 : BitVec 32 := 0#32
  let c1_i32 : BitVec 32 := 1#32
  let arg11 : BitVec 32 := Scf.iv c0_i32_4 c1_i32 k1_t1
  let c48_i32 : BitVec 32 := 48#32
  let v24 : BitVec 32 := Scalar.muli arg11 c48_i32
  let c448_i32_18 : BitVec 32 := 448#32
  let v25 : BitVec 32 := Scalar.minsi v24 c448_i32_18
  let v26 : BitVec 32 := v25
  let c0_i32_43 : BitVec 32 := 0#32
  ![arg0.toNat, v28.toNat, v26.toNat, 0]
def k1_mult4 (k1_t1 : Fin k1_t1_loop.trips) : BitVec 32 :=
  let c0_i32_4 : BitVec 32 := 0#32
  let c1_i32 : BitVec 32 := 1#32
  let arg11 : BitVec 32 := Scf.iv c0_i32_4 c1_i32 k1_t1
  let c48_i32_45 : BitVec 32 := 48#32
  let v61 : BitVec 32 := Scalar.muli arg11 c48_i32_45
  let c448_i32_46 : BitVec 32 := 448#32
  let v62 : BitVec 32 := Scalar.minsi v61 c448_i32_46
  v62
def k1_mult5 (k1_t1 : Fin k1_t1_loop.trips) : BitVec 32 :=
  let c0_i32_4 : BitVec 32 := 0#32
  let c1_i32 : BitVec 32 := 1#32
  let arg11 : BitVec 32 := Scf.iv c0_i32_4 c1_i32 k1_t1
  let c48_i32_49 : BitVec 32 := 48#32
  let v66 : BitVec 32 := Scalar.muli arg11 c48_i32_49
  let c448_i32_50 : BitVec 32 := 448#32
  let v67 : BitVec 32 := Scalar.minsi v66 c448_i32_50
  v67
@[reducible] def k1_t3_loop : Scf.Loop 32 :=
  let c0_i32_68 : BitVec 32 := 0#32
  let c48_i32_69 : BitVec 32 := 48#32
  let v93 : BitVec 32 := Scalar.addi c0_i32_68 c48_i32_69
  let c1_i32_70 : BitVec 32 := 1#32
  ⟨c0_i32_68, v93, c1_i32_70⟩
def k1_off32 (k1_t3 : Fin k1_t3_loop.trips) (c0_i32_125 : BitVec 32) : Fin 2 → Nat :=
  let c1_i32_126 : BitVec 32 := 1#32
  let v162 : Index := Scalar.indexCast c1_i32_126
  let c0_i32_68 : BitVec 32 := 0#32
  let c1_i32_70 : BitVec 32 := 1#32
  let arg12 : BitVec 32 := Scf.iv c0_i32_68 c1_i32_70 k1_t3
  let c432_i32_124 : BitVec 32 := 432#32
  let v160 : BitVec 32 := Scalar.muli arg12 c432_i32_124
  let v161 : BitVec 32 := Scalar.addi v160 c0_i32_125
  let v163 : Index := Scalar.indexCast v161
  ![1, v163.toNat]
def k1_off33 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v166 : Index := Scalar.indexCast arg12
  let c0 : Index := 0#32
  ![v166.toNat, 0]
def k1_off34 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v176 : Index := Scalar.indexCast arg12
  let c16 : Index := 16#32
  ![v176.toNat, 16]
def k1_off35 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v186 : Index := Scalar.indexCast arg12
  let c32 : Index := 32#32
  ![v186.toNat, 32]
def k1_off36 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v196 : Index := Scalar.indexCast arg12
  let c48 : Index := 48#32
  ![v196.toNat, 48]
def k1_off37 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v206 : Index := Scalar.indexCast arg12
  let c64 : Index := 64#32
  ![v206.toNat, 64]
def k1_off38 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v216 : Index := Scalar.indexCast arg12
  let c80 : Index := 80#32
  ![v216.toNat, 80]
def k1_off39 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v226 : Index := Scalar.indexCast arg12
  let c96 : Index := 96#32
  ![v226.toNat, 96]
def k1_off40 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v236 : Index := Scalar.indexCast arg12
  let c112 : Index := 112#32
  ![v236.toNat, 112]
def k1_off41 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v246 : Index := Scalar.indexCast arg12
  let c128 : Index := 128#32
  ![v246.toNat, 128]
def k1_off42 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v256 : Index := Scalar.indexCast arg12
  let c144 : Index := 144#32
  ![v256.toNat, 144]
def k1_off43 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v266 : Index := Scalar.indexCast arg12
  let c160 : Index := 160#32
  ![v266.toNat, 160]
def k1_off44 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v276 : Index := Scalar.indexCast arg12
  let c176 : Index := 176#32
  ![v276.toNat, 176]
def k1_off45 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v286 : Index := Scalar.indexCast arg12
  let c192 : Index := 192#32
  ![v286.toNat, 192]
def k1_off46 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v296 : Index := Scalar.indexCast arg12
  let c208 : Index := 208#32
  ![v296.toNat, 208]
def k1_off47 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v306 : Index := Scalar.indexCast arg12
  let c224 : Index := 224#32
  ![v306.toNat, 224]
def k1_off48 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v316 : Index := Scalar.indexCast arg12
  let c240 : Index := 240#32
  ![v316.toNat, 240]
def k1_off49 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v326 : Index := Scalar.indexCast arg12
  let c256 : Index := 256#32
  ![v326.toNat, 256]
def k1_off50 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v336 : Index := Scalar.indexCast arg12
  let c272 : Index := 272#32
  ![v336.toNat, 272]
def k1_off51 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v346 : Index := Scalar.indexCast arg12
  let c288 : Index := 288#32
  ![v346.toNat, 288]
def k1_off52 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v356 : Index := Scalar.indexCast arg12
  let c304 : Index := 304#32
  ![v356.toNat, 304]
def k1_off53 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v366 : Index := Scalar.indexCast arg12
  let c320 : Index := 320#32
  ![v366.toNat, 320]
def k1_off54 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v376 : Index := Scalar.indexCast arg12
  let c336 : Index := 336#32
  ![v376.toNat, 336]
def k1_off55 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v386 : Index := Scalar.indexCast arg12
  let c352 : Index := 352#32
  ![v386.toNat, 352]
def k1_off56 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v396 : Index := Scalar.indexCast arg12
  let c368 : Index := 368#32
  ![v396.toNat, 368]
def k1_off57 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v406 : Index := Scalar.indexCast arg12
  let c384 : Index := 384#32
  ![v406.toNat, 384]
def k1_off58 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v416 : Index := Scalar.indexCast arg12
  let c400 : Index := 400#32
  ![v416.toNat, 400]
def k1_off59 (k1_t3 : Fin k1_t3_loop.trips) : Fin 2 → Nat :=
  let c0_i32_68 : BitVec 32 := 0#32
  let c1_i32_70 : BitVec 32 := 1#32
  let arg12 : BitVec 32 := Scf.iv c0_i32_68 c1_i32_70 k1_t3
  let v426 : Index := Scalar.indexCast arg12
  let c416 : Index := 416#32
  ![v426.toNat, 416]
def k1_mult6 (k1_t1 : Fin k1_t1_loop.trips) : BitVec 32 :=
  let c0_i32_4 : BitVec 32 := 0#32
  let c1_i32 : BitVec 32 := 1#32
  let arg11 : BitVec 32 := Scf.iv c0_i32_4 c1_i32 k1_t1
  let c48_i32_74 : BitVec 32 := 48#32
  let v98 : BitVec 32 := Scalar.muli arg11 c48_i32_74
  let c448_i32_75 : BitVec 32 := 448#32
  let v99 : BitVec 32 := Scalar.minsi v98 c448_i32_75
  v99
def k1_mult7 (k1_t1 : Fin k1_t1_loop.trips) : BitVec 32 :=
  let c0_i32_4 : BitVec 32 := 0#32
  let c1_i32 : BitVec 32 := 1#32
  let arg11 : BitVec 32 := Scf.iv c0_i32_4 c1_i32 k1_t1
  let c48_i32_78 : BitVec 32 := 48#32
  let v103 : BitVec 32 := Scalar.muli arg11 c48_i32_78
  let c448_i32_79 : BitVec 32 := 448#32
  let v104 : BitVec 32 := Scalar.minsi v103 c448_i32_79
  v104
@[reducible] def k1_t4_loop : Scf.Loop 32 :=
  let c0_i32_96 : BitVec 32 := 0#32
  let c48_i32_97 : BitVec 32 := 48#32
  let v130 : BitVec 32 := Scalar.addi c0_i32_96 c48_i32_97
  let c1_i32_98 : BitVec 32 := 1#32
  ⟨c0_i32_96, v130, c1_i32_98⟩
def k1_off60 (k1_t4 : Fin k1_t4_loop.trips) (c0_i32_125 : BitVec 32) : Fin 2 → Nat :=
  let c0_i32_126 : BitVec 32 := 0#32
  let v162 : Index := Scalar.indexCast c0_i32_126
  let c0_i32_96 : BitVec 32 := 0#32
  let c1_i32_98 : BitVec 32 := 1#32
  let arg12 : BitVec 32 := Scf.iv c0_i32_96 c1_i32_98 k1_t4
  let c432_i32_124 : BitVec 32 := 432#32
  let v160 : BitVec 32 := Scalar.muli arg12 c432_i32_124
  let v161 : BitVec 32 := Scalar.addi v160 c0_i32_125
  let v163 : Index := Scalar.indexCast v161
  ![0, v163.toNat]
def k1_off61 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v166 : Index := Scalar.indexCast arg12
  let c0 : Index := 0#32
  ![v166.toNat, 0]
def k1_off62 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v176 : Index := Scalar.indexCast arg12
  let c16 : Index := 16#32
  ![v176.toNat, 16]
def k1_off63 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v186 : Index := Scalar.indexCast arg12
  let c32 : Index := 32#32
  ![v186.toNat, 32]
def k1_off64 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v196 : Index := Scalar.indexCast arg12
  let c48 : Index := 48#32
  ![v196.toNat, 48]
def k1_off65 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v206 : Index := Scalar.indexCast arg12
  let c64 : Index := 64#32
  ![v206.toNat, 64]
def k1_off66 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v216 : Index := Scalar.indexCast arg12
  let c80 : Index := 80#32
  ![v216.toNat, 80]
def k1_off67 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v226 : Index := Scalar.indexCast arg12
  let c96 : Index := 96#32
  ![v226.toNat, 96]
def k1_off68 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v236 : Index := Scalar.indexCast arg12
  let c112 : Index := 112#32
  ![v236.toNat, 112]
def k1_off69 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v246 : Index := Scalar.indexCast arg12
  let c128 : Index := 128#32
  ![v246.toNat, 128]
def k1_off70 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v256 : Index := Scalar.indexCast arg12
  let c144 : Index := 144#32
  ![v256.toNat, 144]
def k1_off71 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v266 : Index := Scalar.indexCast arg12
  let c160 : Index := 160#32
  ![v266.toNat, 160]
def k1_off72 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v276 : Index := Scalar.indexCast arg12
  let c176 : Index := 176#32
  ![v276.toNat, 176]
def k1_off73 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v286 : Index := Scalar.indexCast arg12
  let c192 : Index := 192#32
  ![v286.toNat, 192]
def k1_off74 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v296 : Index := Scalar.indexCast arg12
  let c208 : Index := 208#32
  ![v296.toNat, 208]
def k1_off75 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v306 : Index := Scalar.indexCast arg12
  let c224 : Index := 224#32
  ![v306.toNat, 224]
def k1_off76 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v316 : Index := Scalar.indexCast arg12
  let c240 : Index := 240#32
  ![v316.toNat, 240]
def k1_off77 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v326 : Index := Scalar.indexCast arg12
  let c256 : Index := 256#32
  ![v326.toNat, 256]
def k1_off78 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v336 : Index := Scalar.indexCast arg12
  let c272 : Index := 272#32
  ![v336.toNat, 272]
def k1_off79 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v346 : Index := Scalar.indexCast arg12
  let c288 : Index := 288#32
  ![v346.toNat, 288]
def k1_off80 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v356 : Index := Scalar.indexCast arg12
  let c304 : Index := 304#32
  ![v356.toNat, 304]
def k1_off81 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v366 : Index := Scalar.indexCast arg12
  let c320 : Index := 320#32
  ![v366.toNat, 320]
def k1_off82 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v376 : Index := Scalar.indexCast arg12
  let c336 : Index := 336#32
  ![v376.toNat, 336]
def k1_off83 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v386 : Index := Scalar.indexCast arg12
  let c352 : Index := 352#32
  ![v386.toNat, 352]
def k1_off84 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v396 : Index := Scalar.indexCast arg12
  let c368 : Index := 368#32
  ![v396.toNat, 368]
def k1_off85 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v406 : Index := Scalar.indexCast arg12
  let c384 : Index := 384#32
  ![v406.toNat, 384]
def k1_off86 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v416 : Index := Scalar.indexCast arg12
  let c400 : Index := 400#32
  ![v416.toNat, 400]
def k1_off87 (k1_t4 : Fin k1_t4_loop.trips) : Fin 2 → Nat :=
  let c0_i32_96 : BitVec 32 := 0#32
  let c1_i32_98 : BitVec 32 := 1#32
  let arg12 : BitVec 32 := Scf.iv c0_i32_96 c1_i32_98 k1_t4
  let v426 : Index := Scalar.indexCast arg12
  let c416 : Index := 416#32
  ![v426.toNat, 416]
def k1_mult8 (k1_t1 : Fin k1_t1_loop.trips) : BitVec 32 :=
  let c0_i32_4 : BitVec 32 := 0#32
  let c1_i32 : BitVec 32 := 1#32
  let arg11 : BitVec 32 := Scf.iv c0_i32_4 c1_i32 k1_t1
  let c48_i32_102 : BitVec 32 := 48#32
  let v135 : BitVec 32 := Scalar.muli arg11 c48_i32_102
  let c448_i32_103 : BitVec 32 := 448#32
  let v136 : BitVec 32 := Scalar.minsi v135 c448_i32_103
  v136
def k1_cond4 (k1_t1 : Fin k1_t1_loop.trips) : BitVec 1 :=
  let c0_i32_4 : BitVec 32 := 0#32
  let c1_i32 : BitVec 32 := 1#32
  let arg11 : BitVec 32 := Scf.iv c0_i32_4 c1_i32 k1_t1
  let c1_i32_106 : BitVec 32 := 1#32
  let v140 : BitVec 32 := Scalar.addi arg11 c1_i32_106
  let c11_i32_107 : BitVec 32 := 11#32
  let v141 : BitVec 1 := Scalar.cmpi .slt v140 c11_i32_107
  let v142 : BitVec 32 := Scalar.extui v141
  let c0_i32_108 : BitVec 32 := 0#32
  let v143 : BitVec 1 := Scalar.cmpi .ne v142 c0_i32_108
  v143

def k1_mult9 (k1_t1 : Fin k1_t1_loop.trips) : BitVec 32 :=
  let c0_i32_4 : BitVec 32 := 0#32
  let c1_i32 : BitVec 32 := 1#32
  let arg11 : BitVec 32 := Scf.iv c0_i32_4 c1_i32 k1_t1
  let c1_i32_124 : BitVec 32 := 1#32
  let v160 : BitVec 32 := Scalar.addi arg11 c1_i32_124
  let c48_i32_125 : BitVec 32 := 48#32
  let v161 : BitVec 32 := Scalar.muli v160 c48_i32_125
  let c448_i32_126 : BitVec 32 := 448#32
  let v162 : BitVec 32 := Scalar.minsi v161 c448_i32_126
  v162
def k1_off88 (i : grid1.Coords) (k1_t1 : Fin k1_t1_loop.trips) : Fin 1 → Nat :=
  let arg0 : BitVec 32 := BitVec.ofNat 32 (i 0).val
  let c64_i32_129 : BitVec 32 := 64#32
  let v166 : BitVec 32 := Scalar.muli arg0 c64_i32_129
  let arg1 : BitVec 32 := BitVec.ofNat 32 (i 1).val
  let c4_i32_127 : BitVec 32 := 4#32
  let v164 : BitVec 32 := Scalar.muli arg1 c4_i32_127
  let c0_i32_128 : BitVec 32 := 0#32
  let v165 : BitVec 32 := Scalar.addi v164 c0_i32_128
  let v167 : BitVec 32 := Scalar.addi v166 v165
  let c496_i32_130 : BitVec 32 := 496#32
  let v168 : BitVec 32 := Scalar.muli v167 c496_i32_130
  let c0_i32_4 : BitVec 32 := 0#32
  let c1_i32 : BitVec 32 := 1#32
  let arg11 : BitVec 32 := Scf.iv c0_i32_4 c1_i32 k1_t1
  let c1_i32_124 : BitVec 32 := 1#32
  let v160 : BitVec 32 := Scalar.addi arg11 c1_i32_124
  let c48_i32_125 : BitVec 32 := 48#32
  let v161 : BitVec 32 := Scalar.muli v160 c48_i32_125
  let c448_i32_126 : BitVec 32 := 448#32
  let v162 : BitVec 32 := Scalar.minsi v161 c448_i32_126
  let v163 : BitVec 32 := v162
  let v169 : BitVec 32 := Scalar.addi v168 v163
  let c432_i32_131 : BitVec 32 := 432#32
  let v170 : BitVec 32 := Scalar.muli v169 c432_i32_131
  ![v170.toNat]
@[reducible] def k1_t5_loop : Scf.Loop 32 :=
  let c0_i32_118 : BitVec 32 := 0#32
  let c48_i32_119 : BitVec 32 := 48#32
  let v155 : BitVec 32 := Scalar.addi c0_i32_118 c48_i32_119
  let c1_i32_120 : BitVec 32 := 1#32
  ⟨c0_i32_118, v155, c1_i32_120⟩
def k1_off89 (k1_t5 : Fin k1_t5_loop.trips) (c0_i32_125 : BitVec 32) : Fin 2 → Nat :=
  let c1_i32_126 : BitVec 32 := 1#32
  let v162 : Index := Scalar.indexCast c1_i32_126
  let c0_i32_118 : BitVec 32 := 0#32
  let c1_i32_120 : BitVec 32 := 1#32
  let arg12 : BitVec 32 := Scf.iv c0_i32_118 c1_i32_120 k1_t5
  let c432_i32_124 : BitVec 32 := 432#32
  let v160 : BitVec 32 := Scalar.muli arg12 c432_i32_124
  let v161 : BitVec 32 := Scalar.addi v160 c0_i32_125
  let v163 : Index := Scalar.indexCast v161
  ![1, v163.toNat]
def k1_off90 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v166 : Index := Scalar.indexCast arg12
  let c0 : Index := 0#32
  ![v166.toNat, 0]
def k1_off91 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v176 : Index := Scalar.indexCast arg12
  let c16 : Index := 16#32
  ![v176.toNat, 16]
def k1_off92 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v186 : Index := Scalar.indexCast arg12
  let c32 : Index := 32#32
  ![v186.toNat, 32]
def k1_off93 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v196 : Index := Scalar.indexCast arg12
  let c48 : Index := 48#32
  ![v196.toNat, 48]
def k1_off94 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v206 : Index := Scalar.indexCast arg12
  let c64 : Index := 64#32
  ![v206.toNat, 64]
def k1_off95 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v216 : Index := Scalar.indexCast arg12
  let c80 : Index := 80#32
  ![v216.toNat, 80]
def k1_off96 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v226 : Index := Scalar.indexCast arg12
  let c96 : Index := 96#32
  ![v226.toNat, 96]
def k1_off97 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v236 : Index := Scalar.indexCast arg12
  let c112 : Index := 112#32
  ![v236.toNat, 112]
def k1_off98 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v246 : Index := Scalar.indexCast arg12
  let c128 : Index := 128#32
  ![v246.toNat, 128]
def k1_off99 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v256 : Index := Scalar.indexCast arg12
  let c144 : Index := 144#32
  ![v256.toNat, 144]
def k1_off100 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v266 : Index := Scalar.indexCast arg12
  let c160 : Index := 160#32
  ![v266.toNat, 160]
def k1_off101 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v276 : Index := Scalar.indexCast arg12
  let c176 : Index := 176#32
  ![v276.toNat, 176]
def k1_off102 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v286 : Index := Scalar.indexCast arg12
  let c192 : Index := 192#32
  ![v286.toNat, 192]
def k1_off103 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v296 : Index := Scalar.indexCast arg12
  let c208 : Index := 208#32
  ![v296.toNat, 208]
def k1_off104 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v306 : Index := Scalar.indexCast arg12
  let c224 : Index := 224#32
  ![v306.toNat, 224]
def k1_off105 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v316 : Index := Scalar.indexCast arg12
  let c240 : Index := 240#32
  ![v316.toNat, 240]
def k1_off106 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v326 : Index := Scalar.indexCast arg12
  let c256 : Index := 256#32
  ![v326.toNat, 256]
def k1_off107 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v336 : Index := Scalar.indexCast arg12
  let c272 : Index := 272#32
  ![v336.toNat, 272]
def k1_off108 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v346 : Index := Scalar.indexCast arg12
  let c288 : Index := 288#32
  ![v346.toNat, 288]
def k1_off109 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v356 : Index := Scalar.indexCast arg12
  let c304 : Index := 304#32
  ![v356.toNat, 304]
def k1_off110 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v366 : Index := Scalar.indexCast arg12
  let c320 : Index := 320#32
  ![v366.toNat, 320]
def k1_off111 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v376 : Index := Scalar.indexCast arg12
  let c336 : Index := 336#32
  ![v376.toNat, 336]
def k1_off112 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v386 : Index := Scalar.indexCast arg12
  let c352 : Index := 352#32
  ![v386.toNat, 352]
def k1_off113 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v396 : Index := Scalar.indexCast arg12
  let c368 : Index := 368#32
  ![v396.toNat, 368]
def k1_off114 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v406 : Index := Scalar.indexCast arg12
  let c384 : Index := 384#32
  ![v406.toNat, 384]
def k1_off115 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v416 : Index := Scalar.indexCast arg12
  let c400 : Index := 400#32
  ![v416.toNat, 400]
def k1_off116 (k1_t5 : Fin k1_t5_loop.trips) : Fin 2 → Nat :=
  let c0_i32_118 : BitVec 32 := 0#32
  let c1_i32_120 : BitVec 32 := 1#32
  let arg12 : BitVec 32 := Scf.iv c0_i32_118 c1_i32_120 k1_t5
  let v426 : Index := Scalar.indexCast arg12
  let c416 : Index := 416#32
  ![v426.toNat, 416]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== Reference.lean ====
abbrev S24000x64 : Shape := ⟨2, ![24000, 64]⟩
abbrev S24000x4 : Shape := ⟨2, ![24000, 4]⟩
abbrev S24000x1 : Shape := ⟨2, ![24000, 1]⟩
abbrev S24000 : Shape := ⟨1, ![24000]⟩
abbrev S_ : Shape := ⟨0, ![]⟩
abbrev S2x64x214272 : Shape := ⟨3, ![2, 64, 214272]⟩
abbrev S24000x2 : Shape := ⟨2, ![24000, 2]⟩
abbrev S2x64x496x432 : Shape := ⟨4, ![2, 64, 496, 432]⟩

abbrev nBuf : Space → Nat
  | .hbm => 33
  | .vmem => 0
  | .smem => 0
  | _ => 0

abbrev bufTy : (tb : Table) → Fin (tcTables nBuf tb) → BufTy
  | .hbm, ⟨0, _⟩ => ⟨S24000x64, .f32⟩
  | .hbm, ⟨1, _⟩ => ⟨S24000x4, .i32⟩
  | .hbm, ⟨2, _⟩ => ⟨S24000x1, .i32⟩
  | .hbm, ⟨3, _⟩ => ⟨S24000, .i32⟩
  | .hbm, ⟨4, _⟩ => ⟨S_, .i32⟩
  | .hbm, ⟨5, _⟩ => ⟨S24000, .i32⟩
  | .hbm, ⟨6, _⟩ => ⟨S24000, .i32⟩
  | .hbm, ⟨7, _⟩ => ⟨S24000x1, .i32⟩
  | .hbm, ⟨8, _⟩ => ⟨S24000, .i32⟩
  | .hbm, ⟨9, _⟩ => ⟨S24000, .i32⟩
  | .hbm, ⟨10, _⟩ => ⟨S24000x1, .i32⟩
  | .hbm, ⟨11, _⟩ => ⟨S24000, .i32⟩
  | .hbm, ⟨12, _⟩ => ⟨S_, .f32⟩
  | .hbm, ⟨13, _⟩ => ⟨S2x64x214272, .f32⟩
  | .hbm, ⟨14, _⟩ => ⟨S_, .i32⟩
  | .hbm, ⟨15, _⟩ => ⟨S24000, .i32⟩
  | .hbm, ⟨16, _⟩ => ⟨S24000, .i1⟩
  | .hbm, ⟨17, _⟩ => ⟨S_, .i32⟩
  | .hbm, ⟨18, _⟩ => ⟨S24000, .i32⟩
  | .hbm, ⟨19, _⟩ => ⟨S24000, .i32⟩
  | .hbm, ⟨20, _⟩ => ⟨S24000, .i32⟩
  | .hbm, ⟨21, _⟩ => ⟨S_, .i32⟩
  | .hbm, ⟨22, _⟩ => ⟨S24000, .i32⟩
  | .hbm, ⟨23, _⟩ => ⟨S24000, .i1⟩
  | .hbm, ⟨24, _⟩ => ⟨S_, .i32⟩
  | .hbm, ⟨25, _⟩ => ⟨S24000, .i32⟩
  | .hbm, ⟨26, _⟩ => ⟨S24000, .i32⟩
  | .hbm, ⟨27, _⟩ => ⟨S24000, .i32⟩
  | .hbm, ⟨28, _⟩ => ⟨S24000x1, .i32⟩
  | .hbm, ⟨29, _⟩ => ⟨S24000x1, .i32⟩
  | .hbm, ⟨30, _⟩ => ⟨S24000x2, .i32⟩
  | .hbm, ⟨31, _⟩ => ⟨S2x64x214272, .f32⟩
  | .hbm, ⟨32, _⟩ => ⟨S2x64x496x432, .f32⟩
  | _, _ => ⟨S24000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Proof.Mem.lean ====
/-
  Rules for tile memory in terms of `owns`: a buffer is held together with the contents a memref
  reads of it, a load, a gather, a store, a scatter and a copy each take the contents to the contents
  after it.
-/
module

public import proofs.«01_k».proof.Defs
public import Idealize.ShloMosaic.Lib.SparseCore.Ops
public import Idealize.ShloMosaic.Lib.Transfers
public import Idealize.ShloMosaic.Lib.Memref
public import Idealize.ShloMosaic.Lib.Tactic

@[expose] public section

noncomputable section

namespace Cert.Pillars

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V)
variable {s t : Shape} {e : EltTy} {α : Type} {Q : α → sProp (MT nD τ sig Ix (Elt F) Name U Lvl)}

local notation "𝕄" => MT nD τ sig Ix (Elt F) Name U Lvl

/-- A load of a rectangle of a memref owned at `X` reads `X` there. -/
theorem own_load {cs : CoreSpace} {m : Memref sig c.2.kind cs s e} {r : Rect s} {hl : m.view.LoadsAt r} {X : Vec F s e}
    {k : Vec F r.shape e → Prog (TpuEff nD τ sig (Elt F) Λ c.2) α} {q : PosShare TreeShare} :
    (owns c m q X : sProp 𝕄)
      ⊢ iprop((owns c m q X -∗ wp frame (wpE defs 𝒱 c bd) Set.univ (k fun x => X (r.emb x)) Q)
        -∗ wp frame (wpE defs 𝒱 c bd) Set.univ (.op (.load m r hl) k) Q) := by
  unfold owns
  iintro ⟨%f, %hf, H⟩ Hk
  iapply (wp_load_rect (defs := defs) 𝒱 c bd Set.univ (Q := Q) (r := r) (m := m) (hl := hl) (k := k) (q := q) (f := f)
    (S := m.view.set) (m.view.set_slice_subset r)) $$ H
  iintro H
  rw [show (m.access r).read (Elt F) f = fun x => X (r.emb x) from by subst hf; rfl]
  iapply Hk
  iexists f
  isplitr
  · ipureintro; exact hf
  · iexact H

/-- A store of a whole rectangle of a memref owned at `X` leaves it owned at `X` overlaid with the payload. -/
theorem own_store {cs : CoreSpace} {m : Memref sig c.2.kind cs s e} {r : Rect s} {w : Vec F r.shape e}
    {hx : (m.access r).Stores Finset.univ} {hm : (Finset.univ : Finset r.shape.Idx) = Finset.univ ∨ ∀ a, r.stride a = 1} {X : Vec F s e}
    {k : PUnit → Prog (TpuEff nD τ sig (Elt F) Λ c.2) α} :
    (owns c m fullShare X : sProp 𝕄)
      ⊢ iprop((owns c m fullShare (r.overlay X w) -∗ wp frame (wpE defs 𝒱 c bd) Set.univ (k ⟨⟩) Q)
        -∗ wp frame (wpE defs 𝒱 c bd) Set.univ (.op (.store m r w Finset.univ hx hm) k) Q) := by
  unfold owns
  iintro ⟨%f, %hf, H⟩ Hk
  iapply (wp_store (defs := defs) 𝒱 c bd Set.univ (Q := Q) (r := r) (m := m) (hx := hx) (hm := hm) (k := k) (f := f)
    (S := m.view.set) (m.view.set_slice_subset r)) $$ H
  iintro H
  iapply Hk
  iexists (m.access r).write (Elt F) f w Finset.univ
  isplitr
  · ipureintro
    subst hf
    funext j
    by_cases hj : j ∈ r.set
    · obtain ⟨i, rfl⟩ := r.exists_idx_of_mem hj
      exact (View.read_slice_write_emb r f w (Finset.mem_univ i)).trans (r.overlay_emb _ w i).symm
    · rw [Rect.overlay_of_not_mem _ _ _ hj]
      exact View.read_slice_write_of_not_mem r f w _ (by rw [r.map_emb_univ]; exact hj)
  · iexact H

/-- A gather from a memref owned at `X` is the gather of `X`. -/
theorem own_loadIdx {base : Memref sig c.2.kind .vmem s e} {idxs : Fin s.rank → IVec t 32}
    {h : ∀ a x, (idxs a x).toNat < s.size a} {hl : base.view.Loads} {X : Vec F s e} {q : PosShare TreeShare}
    {k : Vec F t e → Prog (TpuEff nD τ sig (Elt F) Λ c.2) α} :
    (owns c base q X : sProp 𝕄)
      ⊢ iprop((owns c base q X -∗ wp frame (wpE defs 𝒱 c bd) Set.univ (k (loadIdx X idxs h)) Q)
        -∗ wp frame (wpE defs 𝒱 c bd) Set.univ (SparseCore.vectorLoadIdx base idxs h hl >>= k) Q) := by
  unfold owns
  iintro ⟨%f, %hf, H⟩ Hk
  iapply (SparseCore.wp_vectorLoadIdx (defs := defs) 𝒱 c bd Set.univ (Q := Q) (base := base) (h := h) (hl := hl) (k := k) (q := q) (f := f)
    (S := base.view.set) (base.view.set_slice_subset _)) $$ H
  iintro H
  rw [show (base.access (.whole s)).read (Elt F) f = X from by
    subst hf; funext x; show base.view.read (Elt F) f ((Rect.whole s).emb x) = _; rw [Rect.emb_whole_apply]]
  iapply Hk
  iexists f
  isplitr
  · ipureintro; exact hf
  · iexact H

/-- A scatter to a memref owned at `X` leaves it owned at the scatter onto `X`. -/
theorem own_storeIdx {d : Fin 1 → Nat} {base : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (base.access (.whole s)).Stores Finset.univ}
    {X : Vec F s e} {k : PUnit → Prog (TpuEff nD τ sig (Elt F) Λ c.2) α} :
    (owns c base fullShare X : sProp 𝕄)
      ⊢ iprop((owns c base fullShare (storeIdx X idxs v mask add h) -∗ wp frame (wpE defs 𝒱 c bd) Set.univ (k ⟨⟩) Q)
        -∗ wp frame (wpE defs 𝒱 c bd) Set.univ (SparseCore.vectorStoreIdx base idxs v mask add h hs >>= k) Q) := by
  unfold owns
  iintro ⟨%f, %hf, H⟩ Hk
  have hset : (base.access (.whole s)).set = base.view.set := by
    rw [View.set_slice, Rect.set_whole]; rfl
  iapply (SparseCore.wp_vectorStoreIdx (defs := defs) 𝒱 c bd Set.univ (Q := Q) (base := base) (h := h) (hs := hs) (k := k) (f := f)
    (v := v) (mask := mask) (add := add)) $$ [H]
  · rw [hset]; iexact H
  iintro H
  rw [show (base.access (.whole s)).read (Elt F) f = X from by
    subst hf; funext x; show base.view.read (Elt F) f ((Rect.whole s).emb x) = _; rw [Rect.emb_whole_apply]]
  iapply Hk
  iexists (base.access (.whole s)).write (Elt F) f (storeIdx X idxs v mask add h) Finset.univ
  isplitr
  · ipureintro
    funext j
    have := View.read_slice_write_emb (v := base.view) (Val := Elt F) (Rect.whole s) f (storeIdx X idxs v mask add h)
      (Finset.mem_univ j)
    rwa [Rect.emb_whole_apply] at this
  · rw [hset]; iexact H

section Copy

variable [Infinite Name] (EC : UEmb Counters (MT nD τ sig Ix (Elt F) Name U Lvl))
variable [EC.LandsIn (upEmb : UEmb _ (MT nD τ sig Ix (Elt F) Name U Lvl))]

/-- A copy in flight carries along anything held beside it. -/
theorem flight_frame {sm : SemLoc sig} {ι : Ix} {N : ℕ} {D P : sProp 𝕄} :
    iprop(Transfers.Flight EC c sm ι N D ∗ P) ⊢ (Transfers.Flight EC c sm ι N iprop(D ∗ P) : sProp 𝕄) := by
  unfold Transfers.Flight
  iintro ⟨⟨⟨%R, HR, %hcap, %hpeek⟩, Hcred⟩, HP⟩
  isplitl [HR HP]
  · iexists iprop(R ∗ P)
    isplitl [HR HP]; · isplitl [HR] <;> iassumption
    isplit
    · ipureintro
      intro K
      refine BIBase.Entails.trans ?_ (hcap K)
      iintro ⟨⟨HR, HP⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HP⟩, HK⟩
      isplitl [HR]; · iexact HR
      iintro HR
      iapply HK
      isplitl [HR] <;> iassumption
  · iexact Hcred

variable {sp sp' : Space}

/-- A copy of a whole memref owned at `X`: in flight until the wait, it delivers whatever follows from the destination
    written with `X`, and the source back. -/
theorem own_dma {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {q : PosShare TreeShare} {X : Vec F s e}
    {Sd : Finset (Idx (dst.view.loc c))} {fd : Buf (Elt F) (dst.view.loc c)} {D : sProp 𝕄}
    (ι : Ix) (hN0 : 0 < dst.view.amount sm) (hSd : dst.view.set ⊆ Sd)
    (hD : (dst.view.loc c ↦[Sd]{fullShare} (dst.view.write (Elt F) fd X Finset.univ)) ⊢ D) :
    iprop(owns c src q X ∗ (dst.view.loc c ↦[Sd]{fullShare} fd) ∗ semVal (c, sm) 0)
      ⊢ iprop((Transfers.Flight EC c sm ι (dst.view.amount sm) iprop(D ∗ owns c src q X)
              -∗ wp frame (wpE defs 𝒱 c bd) Set.univ (k ⟨⟩) Q)
          -∗ wp frame (wpE defs 𝒱 c bd) Set.univ (.op (.enqueueDma src (.here dst) sm hsrc hdst hsem) k) Q) := by
  conv_lhs => unfold owns
  iintro ⟨⟨%fs, %hfs, Hs⟩, Hd, Hv⟩ Hk
  iapply (Transfers.wp_dmaLocal (defs := defs) EC 𝒱 c bd (Q := Q) (via := .same) ι (dst.view.amount sm) rfl hN0 hSd (fs := fs) (fd := fd) (q := q)
    (hsrc := hsrc) (hdst := hdst) (hsem := hsem) (k := k)) $$ [Hs Hd Hv]
  · isplitl [Hs]; · iexact Hs
    isplitl [Hd] <;> iassumption
  iintro Hf
  iapply Hk
  iapply (Transfers.Flight_mono EC c) $$ Hf
  iintro ⟨Hd, Hs⟩
  isplitl [Hd]
  · iapply hD
    rw [ReadAs.apply_same, hfs]
    iexact Hd
  · unfold owns
    iexists fs
    isplitr
    · ipureintro; exact hfs
    · iexact Hs

/-- A copy of a rectangle of a memref owned at `X`: it delivers whatever follows from the destination written with `X`
    there, and the memref back whole. -/
theorem own_dma_slice {m : Memref sig c.2.kind sp t e} {r : Rect t} {hr : ∀ a, r.stride a = 1} {dst : Memref sig c.2.kind sp' r.shape e}
    {sm : SemLoc sig} {hsrc : (m.slice r hr).view.WordExact} {hdst : dst.view.WordExact}
    {hsem : DmaTarget.Typed (nD := nD) sp sm (.here dst)}
    {k : PUnit → Prog (TpuEff nD τ sig (Elt F) Λ c.2) α} {q : PosShare TreeShare} {X : Vec F t e}
    {Sd : Finset (Idx (dst.view.loc c))} {fd : Buf (Elt F) (dst.view.loc c)} {D : sProp 𝕄}
    (ι : Ix) (hN0 : 0 < dst.view.amount sm) (hSd : dst.view.set ⊆ Sd)
    (hD : (dst.view.loc c ↦[Sd]{fullShare} (dst.view.write (Elt F) fd (fun i => X (r.emb i)) Finset.univ)) ⊢ D) :
    iprop(owns c m q X ∗ (dst.view.loc c ↦[Sd]{fullShare} fd) ∗ semVal (c, sm) 0)
      ⊢ iprop((Transfers.Flight EC c sm ι (dst.view.amount sm) iprop(D ∗ owns c m q X)
              -∗ wp frame (wpE defs 𝒱 c bd) Set.univ (k ⟨⟩) Q)
          -∗ wp frame (wpE defs 𝒱 c bd) Set.univ (.op (.enqueueDma (m.slice r hr) (.here dst) sm hsrc hdst hsem) k) Q) := by
  iintro ⟨Hm, Hd, Hv⟩ Hk
  ihave Hs := (owns_slice_split c m q r hr X) $$ Hm
  icases Hs with ⟨Hs, %g, %hg, Hg⟩
  iapply (own_dma (defs := defs) 𝒱 c bd EC (Q := Q) (src := m.slice r hr) (hsrc := hsrc) (hdst := hdst) (hsem := hsem) (k := k) ι hN0 hSd hD) $$ [Hs Hd Hv]
  · isplitl [Hs]; · iexact Hs
    isplitl [Hd] <;> iassumption
  iintro Hf
  iapply Hk
  ihave Hf := (flight_frame c EC) $$ [Hf Hg]
  · isplitl [Hf]; · iexact Hf
    iexact Hg
  iapply (Transfers.Flight_mono EC c) $$ Hf
  iintro ⟨⟨HD, Hs⟩, Hg⟩
  isplitl [HD]; · iexact HD
  have hX : r.overlay (m.view.read (Elt F) g) (fun i => X (r.emb i)) = X := by
    funext j
    by_cases hj : j ∈ r.set
    · obtain ⟨i, rfl⟩ := r.exists_idx_of_mem hj
      exact r.overlay_emb _ _ i
    · rw [Rect.overlay_of_not_mem _ _ _ hj, hg]
  have hJ := owns_slice_join (Ix := Ix) (Name := Name) (U := U) (Lvl := Lvl) (q := q) c m r hr (fun i => X (r.emb i)) g
  rw [hX] at hJ
  iapply hJ
  isplitl [Hs]; · iexact Hs
  iexact Hg

/-- The wait of a copy in flight: the delivery, and the counter back at zero. -/
theorem own_wait {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} {ι : Ix} {N : ℕ} (hN : dstw.view.dmaCredit = N) {D : sProp 𝕄}
    {O : CellTallies nD τ sig Ix} {W₀ : Waits sig Ix} :
    iprop(Transfers.Flight EC c (.dma sem) ι N D ∗ (∃ W, ⌜∀ p ∈ W, p ∈ W₀ ∨ p.2 = ι⌝ ∗ owes c O W) ∗ Transfers.MayWaits c ι O)
      ⊢ iprop((iprop(D ∗ semVal (c, .dma sem) 0 ∗ (∃ W, ⌜∀ p ∈ W, p ∈ W₀ ∨ p.2 = ι⌝ ∗ owes c O W))
            -∗ wp frame (wpE defs 𝒱 c bd) Set.univ (k ⟨⟩) Q)
          -∗ wp frame (wpE defs 𝒱 c bd) Set.univ (.op (.waitDma2 sem srcw dstw hsrc hdst) k) Q) := by
  iintro ⟨Hf, ⟨%W, %hW, HO⟩, #Hmw⟩ Hk
  iapply (Transfers.wp_waitLocalO (defs := defs) EC 𝒱 c bd (Q := Q) (hsrc := hsrc) (hdst := hdst) (k := k) ι hN (O := O) (W := W)) $$ [Hf HO]
  · isplitl [Hf]; · iexact Hf
    isplitl [HO]; · iexact HO
    iapply (Transfers.MayWaits.elim _) $$ Hmw
  iintro ⟨HD, Hv, HO⟩
  iapply Hk
  isplitl [HD]; · iexact HD
  isplitl [Hv]; · iexact Hv
  iexists insert (SemLoc.dma sem, ι) W
  isplitr
  · ipureintro
    intro p hp
    rcases Finset.mem_insert.mp hp with rfl | hp
    · exact .inr rfl
    · exact hW p hp
  · iexact HO

end Copy

/-! ## What a destination holds once written -/

section Written

variable {sp : Space}

omit [FloatOps F] [Preorder Lvl] in
/-- A whole memref written is owned at the payload. -/
theorem written_whole {m : Memref sig c.2.kind sp s e} {f : m.view.ty.Contents (Elt F)} {w : Vec F s e} :
    (m.view.loc c ↦[m.view.set]{fullShare} (m.view.write (Elt F) f w Finset.univ)) ⊢ (owns c m fullShare w : sProp 𝕄) := by
  have h := owns_intro (Ix := Ix) (Name := Name) (U := U) (Lvl := Lvl) c m fullShare (m.view.write (Elt F) f w Finset.univ)
  rwa [View.read_write_univ] at h

omit [FloatOps F] [Preorder Lvl] in
/-- A squeezed rectangle of a memref written: the memref is owned at its contents overlaid with the payload. -/
theorem written_squeeze {m : Memref sig c.2.kind sp t e} {r : Rect t} {hr : ∀ a, r.stride a = 1} {hq : r.shape.Squeezes s}
    {f : m.view.ty.Contents (Elt F)} {w : Vec F s e} :
    (m.view.loc c ↦[m.view.set]{fullShare} (((m.slice r hr).squeeze s hq).view.write (Elt F) f w Finset.univ))
      ⊢ (owns c m fullShare (r.overlay (m.view.read (Elt F) f) fun x => w ((Shape.reshapeEquiv hq.numel_eq).symm x)) : sProp 𝕄) := by
  have h := owns_intro (Ix := Ix) (Name := Name) (U := U) (Lvl := Lvl) c m fullShare
    (((m.slice r hr).squeeze s hq).view.write (Elt F) f w Finset.univ)
  rw [show m.view.read (Elt F) (((m.slice r hr).squeeze s hq).view.write (Elt F) f w Finset.univ)
    = r.overlay (m.view.read (Elt F) f) fun x => w ((Shape.reshapeEquiv hq.numel_eq).symm x) from ?_] at h
  · exact h
  funext j
  refine (congrFun (congrArg (m.view.read (Elt F)) (View.write_reshape_univ (Val := Elt F) (m.view.slice r) hq.numel_eq f w)) j).trans ?_
  by_cases hj : j ∈ r.set
  · obtain ⟨i, rfl⟩ := r.exists_idx_of_mem hj
    exact (View.read_slice_write_emb (v := m.view) r f _ (Finset.mem_univ i)).trans
      (r.overlay_emb (m.view.read (Elt F) f) (fun x => w ((Shape.reshapeEquiv hq.numel_eq).symm x)) i).symm
  · rw [Rect.overlay_of_not_mem _ _ _ hj]
    exact View.read_slice_write_of_not_mem (v := m.view) r f _ _ (by rw [r.map_emb_univ]; exact hj)

omit [FloatOps F] [Preorder Lvl] in
/-- A rectangle `r` written inside a rectangle `r₁` of the same memref: the larger is owned at its contents, the payload
    in the place of what lies under `r`. -/
theorem written_inside {m : Memref sig c.2.kind sp t e} {r r₁ : Rect t} {hr₁ : ∀ a, r₁.stride a = 1}
    {f : m.view.ty.Contents (Elt F)} {w : Vec F r.shape e} :
    (m.view.loc c ↦[(m.slice r₁ hr₁).view.set]{fullShare} ((m.view.slice r).write (Elt F) f w Finset.univ))
      ⊢ (owns c (m.slice r₁ hr₁) fullShare (fun i => r.overlay (m.view.read (Elt F) f) w (r₁.emb i)) : sProp 𝕄) := by
  have h := owns_intro (Ix := Ix) (Name := Name) (U := U) (Lvl := Lvl) c (m.slice r₁ hr₁) fullShare
    ((m.view.slice r).write (Elt F) f w Finset.univ)
  rw [show (m.slice r₁ hr₁).view.read (Elt F) ((m.view.slice r).write (Elt F) f w Finset.univ)
    = fun i => r.overlay (m.view.read (Elt F) f) w (r₁.emb i) from ?_] at h
  · exact h
  funext i
  change m.view.read (Elt F) ((m.view.slice r).write (Elt F) f w Finset.univ) (r₁.emb i) = _
  by_cases hj : r₁.emb i ∈ r.set
  · obtain ⟨x, hx⟩ := r.exists_idx_of_mem hj
    rw [show r₁.emb i = r.emb x from hx.symm, r.overlay_emb]
    exact View.read_slice_write_emb (v := m.view) r f w (Finset.mem_univ x)
  · rw [Rect.overlay_of_not_mem _ _ _ hj]
    exact View.read_slice_write_of_not_mem (v := m.view) r f w _ (by rw [r.map_emb_univ]; exact hj)

end Written

end Cert.Pillars

end
-- ==== Proof.Pure.lean ====
/-
  The arithmetic of the compaction: what a prefix scan, a scatter of sixteen lanes and a run of
  such scatters compute, over natural numbers.
-/
module

public import proofs.«01_k».proof.Defs

@[expose] public section

noncomputable section

namespace Cert.Pillars

open Idealize.ShloMosaic
open scoped Classical

/-! ## The last write of a run of writes -/

/-- What a cell holds after the writes `0, …, n - 1` in order, of which those with `p k` hit it, each writing `v k`;
    `b` before them. -/
def last {α : Type} (p : ℕ → Prop) (v : ℕ → α) (b : α) : ℕ → α
  | 0 => b
  | n + 1 => if p n then v n else last p v b n

variable {α : Type} {p p' : ℕ → Prop} {v v' : ℕ → α} {b : α} {n : ℕ}

theorem last_add (m : ℕ) : last p v b (m + n) = last (fun k => p (m + k)) (fun k => v (m + k)) (last p v b m) n := by
  induction n with
  | zero => rfl
  | succ n ih => rw [← Nat.add_assoc]; simp only [last, ih]

theorem last_congr (hp : ∀ k < n, p k ↔ p' k) (hv : ∀ k < n, p k → v k = v' k) : last p v b n = last p' v' b n := by
  induction n with
  | zero => rfl
  | succ n ih =>
    simp only [last]
    rw [ih (fun k hk => hp k (by omega)) (fun k hk => hv k (by omega))]
    by_cases h : p n
    · rw [if_pos h, if_pos ((hp n (by omega)).mp h), hv n (by omega) h]
    · rw [if_neg h, if_neg (fun h' => h ((hp n (by omega)).mpr h'))]

theorem last_none (h : ∀ k < n, ¬ p k) : last p v b n = b := by
  induction n with
  | zero => rfl
  | succ n ih => simp only [last]; rw [if_neg (h n (by omega)), ih fun k hk => h k (by omega)]

theorem last_unique {k : ℕ} (hk : k < n) (hp : p k) (h : ∀ k' < n, p k' → k' = k) : last p v b n = v k := by
  induction n with
  | zero => omega
  | succ n ih =>
    simp only [last]
    by_cases hn : p n
    · rw [if_pos hn, h n (by omega) hn]
    · rw [if_neg hn]
      refine ih ?_ fun k' hk' => h k' (by omega)
      rcases Nat.lt_succ_iff_lt_or_eq.mp hk with h' | h'
      · exact h'
      · exact absurd (h' ▸ hp) hn

/-- Writes past the last that hits change nothing. -/
theorem last_stop {m : ℕ} (hm : m ≤ n) (h : ∀ k, m ≤ k → k < n → ¬ p k) : last p v b n = last p v b m := by
  obtain ⟨d, rfl⟩ := Nat.exists_eq_add_of_le hm
  rw [last_add]
  exact last_none fun k hk => h (m + k) (by omega) (by omega)

/-- The same writes again, of one value over cells that held it, leave it everywhere. -/
theorem last_clear {z : α} : last p (fun _ => z) (last p v z n) n = z := by
  by_cases h : ∃ k < n, p k
  · have : ∀ c : α, last p (fun _ => z) c n = z := by
      obtain ⟨k, hk, hp⟩ := h
      intro c
      induction n with
      | zero => omega
      | succ n ih =>
        simp only [last]
        by_cases hn : p n
        · rw [if_pos hn]
        · rw [if_neg hn]
          refine ih ?_
          rcases Nat.lt_succ_iff_lt_or_eq.mp hk with h' | h'
          · exact h'
          · exact absurd (h' ▸ hp) hn
    exact this _
  · have h' : ∀ k < n, ¬ p k := fun k hk hp => h ⟨k, hk, hp⟩
    rw [last_none h', last_none h']

/-! ## Folds over the lanes -/

/-- `n` steps of a fold. -/
def iter {α : Type} (g : α → ℕ → α) (a : α) : ℕ → α
  | 0 => a
  | n + 1 => g (iter g a n) n

theorem foldl_finRange {α : Type} (g : α → ℕ → α) (a : α) (n : ℕ) :
    (List.finRange n).foldl (fun r k => g r k.val) a = iter g a n := by
  induction n with
  | zero => simp [iter]
  | succ n ih =>
    rw [List.finRange_succ_last, List.foldl_append, List.foldl_map]
    simp only [Fin.val_castSucc, List.foldl_cons, List.foldl_nil, Fin.val_last]
    rw [ih]
    rfl

theorem last_eq_iter : last p v b n = iter (fun r k => if p k then v k else r) b n := by
  induction n with
  | zero => rfl
  | succ n ih => simp only [last, iter, ih]

variable {F : FTy → Type} [FloatOps F]

/-- A fold over functions whose steps act on one point by themselves, at that point. -/
theorem foldl_apply {J A K : Type} {G : (J → A) → K → J → A} {g : A → K → A} (j : J) (H : ∀ f k, G f k j = g (f j) k)
    (l : List K) (f : J → A) : l.foldl G f j = l.foldl g (f j) := by
  induction l generalizing f with
  | nil => rfl
  | cons k l ih => rw [List.foldl_cons, List.foldl_cons, ih, H]

/-- A scatter into a rank-one buffer, read at one cell: the last lane naming it. -/
theorem storeIdx_last {N L : ℕ} {e : EltTy} (f : Vec F ⟨1, ![N]⟩ e) (ix : IVec ⟨1, ![L]⟩ 32) (w : Vec F ⟨1, ![L]⟩ e)
    (h : ∀ a x, ((![ix] : Fin 1 → IVec ⟨1, ![L]⟩ 32) a x).toNat < (⟨1, ![N]⟩ : Shape).size a) (j : (⟨1, ![N]⟩ : Shape).Idx)
    {ixN : ℕ → ℕ} {wN : ℕ → Elt F e} (hix : ∀ x, (ix x).toNat = ixN (x 0).val) (hw : ∀ x, w x = wN (x 0).val) :
    storeIdx f ![ix] w (fun _ => 1#1) false h j = last (fun k => ixN k = (j 0).val) wN (f j) L := by
  rw [last_eq_iter]
  refine Eq.trans ?_ (foldl_finRange _ _ _)
  refine foldl_apply (K := Fin ((![L] : Fin 1 → ℕ) 0)) j (fun g k => ?_) (List.finRange L) f
  have hk : (ix (Shape.ofLane k)).toNat = ixN k.val := hix (Shape.ofLane k)
  have hv : w (Shape.ofLane k) = wN k.val := hw (Shape.ofLane k)
  rw [if_pos (show (fun _ => 1#1 : IVec ⟨1, ![L]⟩ 1) (Shape.ofLane k) = 1 from rfl)]
  dsimp only
  rw [if_neg Bool.false_ne_true]
  by_cases hj : ixN k.val = (j 0).val
  · rw [if_pos hj, if_pos, hv]
    intro a
    obtain rfl : a = 0 := Fin.eq_zero a
    exact hj.symm.trans hk.symm
  · rw [if_neg hj, if_neg]
    intro ha
    exact hj (((ha 0).trans hk).symm)

/-! ## The prefix scan -/

/-- A scan's word at lane `n`, lane after lane. -/
def scanN (kind : ScanKind) (f : ℕ → BitVec 32) : ℕ → BitVec 32
  | 0 => f 0
  | n + 1 => kind.step (scanN kind f n) (f (n + 1))

theorem scan_eq {L : ℕ} (kind : ScanKind) (x : IVec ⟨1, ![L]⟩ 32) {f : ℕ → BitVec 32} (hf : ∀ i, x i = f (i 0).val)
    (i : (⟨1, ![L]⟩ : Shape).Idx) : scan kind x i = scanN kind f (i 0).val := by
  have key : ∀ (j n : ℕ), iter (fun r k => if 0 < k ∧ k ≤ j then kind.step r (f k) else r) (f 0) (n + 1)
      = scanN kind f (min n j) := by
    intro j n
    induction n with
    | zero => simp [scanN, iter]
    | succ n ih =>
      rw [iter, ih]
      by_cases h : n + 1 ≤ j
      · rw [if_pos ⟨by omega, h⟩, Nat.min_eq_left (by omega : n ≤ j), Nat.min_eq_left h]
        rfl
      · rw [if_neg (fun h' => h h'.2), Nat.min_eq_right (by omega : j ≤ n), Nat.min_eq_right (by omega)]
  have hi : (i 0).val < L := (i 0).isLt
  obtain ⟨m, rfl⟩ : ∃ m, L = m + 1 := ⟨L - 1, by omega⟩
  unfold scan
  simp only [List.foldl_filter, decide_eq_true_eq]
  have h0 : x (Shape.ofLane ⟨0, (i 0).pos⟩) = f 0 := hf _
  rw [h0]
  have hk : ∀ k : Fin (m + 1), x (Shape.ofLane k) = f k.val := fun k => hf _
  have := (foldl_finRange (fun r k => if 0 < k ∧ k ≤ (i 0).val then kind.step r (f k) else r) (f 0) (m + 1)).trans (key (i 0).val m)
  rw [Nat.min_eq_right (by omega : (i 0).val ≤ m)] at this
  rw [← this]
  change (List.finRange (m + 1)).foldl _ _ = (List.finRange (m + 1)).foldl _ _
  congr 1
  funext r k
  rw [show x (Shape.ofLane k) = f k.val from hk k]

/-- The running count, as the scan of the flags' words. -/
theorem scanN_sum (Q : ℕ → Prop) (n : ℕ) :
    scanN .sum (fun k => if Q k then 1#32 else 0#32) n = BitVec.ofNat 32 (Nat.count Q (n + 1)) := by
  induction n with
  | zero => simp only [scanN, Nat.count_succ, Nat.count_zero]; split <;> rfl
  | succ n ih =>
    rw [Nat.count_succ]
    simp only [scanN, ih, ScanKind.step, IntOp.addi]
    split <;> simp [BitVec.ofNat_add]

/-- The running maximum of an increasing sequence of small words, the sign bit flipped before and after. -/
theorem scanN_max (g : ℕ → ℕ) (hg : Monotone g) (n : ℕ) (hb : ∀ k ≤ n, g k < 2 ^ 31) :
    scanN .max (fun k => BitVec.ofNat 32 (g k) ^^^ 2147483648#32) n = BitVec.ofNat 32 (g n) ^^^ 2147483648#32 := by
  have hx : ∀ k ≤ n, (BitVec.ofNat 32 (g k) ^^^ 2147483648#32).toNat = g k + 2 ^ 31 := by
    intro k hk
    have hk := hb k hk
    have hlt : BitVec.ofNat 32 (g k) < 2147483648#32 := by
      rw [BitVec.lt_def, BitVec.toNat_ofNat, Nat.mod_eq_of_lt (by omega)]
      exact hk
    have : BitVec.ofNat 32 (g k) ^^^ 2147483648#32 = BitVec.ofNat 32 (g k) + 2147483648#32 := by
      revert hlt
      generalize BitVec.ofNat 32 (g k) = z
      intro hlt
      have hz : z.getLsbD 31 = false := by
        rw [show z.getLsbD 31 = z.msb from (BitVec.msb_eq_getLsbD_last z).symm, BitVec.msb_eq_false_iff_two_mul_lt]
        rw [BitVec.lt_def, show (2147483648#32).toNat = 2147483648 from rfl] at hlt
        omega
      rw [BitVec.add_eq_or_of_and_eq_zero]
      · ext i hi
        have hc : ∀ j : Fin 32, (2147483648#32).getLsbD j.val = decide (j.val = 31) := by decide
        have hc := hc ⟨i, hi⟩
        simp only [BitVec.getLsbD_eq_getElem hi] at hc
        by_cases h31 : i = 31
        · subst h31
          simp_all [← BitVec.getLsbD_eq_getElem]
        · simp_all
      · ext i hi
        have hc : ∀ j : Fin 32, (2147483648#32).getLsbD j.val = decide (j.val = 31) := by decide
        have hc := hc ⟨i, hi⟩
        simp only [BitVec.getLsbD_eq_getElem hi] at hc
        by_cases h31 : i = 31
        · subst h31
          simp_all [← BitVec.getLsbD_eq_getElem]
        · simp_all
    rw [this, BitVec.toNat_add, BitVec.toNat_ofNat, BitVec.toNat_ofNat]
    omega
  induction n with
  | zero => rfl
  | succ n ih =>
    have h1 := hx n (by omega)
    have h2 := hx (n + 1) le_rfl
    have h3 := hg (Nat.le_succ n)
    simp only [scanN]
    rw [ih (fun k hk => hb k (by omega)) (fun k hk => hx k (by omega))]
    rw [show n.succ = n + 1 from rfl] at h3
    simp only [ScanKind.step, IntOp.maxui, BitVec.ult]
    by_cases hc : g (n + 1) < g n
    · omega
    · exact if_neg (by rw [decide_eq_true_eq, h1, h2]; omega)

end Cert.Pillars

end
-- ==== Proof.Compact.lean ====
/-
  What the build's compaction and its scatters compute: the scan lists the pillars of a block in order,
  the scatters of a listed pillar's value leave at every cell the last pillar's that lies there.
-/
module

public import proofs.«01_k».proof.Proof.Pure
public import Idealize.ShloMosaic.Lib.Memref
public import proofs.«01_k».proof.Proof.Gen.KernelIdeal.Skeleton

@[expose] public section

set_option maxRecDepth 16384

noncomputable section

namespace Cert.Pillars

open Idealize.ShloMosaic Cert.KernelIdeal Cert.KernelIdeal.Gen
open scoped Classical

variable {F : FTy → Type} [FloatOps F]

/-! ## Words of small numbers -/

theorem toNat_small {a : ℕ} (ha : a < 2 ^ 31) : (BitVec.ofNat 32 a).toNat = a := by
  rw [BitVec.toNat_ofNat]; omega

theorem toInt_small {a : ℕ} (ha : a < 2 ^ 31) : (BitVec.ofNat 32 a).toInt = a := by
  rw [BitVec.toInt_eq_toNat_of_lt (by rw [toNat_small ha]; omega), toNat_small ha]

theorem slt_small {a b : ℕ} (ha : a < 2 ^ 31) (hb : b < 2 ^ 31) : (BitVec.ofNat 32 a).slt (BitVec.ofNat 32 b) = decide (a < b) := by
  rw [BitVec.slt_eq_decide, toInt_small ha, toInt_small hb]; simp

theorem sle_small {a b : ℕ} (ha : a < 2 ^ 31) (hb : b < 2 ^ 31) : (BitVec.ofNat 32 a).sle (BitVec.ofNat 32 b) = decide (a ≤ b) := by
  rw [BitVec.sle_eq_decide, toInt_small ha, toInt_small hb]; simp

/-- The lane numbers. -/
abbrev lanes : IVec S16 32 := iota .scVector S16 32 [0] iota_S16_d0_w32_scVector

theorem lanes_apply (x : S16.Idx) : lanes x = BitVec.ofNat 32 (x 0).val := by
  change BitVec.ofNat 32 (0 * S16.size 0 + (x 0).val) = _
  rw [Nat.zero_mul, Nat.zero_add]

/-- The first row of block `k`. -/
def row0 (k : ℕ) : ℕ := min (48 * k) 448

theorem row0_all : ∀ k : Fin 11, Scalar.minsi (Scalar.muli (Scf.iv 0#32 1#32 k.val) 48#32) 448#32 = BitVec.ofNat 32 (row0 k.val) := by
  decide +kernel

theorem row0_eq (k : Fin k0_t2_loop.trips) : Scalar.minsi (Scalar.muli (Scf.iv 0#32 1#32 k.val) 48#32) 448#32 = BitVec.ofNat 32 (row0 k.val) :=
  row0_all ⟨k.val, lt_of_lt_of_le k.isLt k0_t2_abs.2.1⟩

theorem row0_le (k : ℕ) : row0 k ≤ 448 := by unfold row0; omega

theorem iv_mul (k : ℕ) : Scalar.muli (Scf.iv 0#32 1#32 k) 16#32 = BitVec.ofNat 32 (16 * k) := by
  simp only [Scalar.muli, IntOp.muli, Scf.iv]
  rw [BitVec.zero_add, BitVec.mul_one, BitVec.mul_comm, ← BitVec.ofNat_mul]

/-! ## The list of a block -/

variable (yv pv : ℕ → ℕ)

/-- Pillar `n` lies in the block of rows from `y0`. -/
def inBlk (y0 n : ℕ) : Prop := y0 ≤ yv n ∧ yv n < y0 + 48

/-- How many of the first `n` do. -/
def cnt (y0 n : ℕ) : ℕ := Nat.count (inBlk yv y0) n

theorem cnt_le (y0 n : ℕ) : cnt yv y0 n ≤ n := Nat.count_le _

theorem cnt_succ (y0 n : ℕ) : cnt yv y0 (n + 1) = cnt yv y0 n + if inBlk yv y0 n then 1 else 0 := Nat.count_succ _ _

/-- The `j`-th pillar of the block among all 12000, 0 past the last. -/
def sel (y0 j : ℕ) : ℕ := if h : ∃ n < 12000, inBlk yv y0 n ∧ cnt yv y0 n = j then h.choose else 0

variable {yv pv} {y0 : ℕ}

theorem cnt_lt {n m : ℕ} (hn : inBlk yv y0 n) (h : n < m) : cnt yv y0 n < cnt yv y0 m := by
  have h1 := cnt_succ yv y0 n
  rw [if_pos hn] at h1
  have h2 : cnt yv y0 (n + 1) ≤ cnt yv y0 m := Nat.count_monotone _ h
  omega

theorem sel_cnt {n : ℕ} (hn : inBlk yv y0 n) (h : n < 12000) : sel yv y0 (cnt yv y0 n) = n := by
  have hex : ∃ m < 12000, inBlk yv y0 m ∧ cnt yv y0 m = cnt yv y0 n := ⟨n, h, hn, rfl⟩
  unfold sel
  rw [dif_pos hex]
  obtain ⟨-, h2, h3⟩ := hex.choose_spec
  rcases Nat.lt_trichotomy hex.choose n with hl | hl | hl
  · have := cnt_lt h2 hl; omega
  · exact hl
  · have := cnt_lt hn hl; omega

theorem exists_of_lt_cnt {j : ℕ} (N : ℕ) (h : j < cnt yv y0 N) : ∃ n < N, inBlk yv y0 n ∧ cnt yv y0 n = j := by
  induction N with
  | zero => simp [cnt] at h
  | succ N ih =>
    by_cases h' : j < cnt yv y0 N
    · obtain ⟨n, hn, h2⟩ := ih h'
      exact ⟨n, by omega, h2⟩
    · rw [cnt_succ] at h
      by_cases hp : inBlk yv y0 N
      · rw [if_pos hp] at h
        exact ⟨N, by omega, hp, by omega⟩
      · rw [if_neg hp] at h; omega

theorem sel_spec {j : ℕ} (hj : j < cnt yv y0 12000) : sel yv y0 j < 12000 ∧ inBlk yv y0 (sel yv y0 j) ∧ cnt yv y0 (sel yv y0 j) = j := by
  obtain ⟨n, hn, hp, rfl⟩ := exists_of_lt_cnt 12000 hj
  rw [sel_cnt hp hn]
  exact ⟨hn, hp, rfl⟩

theorem sel_past {j : ℕ} (hj : ¬ j < cnt yv y0 12000) : sel yv y0 j = 0 := by
  unfold sel
  refine dif_neg ?_
  rintro ⟨n, hn, hp, rfl⟩
  exact hj (cnt_lt hp hn)

theorem sel_lt (j : ℕ) : sel yv y0 j < 12000 := by
  by_cases h : j < cnt yv y0 12000
  · exact (sel_spec h).1
  · rw [sel_past h]; omega

/-- The writes of the listed pillars are those of the block's pillars, in their order. -/
theorem last_sel {α : Type} (p : ℕ → Prop) (v : ℕ → α) (b : α) (M : ℕ) (hM : cnt yv y0 12000 ≤ M) :
    last (fun j => j < cnt yv y0 12000 ∧ p (sel yv y0 j)) (fun j => v (sel yv y0 j)) b M
      = last (fun n => inBlk yv y0 n ∧ p n) v b 12000 := by
  rw [last_stop hM fun k hk _ h => absurd h.1 (by omega)]
  have key : ∀ N ≤ 12000, last (fun j => j < cnt yv y0 12000 ∧ p (sel yv y0 j)) (fun j => v (sel yv y0 j)) b (cnt yv y0 N)
      = last (fun n => inBlk yv y0 n ∧ p n) v b N := by
    intro N
    induction N with
    | zero => intro _; simp [cnt, last]
    | succ N ih =>
      intro hN
      rw [cnt_succ yv y0 N]
      by_cases hp : inBlk yv y0 N
      · have h1 := cnt_lt hp (show N < 12000 by omega)
        rw [if_pos hp]
        simp only [last, sel_cnt hp (show N < 12000 by omega)]
        rw [ih (by omega)]
        by_cases hq : p N
        · rw [if_pos ⟨h1, hq⟩, if_pos ⟨hp, hq⟩]
        · rw [if_neg (fun h => hq h.2), if_neg (fun h => hq h.2)]
      · rw [if_neg hp]
        simp only [last]
        rw [if_neg (fun h => hp h.1)]
        exact ih (by omega)
  exact key 12000 le_rfl

/-! ## One group of the scan -/

section Scan

variable (hyv : ∀ n, yv n < 2 ^ 30) {k2 : Fin k0_t2_loop.trips} {i : ℕ} {Yg : Vec F S16 .i32}
  (hY : ∀ x : S16.Idx, Yg x = BitVec.ofNat 32 (yv (16 * i + (x 0).val)))

include hyv hY

theorem pay4_apply (x : S16.Idx) :
    k0_pay4 (F := F) 0#32 1#32 k2 Yg x = if inBlk yv (row0 k2.val) (16 * i + (x 0).val) then 1#1 else 0#1 := by
  have hr := row0_le k2.val
  have hy := hyv (16 * i + (x 0).val)
  unfold k0_pay4
  simp only [row0_eq]
  change (BitVec.ofBool ((BitVec.ofNat 32 (row0 k2.val)).sle (Yg x))) &&& (BitVec.ofBool ((Yg x).slt (BitVec.ofNat 32 (row0 k2.val) + 48#32))) = _
  rw [hY x, sle_small (by omega) (by omega), ← BitVec.ofNat_add, slt_small (by omega) (by omega)]
  unfold inBlk
  by_cases h1 : row0 k2.val ≤ yv (16 * i + (x 0).val)
  · by_cases h2 : yv (16 * i + (x 0).val) < row0 k2.val + 48
    · simp [h1, h2]
    · simp [h1, h2]
  · simp [h1]

theorem pay5_apply (x : S16.Idx) :
    k0_pay5 (F := F) 0#32 1#32 k2 Yg x
      = BitVec.ofNat 32 (Nat.count (fun k => inBlk yv (row0 k2.val) (16 * i + k)) ((x 0).val + 1)) := by
  unfold k0_pay5
  rw [← scanN_sum]
  refine scan_eq (L := 16) .sum _ (f := fun k => if inBlk yv (row0 k2.val) (16 * i + k) then 1#32 else 0#32) (fun z => ?_) x
  change (k0_pay4 (F := F) 0#32 1#32 k2 Yg z).setWidth 32 = _
  rw [pay4_apply hyv hY]
  split <;> rfl

theorem cnt_add (m k : ℕ) : cnt yv y0 (m + k) = cnt yv y0 m + Nat.count (fun k => inBlk yv y0 (m + k)) k := Nat.count_add _ _ _

/-- Where a lane's number goes: its place in the list, or a cell past the list for a lane outside the block. -/
theorem pay6_apply (hi : 16 * i + 16 ≤ 12000) (x : S16.Idx) :
    (k0_pay6 (F := F) lanes 0#32 1#32 k2 (BitVec.ofNat 32 (cnt yv (row0 k2.val) (16 * i))) Yg x).toNat
      = if inBlk yv (row0 k2.val) (16 * i + (x 0).val) then cnt yv (row0 k2.val) (16 * i + (x 0).val) else 12016 + (x 0).val := by
  have hx : (x 0).val < 16 := (x 0).isLt
  unfold k0_pay6
  change (Scalar.select (k0_pay4 (F := F) 0#32 1#32 k2 Yg x)
    (BitVec.ofNat 32 (cnt yv (row0 k2.val) (16 * i)) + k0_pay5 (F := F) 0#32 1#32 k2 Yg x - 1#32) (12016#32 + lanes x)).toNat = _
  rw [pay4_apply hyv hY, pay5_apply hyv hY, lanes_apply]
  unfold Scalar.select
  have hc := cnt_le yv (row0 k2.val) (16 * i)
  by_cases h : inBlk yv (row0 k2.val) (16 * i + (x 0).val)
  · rw [if_pos h, if_pos h, if_pos (show (1#1 : BitVec 1) = 1 from rfl), Nat.count_succ, if_pos h, cnt_add hyv hY]
    have := Nat.count_le (fun k => inBlk yv (row0 k2.val) (16 * i + k)) (n := (x 0).val)
    rw [← BitVec.ofNat_add, ← Nat.add_assoc, BitVec.ofNat_add, BitVec.add_sub_cancel, toNat_small (by omega)]
  · rw [if_neg h, if_neg h, if_neg (by decide), ← BitVec.ofNat_add, toNat_small (by omega)]

/-- The count after the group. -/
theorem pay8_apply (hi : 16 * i + 16 ≤ 12000) :
    Scalar.addi (BitVec.ofNat 32 (cnt yv (row0 k2.val) (16 * i))) (extractAt ![15] (k0_pay8 (F := F) 0#32 1#32 k2 Yg) inpos_S16_p15)
      = BitVec.ofNat 32 (cnt yv (row0 k2.val) (16 * (i + 1))) := by
  have hmono : Monotone fun n => Nat.count (fun k => inBlk yv (row0 k2.val) (16 * i + k)) (n + 1) :=
    fun a b h => Nat.count_monotone _ (by omega)
  have key : ∀ x : S16.Idx, k0_pay8 (F := F) 0#32 1#32 k2 Yg x
      = BitVec.ofNat 32 (Nat.count (fun k => inBlk yv (row0 k2.val) (16 * i + k)) ((x 0).val + 1)) := by
    intro x
    have hx : (x 0).val < 16 := (x 0).isLt
    unfold k0_pay8
    change scan .max (fun z => k0_pay5 (F := F) 0#32 1#32 k2 Yg z ^^^ 2147483648#32) x ^^^ 2147483648#32 = _
    rw [scan_eq (L := 16) .max _ (f := fun k => BitVec.ofNat 32 (Nat.count (fun k => inBlk yv (row0 k2.val) (16 * i + k)) (k + 1)) ^^^ 2147483648#32)
      (fun z => by rw [pay5_apply hyv hY]) x,
      scanN_max (fun n => Nat.count (fun k => inBlk yv (row0 k2.val) (16 * i + k)) (n + 1)) hmono _
        (fun k hk => lt_of_le_of_lt (Nat.count_le _) (by omega)),
      BitVec.xor_assoc, BitVec.xor_self, BitVec.xor_zero]
  unfold extractAt
  rw [key]
  simp only [Scalar.addi, IntOp.addi]
  rw [← BitVec.ofNat_add, Nat.mul_add, cnt_add hyv hY]
  rfl

end Scan

theorem pay7_apply (k3 : Fin k0_t3_loop.trips) (x : S16.Idx) : k0_pay7 lanes k3 x = BitVec.ofNat 32 (16 * k3.val + (x 0).val) := by
  unfold k0_pay7
  simp only [iv_mul]
  change lanes x + BitVec.ofNat 32 (16 * k3.val) = _
  rw [lanes_apply, ← BitVec.ofNat_add, Nat.add_comm]

/-! ## The list in tile memory -/

/-- The list after the first `N` pillars: every one of them in the block stands at its place. -/
def Listed (yv : ℕ → ℕ) (y0 N : ℕ) (f : Vec F S12032 .i32) : Prop :=
  ∀ n < N, inBlk yv y0 n → ∀ j : S12032.Idx, (j 0).val = cnt yv y0 n → f j = BitVec.ofNat 32 n

theorem listed_zero (f : Vec F S12032 .i32) : Listed yv y0 0 f := fun n hn => absurd hn (Nat.not_lt_zero n)

theorem listed_step (hyv : ∀ n, yv n < 2 ^ 30) {k2 : Fin k0_t2_loop.trips} {k3 : Fin k0_t3_loop.trips} {Yg : Vec F S16 .i32}
    (hY : ∀ x : S16.Idx, Yg x = BitVec.ofNat 32 (yv (16 * k3.val + (x 0).val))) {f : Vec F S12032 .i32}
    (hf : Listed yv (row0 k2.val) (16 * k3.val) f) {ix : IVec S16 32}
    (hix : ix = k0_pay6 (F := F) lanes 0#32 1#32 k2 (BitVec.ofNat 32 (cnt yv (row0 k2.val) (16 * k3.val))) Yg)
    (h : ∀ a x, ((![ix] : Fin 1 → IVec S16 32) a x).toNat < S12032.size a) :
    Listed yv (row0 k2.val) (16 * (k3.val + 1)) (storeIdx f ![ix] (k0_pay7 lanes k3) (fun _ => 1#1) false h) := by
  have h3 : k3.val < 750 := lt_of_lt_of_le k3.isLt k0_t3_abs.2.1
  intro n hn hp j hj
  have hjn : (j 0).val ≤ n := by rw [hj]; exact cnt_le _ _ _
  refine (storeIdx_last (N := 12032) (L := 16) f ix (k0_pay7 lanes k3) h j (ixN := fun x => if inBlk yv (row0 k2.val) (16 * k3.val + x) then cnt yv (row0 k2.val) (16 * k3.val + x) else 12016 + x)
    (wN := fun x => BitVec.ofNat 32 (16 * k3.val + x)) (fun x => ?_) (fun x => pay7_apply k3 x)).trans ?_
  · rw [hix]; exact pay6_apply hyv hY (by omega) x
  by_cases hlt : n < 16 * k3.val
  · rw [last_none]
    · exact hf n hlt hp j hj
    · intro x hx hxe
      dsimp only at hxe
      by_cases hq : inBlk yv (row0 k2.val) (16 * k3.val + x)
      · rw [if_pos hq, hj] at hxe
        have := cnt_lt hp (show n < 16 * k3.val + x by omega)
        omega
      · rw [if_neg hq] at hxe; omega
  · obtain ⟨x, rfl⟩ : ∃ x, n = 16 * k3.val + x := ⟨n - 16 * k3.val, by omega⟩
    refine last_unique (k := x) (by omega) ?_ ?_
    · dsimp only; rw [if_pos hp, hj]
    · intro x' hx' he
      dsimp only at he
      by_cases hq : inBlk yv (row0 k2.val) (16 * k3.val + x')
      · rw [if_pos hq, hj] at he
        rcases Nat.lt_trichotomy x x' with hl | hl | hl
        · have := cnt_lt hp (show 16 * k3.val + x < 16 * k3.val + x' by omega); omega
        · exact hl.symm
        · have := cnt_lt hq (show 16 * k3.val + x' < 16 * k3.val + x by omega); omega
      · rw [if_neg hq] at he; omega

/-- The finished list, zeros after it. -/
def SelAt (yv : ℕ → ℕ) (y0 : ℕ) (f : Vec F S12032 .i32) : Prop :=
  ∀ j : S12032.Idx, (j 0).val < cnt yv y0 12000 + 16 → f j = BitVec.ofNat 32 (sel yv y0 (j 0).val)

theorem emb_unit_val {s : Shape} {off size : Fin s.rank → ℕ} (inb : ∀ a, off a + size a ≤ s.size a) (x : (Rect.unit off size inb).shape.Idx)
    (a : Fin s.rank) : ((Rect.unit off size inb).emb x a).val = off a + (x a).val := by
  change off a + 1 * (x a).val = _
  rw [Nat.one_mul]

theorem selAt_of_listed {f : Vec F S12032 .i32} (hf : Listed yv y0 12000 f) {off : Fin 1 → ℕ} (hoff : off = ![cnt yv y0 12000])
    (inb : ∀ a, off a + S16.size a ≤ S12032.size a) :
    SelAt yv y0 ((Rect.unit (s := S12032) off S16.size inb).overlay f (k0_pay9 : IVec S16 32)) := by
  subst hoff
  intro j hj
  by_cases h : (j 0).val < cnt yv y0 12000
  · rw [Rect.overlay_of_not_mem]
    · obtain ⟨h1, h2, h3⟩ := sel_spec h
      exact hf _ h1 h2 j h3.symm
    · intro hm
      have := (Rect.mem_set_unit.mp hm 0).1
      change cnt yv y0 12000 ≤ (j 0).val at this
      omega
  · have hm : j ∈ (Rect.unit (s := S12032) ![cnt yv y0 12000] S16.size inb).set := by
      rw [Rect.mem_set_unit]
      intro a
      obtain rfl : a = 0 := Fin.eq_zero a
      change cnt yv y0 12000 ≤ (j 0).val ∧ (j 0).val < cnt yv y0 12000 + 16
      omega
    obtain ⟨x, rfl⟩ := (Rect.unit (s := S12032) ![cnt yv y0 12000] S16.size inb).exists_idx_of_mem hm
    have hs : sel yv y0 (((Rect.unit (s := S12032) ![cnt yv y0 12000] S16.size inb).emb x 0).val) = 0 := by
      exact sel_past h
    refine (Rect.overlay_emb _ _ _ x).trans ?_
    rw [show (Rect.unit (s := S12032) ![cnt yv y0 12000] S16.size inb).idx x
      = (Rect.unit (s := S12032) ![cnt yv y0 12000] S16.size inb).emb x from rfl, hs]
    rfl

/-! ## One group of the scatters -/

/-- The cells a group's lanes go to: the pillar's place in the block, or a cell past the block. -/
def cellIdx (y0w v30 g : BitVec 32) (pos : IVec S16 32) : IVec S16 32 :=
  select (cmpi .slt (addi lanes (broadcast S16 g)) (broadcast S16 v30)) (subi pos (broadcast S16 (Scalar.muli y0w 432#32))) (broadcast S16 20736#32)

/-- The cell of listed pillar `j`. -/
def cellN (yv pv : ℕ → ℕ) (y0 j : ℕ) : ℕ := if j < cnt yv y0 12000 then pv (sel yv y0 j) - 432 * y0 else 20736

/-- A pillar's place is its row's start and a column. -/
def Placed (yv pv : ℕ → ℕ) : Prop := ∀ n, yv n < 496 ∧ 432 * yv n ≤ pv n ∧ pv n < 432 * yv n + 432

theorem cellN_lt (hp : Placed yv pv) (j : ℕ) : cellN yv pv y0 j ≤ 20736 := by
  unfold cellN
  by_cases h : j < cnt yv y0 12000
  · rw [if_pos h]
    obtain ⟨-, ⟨h1, h2⟩, -⟩ := sel_spec h
    obtain ⟨-, h3, h4⟩ := hp (sel yv y0 j)
    omega
  · rw [if_neg h]

theorem cellIdx_apply (hp : Placed yv pv) (hy0 : y0 ≤ 448) {i : ℕ} (hi : i ≤ 750) {pos : IVec S16 32}
    (hpos : ∀ x : S16.Idx, pos x = BitVec.ofNat 32 (pv (sel yv y0 (16 * i + (x 0).val)))) (x : S16.Idx) :
    (cellIdx (BitVec.ofNat 32 y0) (BitVec.ofNat 32 (cnt yv y0 12000)) (BitVec.ofNat 32 (16 * i)) pos x).toNat
      = cellN yv pv y0 (16 * i + (x 0).val) := by
  have hx : (x 0).val < 16 := (x 0).isLt
  have hc := cnt_le yv y0 12000
  unfold cellIdx cellN
  change (Scalar.select (BitVec.ofBool ((lanes x + BitVec.ofNat 32 (16 * i)).slt (BitVec.ofNat 32 (cnt yv y0 12000))))
    (pos x - BitVec.ofNat 32 y0 * 432#32) 20736#32).toNat = _
  rw [lanes_apply, ← BitVec.ofNat_add, slt_small (by omega) (by omega), Nat.add_comm (x 0).val, hpos x]
  unfold Scalar.select
  by_cases h : 16 * i + (x 0).val < cnt yv y0 12000
  · rw [if_pos h, decide_eq_true h, if_pos (show BitVec.ofBool true = 1 from rfl)]
    obtain ⟨-, ⟨h1, h2⟩, -⟩ := sel_spec h
    obtain ⟨-, h3, h4⟩ := hp (sel yv y0 (16 * i + (x 0).val))
    rw [← BitVec.ofNat_mul, BitVec.toNat_sub, toNat_small (by omega), toNat_small (by omega)]
    omega
  · rw [if_neg h, decide_eq_false h, if_neg (by decide)]
    rfl

/-- A buffer after the first `16 i` listed pillars' writes of `w` over `B`. -/
def Wrote (yv pv : ℕ → ℕ) (y0 : ℕ) (w : ℕ → Elt F .f32) (B : Vec F S21168 .f32) (i : ℕ) (f : Vec F S21168 .f32) : Prop :=
  ∀ q : S21168.Idx, (q 0).val < 20736 →
    f q = last (fun j => j < cnt yv y0 12000 ∧ pv (sel yv y0 j) - 432 * y0 = (q 0).val) (fun j => w (sel yv y0 j)) (B q) (16 * i)

theorem wrote_zero (w : ℕ → Elt F .f32) (B : Vec F S21168 .f32) : Wrote yv pv y0 w B 0 B := fun _ _ => rfl

theorem wrote_step {w : ℕ → Elt F .f32} {B f : Vec F S21168 .f32} {i : ℕ} (hf : Wrote yv pv y0 w B i f) {ix : IVec S16 32} {W : Vec F S16 .f32}
    (hix : ∀ x : S16.Idx, (ix x).toNat = cellN yv pv y0 (16 * i + (x 0).val))
    (hW : ∀ x : S16.Idx, W x = w (sel yv y0 (16 * i + (x 0).val)))
    (h : ∀ a x, ((![ix] : Fin 1 → IVec S16 32) a x).toNat < S21168.size a) :
    Wrote yv pv y0 w B (i + 1) (storeIdx f ![ix] W (fun _ => 1#1) false h) := by
  intro q hq
  refine (storeIdx_last (N := 21168) (L := 16) f ix W h q (ixN := fun x => cellN yv pv y0 (16 * i + x)) (wN := fun x => w (sel yv y0 (16 * i + x))) hix hW).trans ?_
  rw [hf q hq, Nat.mul_add, Nat.mul_one, last_add]
  refine last_congr (fun k _ => ?_) (fun _ _ _ => rfl)
  unfold cellN
  by_cases hk : 16 * i + k < cnt yv y0 12000
  · rw [if_pos hk]; exact ⟨fun h => ⟨hk, h⟩, fun h => h.2⟩
  · rw [if_neg hk]; exact ⟨fun h => by omega, fun h => absurd h.1 hk⟩

/-- The map's value at place `p`: the last pillar's that lies there, `z` where none does. -/
def canvas {α : Type} (pv : ℕ → ℕ) (w : ℕ → α) (z : α) (p : ℕ) : α := last (fun n => pv n = p) w z 12000

/-- All groups' writes over zeros leave the block of the map. -/
theorem wrote_canvas (hp : Placed yv pv) {w : ℕ → Elt F .f32} {z : Elt F .f32} {B f : Vec F S21168 .f32} {i : ℕ}
    (hi : cnt yv y0 12000 ≤ 16 * i) (hB : ∀ q : S21168.Idx, (q 0).val < 20736 → B q = z) (hf : Wrote yv pv y0 w B i f) (q : S21168.Idx)
    (hq : (q 0).val < 20736) : f q = canvas pv w z (432 * y0 + (q 0).val) := by
  rw [hf q hq, hB q hq]
  refine (last_sel (fun n => pv n - 432 * y0 = (q 0).val) w z (16 * i) hi).trans ?_
  refine last_congr (fun n _ => ?_) (fun _ _ _ => rfl)
  obtain ⟨-, h1, h2⟩ := hp n
  unfold inBlk
  constructor
  · rintro ⟨⟨h3, h4⟩, h5⟩; omega
  · intro h; omega

/-- The same groups' writes of zero leave zeros. -/
theorem wrote_clear {w : ℕ → Elt F .f32} {z : Elt F .f32} {B f g : Vec F S21168 .f32} {i : ℕ}
    (hB : ∀ q : S21168.Idx, (q 0).val < 20736 → B q = z) (hf : Wrote yv pv y0 w B i f) (hg : Wrote yv pv y0 (fun _ => z) f i g) (q : S21168.Idx)
    (hq : (q 0).val < 20736) : g q = z := by
  rw [hg q hq, hf q hq, hB q hq]
  generalize 16 * i = n
  by_cases h : ∃ k < n, k < cnt yv y0 12000 ∧ pv (sel yv y0 k) - 432 * y0 = (q 0).val
  · obtain ⟨k, hk, hpk⟩ := h
    generalize last _ (fun j => w (sel yv y0 j)) z n = c
    clear hf hg
    induction n with
    | zero => omega
    | succ n ih =>
      simp only [last]
      split
      · rfl
      · rename_i hn
        refine ih ?_
        rcases Nat.lt_succ_iff_lt_or_eq.mp hk with h' | h'
        · exact h'
        · exact absurd (h' ▸ hpk) hn
  · have h' : ∀ k < n, ¬ (k < cnt yv y0 12000 ∧ pv (sel yv y0 k) - 432 * y0 = (q 0).val) := fun k hk hp => h ⟨k, hk, hp⟩
    rw [last_none h', last_none h']

end Cert.Pillars

end
-- ==== Proof.Common.lean ====
/-
  The program as the launch theorem sees it, the resource algebra and a tile's thread.
-/
module

public import proofs.«01_k».proof.Proof.Mem
public import proofs.«01_k».proof.Proof.Compact
public import Idealize.ShloMosaic.Lib.SparseCore.Quiescent
public import Idealize.ShloMosaic.Lib.Pipeline.Kit

@[expose] public section

set_option maxRecDepth 16384

noncomputable section

namespace Cert.Pillars

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch theorem's parameters -/

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds beside the copies' counters. -/
abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL
abbrev EC : UEmb Counters (MT nD τ sig (HIx 2) (Elt F) ℕ UU ℕ) := countersEmb

/-- A tile of the build's grid as a thread. -/
abbrev thr (d : Dev nD) (i : grid0.Coords) : Thread nD τ := (d, .scVector ((i 0).castLE hcore0) ((i 1).castLE hsub0))

/-- What a wait may add to the ones a tile owed nothing for. -/
abbrev owing (c : Thread nD τ) (O : CellTallies nD τ sig (HIx 2)) (W₀ : Waits sig (HIx 2)) : sProp 𝕄 :=
  iprop(∃ W, ⌜∀ p ∈ W, p ∈ W₀ ∨ p.2 = none⌝ ∗ owes c O W)

/-- An element the rectangle covers reads the payload. -/
theorem overlay_unit_in {s : Shape} {α : Type} {off size : Fin s.rank → ℕ} {inb : ∀ a, off a + size a ≤ s.size a} (f : s.Idx → α)
    (G : (Rect.unit off size inb).shape.Idx → α) {j : s.Idx} (x : (Rect.unit off size inb).shape.Idx) (h : ∀ a, (j a).val = off a + (x a).val) :
    (Rect.unit off size inb).overlay f G j = G x := by
  rw [show j = (Rect.unit off size inb).emb x from funext fun a => Fin.ext ((h a).trans (emb_unit_val inb x a).symm), Rect.overlay_emb]

/-- An element outside it keeps its value. -/
theorem overlay_unit_out {s : Shape} {α : Type} {off size : Fin s.rank → ℕ} {inb : ∀ a, off a + size a ≤ s.size a} (f : s.Idx → α)
    (G : (Rect.unit off size inb).shape.Idx → α) {j : s.Idx} (h : ∃ a, (j a).val < off a ∨ off a + size a ≤ (j a).val) :
    (Rect.unit off size inb).overlay f G j = f j := by
  refine Rect.overlay_of_not_mem _ _ _ fun hj => ?_
  obtain ⟨a, ha⟩ := h
  have := Rect.mem_set_unit.mp hj a
  omega

/-- An assumption that holds is a step. -/
theorem own_assume {nD : Nat} {τ : Topo} {sig : RefSig} {Ix : Type} [DecidableEq Ix] {Name : Type} [DecidableEq Name] {U : Type} [URA U]
    {Lvl : Type} [Preorder Lvl] {Λ : Labels} [FloatOps F] {defs : Defs nD τ sig (Elt F) Λ} (𝒱 : Variants) (c : Thread nD τ)
    (bd : Option 𝒱.V) {α : Type} {Q : α → sProp (MT nD τ sig Ix (Elt F) Name U Lvl)} {P : Prop} {dec : Decidable P}
    {k : PLift P → Prog (TpuEff nD τ sig (Elt F) Λ c.2) α} (h : P) :
    (wp frame (wpE defs 𝒱 c bd) Set.univ (k ⟨h⟩) Q : sProp (MT nD τ sig Ix (Elt F) Name U Lvl))
      ⊢ wp frame (wpE defs 𝒱 c bd) Set.univ (.op (.assume P dec) k) Q := by
  rw [wp_assume_of 𝒱 c bd Set.univ h]

end Cert.Pillars

end
-- ==== Proof.Trips.lean ====
/-
  How often the loops over the compacted list run: once for every started group of sixteen, and the
  loops over what those leave over not at all.
-/
module

public import proofs.«01_k».proof.Defs
public import proofs.«01_k».proof.Proof.Gen.KernelIdeal

@[expose] public section

set_option maxRecDepth 16384

noncomputable section

namespace Cert.Pillars

open Idealize.ShloMosaic Cert.KernelIdeal Cert.KernelIdeal.Gen

theorem main_loop_all : ∀ n : Fin 12001, (k0_t4_loop (BitVec.ofNat 32 n.val)).lb = 0#32
    ∧ (k0_t4_loop (BitVec.ofNat 32 n.val)).ub = BitVec.ofNat 32 ((n.val + 15) / 16) ∧ (k0_t4_loop (BitVec.ofNat 32 n.val)).st = 1#32
    ∧ (k0_t5_loop (BitVec.ofNat 32 n.val)).ub = BitVec.ofNat 32 ((n.val + 15) / 16) := by
  decide +kernel

theorem t6_eq (v : BitVec 32) : k0_t6_loop v = k0_t4_loop v := rfl
theorem t8_eq (v : BitVec 32) : k0_t8_loop v = k0_t4_loop v := rfl
theorem t10_eq (v : BitVec 32) : k0_t10_loop v = k0_t4_loop v := rfl
theorem t12_eq (v : BitVec 32) : k0_t12_loop v = k0_t4_loop v := rfl
theorem t14_eq (v : BitVec 32) : k0_t14_loop v = k0_t4_loop v := rfl
theorem t16_eq (v : BitVec 32) : k0_t16_loop v = k0_t4_loop v := rfl
theorem t18_eq (v : BitVec 32) : k0_t18_loop v = k0_t4_loop v := rfl
theorem t7_eq (v : BitVec 32) : k0_t7_loop v = k0_t5_loop v := rfl
theorem t9_eq (v : BitVec 32) : k0_t9_loop v = k0_t5_loop v := rfl
theorem t11_eq (v : BitVec 32) : k0_t11_loop v = k0_t5_loop v := rfl
theorem t13_eq (v : BitVec 32) : k0_t13_loop v = k0_t5_loop v := rfl
theorem t15_eq (v : BitVec 32) : k0_t15_loop v = k0_t5_loop v := rfl
theorem t17_eq (v : BitVec 32) : k0_t17_loop v = k0_t5_loop v := rfl
theorem t19_eq (v : BitVec 32) : k0_t19_loop v = k0_t5_loop v := rfl

end Cert.Pillars

end
-- ==== Proof.Checks.lean ====
/-
  The side conditions the build assumes of the count it reads off its scan, from the count being at most 12000.
-/
module

public import proofs.«01_k».proof.Proof.Trips

@[expose] public section

set_option maxRecDepth 16384

noncomputable section

namespace Cert.Pillars

open Idealize.ShloMosaic Cert.KernelIdeal Cert.KernelIdeal.Gen

/-- The offset of group `k`, as the kernel computes it. -/
def groupOff (k : ℕ) : Fin 1 → ℕ := ![(Scalar.indexCast (Scalar.muli (Scf.iv 0#32 1#32 k) 16#32)).toNat]

theorem groupOff_all : ∀ k : Fin 751, (Scalar.indexCast (Scalar.muli (Scf.iv 0#32 1#32 k.val) 16#32)).toNat = 16 * k.val := by
  decide +kernel

theorem groupOff_eq {k : ℕ} (hk : k ≤ 750) : groupOff k = ![16 * k] := by
  rw [groupOff, groupOff_all ⟨k, by omega⟩]

theorem startOff_all : ∀ n : Fin 12001, (Scalar.indexCast (BitVec.ofNat 32 n.val)).toNat = n.val := by
  decide +kernel

theorem off5_eq {n : ℕ} (hn : n ≤ 12000) : k0_off5 (BitVec.ofNat 32 n) = ![n] := by
  unfold k0_off5
  dsimp only
  rw [startOff_all ⟨n, by omega⟩]

theorem main_trips {n : ℕ} (hn : n ≤ 12000) : (k0_t4_loop (BitVec.ofNat 32 n)).trips = (n + 15) / 16 := by
  obtain ⟨h1, h2, h3, -⟩ := main_loop_all ⟨n, by omega⟩
  unfold Scf.Loop.trips Scf.trips
  rw [h1, h2, h3]
  have : (BitVec.ofNat 32 ((n + 15) / 16)).toInt = ((n + 15) / 16 : ℕ) := by
    rw [BitVec.toInt_eq_toNat_of_lt] <;> rw [BitVec.toNat_ofNat] <;> omega
  simp only [this, BitVec.toInt_zero, show (1#32).toInt = 1 from rfl]
  omega

theorem main_ok {n : ℕ} (hn : n ≤ 12000) : (k0_t4_loop (BitVec.ofNat 32 n)).OK := by
  have ht := main_trips hn
  obtain ⟨h1, h2, h3, -⟩ := main_loop_all ⟨n, by omega⟩
  unfold Scf.Loop.OK Scf.OK
  rw [show Scf.trips _ _ _ = (n + 15) / 16 from ht, h1, h3]
  simp only [BitVec.toInt_zero, show (1#32).toInt = 1 from rfl]
  constructor <;> omega

theorem rest_loop {n : ℕ} (hn : n ≤ 12000) :
    (k0_t5_loop (BitVec.ofNat 32 n)).lb = BitVec.ofNat 32 ((n + 15) / 16)
      ∧ (k0_t5_loop (BitVec.ofNat 32 n)).ub = BitVec.ofNat 32 ((n + 15) / 16) ∧ (k0_t5_loop (BitVec.ofNat 32 n)).st = 1#32 := by
  obtain ⟨h1, h2, h3, h4⟩ := main_loop_all ⟨n, by omega⟩
  exact ⟨h2, h4, rfl⟩

theorem rest_trips {n : ℕ} (hn : n ≤ 12000) : (k0_t5_loop (BitVec.ofNat 32 n)).trips = 0 := by
  obtain ⟨h1, h2, h3⟩ := rest_loop hn
  unfold Scf.Loop.trips Scf.trips
  rw [h1, h2, h3]
  simp

theorem rest_ok {n : ℕ} (hn : n ≤ 12000) : (k0_t5_loop (BitVec.ofNat 32 n)).OK := by
  have ht := rest_trips hn
  obtain ⟨h1, h2, h3⟩ := rest_loop hn
  unfold Scf.Loop.OK Scf.OK
  rw [show Scf.trips _ _ _ = 0 from ht, h1, h3]
  have : (BitVec.ofNat 32 ((n + 15) / 16)).toInt = ((n + 15) / 16 : ℕ) := by
    rw [BitVec.toInt_eq_toNat_of_lt] <;> rw [BitVec.toNat_ofNat] <;> omega
  rw [this]
  simp only [show (1#32).toInt = 1 from rfl]
  constructor <;> omega

theorem chk2 {n : ℕ} (hn : n ≤ 12000) : k0_chk2 (BitVec.ofNat 32 n) := by
  have h5 : ∀ a, (k0_off5 (BitVec.ofNat 32 n)) a + S16.size a ≤ S12032.size a := by
    rw [off5_eq hn]
    intro a
    obtain rfl : a = 0 := Fin.eq_zero a
    change n + 16 ≤ 12032
    omega
  have hm : ∀ k : Fin (k0_t4_loop (BitVec.ofNat 32 n)).trips, ∀ a, groupOff k.val a + S16.size a ≤ S12032.size a := by
    intro k a
    have hk : k.val < (n + 15) / 16 := lt_of_lt_of_eq k.isLt (main_trips hn)
    rw [groupOff_eq (by omega)]
    obtain rfl : a = 0 := Fin.eq_zero a
    change 16 * k.val + 16 ≤ 12032
    omega
  have hr : ∀ P : Fin (k0_t5_loop (BitVec.ofNat 32 n)).trips → Prop, ∀ k, P k :=
    fun P k => absurd (lt_of_lt_of_eq k.isLt (rest_trips hn)) (Nat.not_lt_zero _)
  have om := main_ok hn
  have orr := rest_ok hn
  exact ⟨⟨h5, om, hm, orr, hr _, om, hm, orr, hr _, om, hm, orr, hr _, om, hm, orr, hr _, om, hm, orr, hr _, om, hm, orr, hr _,
    om, hm, orr, hr _, om, hm, orr⟩, hr _⟩

end Cert.Pillars

end
-- ==== Proof.Trips0.lean ====
/-
  One trip of each of the build's inner loops: the zero fill, the scan, the scatter of a channel's values
  and the scatter of zeros over them.
-/
module

public import proofs.«01_k».proof.Proof.Common
public import proofs.«01_k».proof.Proof.Checks

@[expose] public section

set_option maxRecDepth 16384

noncomputable section

namespace Cert.Pillars

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- The programs of a tile. -/
abbrev TileProg (F : FTy → Type) (i : grid0.Coords) (α : Type) : Type 1 :=
  Prog (TpuEff nD τ sig (Elt F) Λ₀ (.scVector ((i 0).castLE hcore0) ((i 1).castLE hsub0))) α

variable (d : Dev nD) (i : grid0.Coords)

/-- One group's scatter of a channel's values. -/
def buildTrip (arg8 : Memref sig .scVector .vmem S4x12032 .f32) (arg9 arg10 arg11 : Memref sig .scVector .vmem S12032 .i32)
    (buf : Memref sig .scVector .vmem S21168 .f32) (off : Fin 1 → ℕ) (inb : ∀ a, off a + S16.size a ≤ S12032.size a) (vch : IVec S16 32)
    (cA : IVec S16 32 → Prop) (dA : ∀ v, Decidable (cA v)) (hA1 : ∀ v, cA v → ∀ a x, ((![v] : Fin 1 → IVec S16 32) a x).toNat < S12032.size a)
    (hA2 : ∀ v, cA v → ∀ a x, ((![vch, v] : Fin 2 → IVec S16 32) a x).toNat < S4x12032.size a) (pay : IVec S16 32 → IVec S16 32)
    (cB : IVec S16 32 → Prop) (dB : ∀ v, Decidable (cB v)) (hB : ∀ v, cB v → ∀ a x, ((![v] : Fin 1 → IVec S16 32) a x).toNat < S21168.size a) :
    TileProg F i Unit := do
  let v158 : Vec F S16 .i32 ← Prog.lift (.load arg11 (Rect.unit (s := S12032) off S16.size inb).toLoadRect (View.loadsAt_vmem h_S16))
  have hw : cA v158 := (← Prog.lift (TpuEff.assume (cA v158) (dA v158))).down
  let _ : Vec F S16 .i32 ← SparseCore.vectorLoadIdx arg10 ![v158] (hA1 v158 hw) (View.loads_vmem h_S12032)
  let v165 : Vec F S16 .i32 ← SparseCore.vectorLoadIdx arg9 ![v158] (hA1 v158 hw) (View.loads_vmem h_S12032)
  have v170 : IVec S16 32 := pay v165
  have hw' : cB v170 := (← Prog.lift (TpuEff.assume (cB v170) (dB v170))).down
  let v171 : Vec F S16 .f32 ← SparseCore.vectorLoadIdx arg8 ![vch, v158] (hA2 v158 hw) (View.loads_vmem h_S4x12032)
  SparseCore.vectorStoreIdx buf ![v170] v171 (fun _ => 1#1) false (hB v170 hw') (View.stores_vmem_bits_univ h_S21168 rfl)
  pure ⟨⟩

/-- One group's scatter of zeros. -/
def zeroTrip (arg9 arg10 arg11 : Memref sig .scVector .vmem S12032 .i32)
    (buf : Memref sig .scVector .vmem S21168 .f32) (off : Fin 1 → ℕ) (inb : ∀ a, off a + S16.size a ≤ S12032.size a) (v23 : FVec F S16 .f32)
    (cA : IVec S16 32 → Prop) (dA : ∀ v, Decidable (cA v)) (hA1 : ∀ v, cA v → ∀ a x, ((![v] : Fin 1 → IVec S16 32) a x).toNat < S12032.size a)
    (pay : IVec S16 32 → IVec S16 32)
    (cB : IVec S16 32 → Prop) (dB : ∀ v, Decidable (cB v)) (hB : ∀ v, cB v → ∀ a x, ((![v] : Fin 1 → IVec S16 32) a x).toNat < S21168.size a) :
    TileProg F i Unit := do
  let v158 : Vec F S16 .i32 ← Prog.lift (.load arg11 (Rect.unit (s := S12032) off S16.size inb).toLoadRect (View.loadsAt_vmem h_S16))
  have hw : cA v158 := (← Prog.lift (TpuEff.assume (cA v158) (dA v158))).down
  let _ : Vec F S16 .i32 ← SparseCore.vectorLoadIdx arg10 ![v158] (hA1 v158 hw) (View.loads_vmem h_S12032)
  let v165 : Vec F S16 .i32 ← SparseCore.vectorLoadIdx arg9 ![v158] (hA1 v158 hw) (View.loads_vmem h_S12032)
  have v170 : IVec S16 32 := pay v165
  have hw' : cB v170 := (← Prog.lift (TpuEff.assume (cB v170) (dB v170))).down
  SparseCore.vectorStoreIdx buf ![v170] v23 (fun _ => 1#1) false (hB v170 hw') (View.stores_vmem_bits_univ h_S21168 rfl)
  pure ⟨⟩

/-! ## What the tile memory holds -/

/-- A tile's batch of row numbers or places: word `n` is `g n`, for the 12000 pillars. -/
def Holds1 (g : ℕ → ℕ) (f : Vec F S12032 .i32) : Prop := ∀ j : S12032.Idx, (j 0).val < 12000 → f j = BitVec.ofNat 32 (g (j 0).val)

/-- A tile's four channels of values. -/
def Holds4 (w : ℕ → ℕ → Elt F .f32) (f : Vec F S4x12032 .f32) : Prop :=
  ∀ j : S4x12032.Idx, (j 1).val < 12000 → f j = w (j 0).val (j 1).val

variable {yv pv : ℕ → ℕ} {y0 k : ℕ} {arg8 : Memref sig .scVector .vmem S4x12032 .f32} {arg9 arg10 arg11 : Memref sig .scVector .vmem S12032 .i32}
    {buf : Memref sig .scVector .vmem S21168 .f32} {off : Fin 1 → ℕ} {inb : ∀ a, off a + S16.size a ≤ S12032.size a} {vch : IVec S16 32}
    {cA : IVec S16 32 → Prop} {dA : ∀ v, Decidable (cA v)} {hA1 : ∀ v, cA v → ∀ a x, ((![v] : Fin 1 → IVec S16 32) a x).toNat < S12032.size a}
    {hA2 : ∀ v, cA v → ∀ a x, ((![vch, v] : Fin 2 → IVec S16 32) a x).toNat < S4x12032.size a} {pay : IVec S16 32 → IVec S16 32}
    {cB : IVec S16 32 → Prop} {dB : ∀ v, Decidable (cB v)} {hB : ∀ v, cB v → ∀ a x, ((![v] : Fin 1 → IVec S16 32) a x).toNat < S21168.size a}
    {X8 : Vec F S4x12032 .f32} {P9 Y10 S11 : Vec F S12032 .i32} {B f : Vec F S21168 .f32} {v23 : FVec F S16 .f32}

/-- A group read off the list. -/
theorem group_read (hk : 16 * k < cnt yv y0 12000) (hoff : off = ![16 * k]) (hS : SelAt yv y0 S11) (x : S16.Idx) :
    S11 ((Rect.unit (s := S12032) off S16.size inb).emb x) = BitVec.ofNat 32 (sel yv y0 (16 * k + (x 0).val)) := by
  subst hoff
  have hx : (x 0).val < 16 := (x 0).isLt
  have he : ((Rect.unit (s := S12032) ![16 * k] S16.size inb).emb x 0).val = 16 * k + (x 0).val := emb_unit_val (s := S12032) (off := ![16 * k]) (size := S16.size) inb x 0
  rw [hS _ (by rw [he]; omega), he]

/-- Words read through the list. -/
theorem through_list {g : ℕ → ℕ} (hg : Holds1 g P9) {ix : IVec S16 32} (hix : ∀ x : S16.Idx, ix x = BitVec.ofNat 32 (sel yv y0 (16 * k + (x 0).val)))
    (h : ∀ a x, ((![ix] : Fin 1 → IVec S16 32) a x).toNat < S12032.size a) (x : S16.Idx) :
    loadIdx P9 ![ix] h x = BitVec.ofNat 32 (g (sel yv y0 (16 * k + (x 0).val))) := by
  have hl := sel_lt (yv := yv) (y0 := y0) (16 * k + (x 0).val)
  have he : (idxAt (s := S12032) ![ix] h x 0).val = sel yv y0 (16 * k + (x 0).val) := by
    change (ix x).toNat = _
    rw [hix, toNat_small (by omega)]
  unfold loadIdx
  rw [hg _ (by rw [he]; exact hl), he]

theorem wp_buildTrip {w : ℕ → ℕ → Elt F .f32} {ch : ℕ} (hp : Placed yv pv) (hy0 : y0 ≤ 448) (hk : 16 * k < cnt yv y0 12000)
    (hoff : off = ![16 * k]) (hch : ch < 4) (hvch : vch = broadcast S16 (BitVec.ofNat 32 ch))
    (hpay : ∀ z, pay z = cellIdx (BitVec.ofNat 32 y0) (BitVec.ofNat 32 (cnt yv y0 12000)) (BitVec.ofNat 32 (16 * k)) z)
    (hcA : ∀ v : IVec S16 32, (∀ x, (v x).toNat < 12000) → cA v) (hcB : ∀ v : IVec S16 32, (∀ x, (v x).toNat ≤ 20736) → cB v)
    (hS : SelAt yv y0 S11) (hP : Holds1 pv P9) (hX : Holds4 w X8) (hf : Wrote yv pv y0 (w ch) B k f) :
    (iprop(owns (thr d i) arg8 fullShare X8 ∗ owns (thr d i) arg9 fullShare P9 ∗ owns (thr d i) arg10 fullShare Y10
        ∗ owns (thr d i) arg11 fullShare S11 ∗ owns (thr d i) buf fullShare f) : sProp 𝕄)
      ⊢ wp frame (wpE (defs₀ (F := F)) 𝒱₀ (thr d i) none) Set.univ
          (buildTrip (F := F) i arg8 arg9 arg10 arg11 buf off inb vch cA dA hA1 hA2 pay cB dB hB)
          fun _ => iprop(owns (thr d i) arg8 fullShare X8 ∗ owns (thr d i) arg9 fullShare P9 ∗ owns (thr d i) arg10 fullShare Y10
            ∗ owns (thr d i) arg11 fullShare S11 ∗ ∃ f', ⌜Wrote yv pv y0 (w ch) B (k + 1) f'⌝ ∗ owns (thr d i) buf fullShare f') := by
  have hc := cnt_le yv y0 12000
  have hgr := group_read (F := F) (inb := inb) hk hoff hS
  have hA : cA fun x => S11 ((Rect.unit (s := S12032) off S16.size inb).emb x) := hcA _ fun x => by
    have := sel_lt (yv := yv) (y0 := y0) (16 * k + (x 0).val)
    rw [hgr, toNat_small (by omega)]; exact this
  unfold buildTrip
  simp only [Prog.lift, Prog.bind_op, Prog.bind_ret, Prog.pure_eq_ret]
  iintro ⟨H8, H9, H10, H11, Hb⟩
  iapply (own_load (defs := defs₀ (F := F)) 𝒱₀ (thr d i) none) $$ H11
  iintro H11
  iapply (own_assume (defs := defs₀ (F := F)) 𝒱₀ (thr d i) none hA)
  iapply (own_loadIdx (defs := defs₀ (F := F)) 𝒱₀ (thr d i) none) $$ H10
  iintro H10
  iapply (own_loadIdx (defs := defs₀ (F := F)) 𝒱₀ (thr d i) none) $$ H9
  iintro H9
  have hpos := through_list (F := F) (k := k) hP hgr (hA1 _ hA)
  have hcell := cellIdx_apply (y0 := y0) (i := k) hp hy0 (by omega) hpos
  have hB' : cB (pay (loadIdx P9 ![fun x => S11 ((Rect.unit (s := S12032) off S16.size inb).emb x)] (hA1 _ hA))) := hcB _ fun x => by
    rw [hpay, hcell]; exact cellN_lt hp _
  iapply (own_assume (defs := defs₀ (F := F)) 𝒱₀ (thr d i) none hB')
  iapply (own_loadIdx (defs := defs₀ (F := F)) 𝒱₀ (thr d i) none) $$ H8
  iintro H8
  iapply (own_storeIdx (defs := defs₀ (F := F)) 𝒱₀ (thr d i) none) $$ Hb
  iintro Hb
  rw [wp_ret]
  imodintro
  isplitl [H8]; · iexact H8
  isplitl [H9]; · iexact H9
  isplitl [H10]; · iexact H10
  isplitl [H11]; · iexact H11
  iexists _
  isplitr
  rotate_left
  · iexact Hb
  · ipureintro
    refine wrote_step hf (fun x => ?_) (fun x => ?_) _
    · rw [hpay]; exact hcell x
    · have hl := sel_lt (yv := yv) (y0 := y0) (16 * k + (x 0).val)
      unfold loadIdx
      subst hvch
      have h0 : (idxAt (s := S4x12032) ![broadcast S16 (BitVec.ofNat 32 ch), fun x => S11 ((Rect.unit (s := S12032) off S16.size inb).emb x)]
          (hA2 _ hA) x 0).val = ch := by
        change (BitVec.ofNat 32 ch).toNat = ch
        rw [toNat_small (by omega)]
      have h1 : (idxAt (s := S4x12032) ![broadcast S16 (BitVec.ofNat 32 ch), fun x => S11 ((Rect.unit (s := S12032) off S16.size inb).emb x)]
          (hA2 _ hA) x 1).val = sel yv y0 (16 * k + (x 0).val) := by
        change (S11 ((Rect.unit (s := S12032) off S16.size inb).emb x)).toNat = _
        rw [hgr, toNat_small (by omega)]
      exact (hX _ (h1.trans_lt hl)).trans (congrArg₂ w h0 h1)

theorem wp_zeroTrip {z : Elt F .f32} (hp : Placed yv pv) (hy0 : y0 ≤ 448) (hk : 16 * k < cnt yv y0 12000)
    (hoff : off = ![16 * k]) (hz : ∀ x, v23 x = z)
    (hpay : ∀ z, pay z = cellIdx (BitVec.ofNat 32 y0) (BitVec.ofNat 32 (cnt yv y0 12000)) (BitVec.ofNat 32 (16 * k)) z)
    (hcA : ∀ v : IVec S16 32, (∀ x, (v x).toNat < 12000) → cA v) (hcB : ∀ v : IVec S16 32, (∀ x, (v x).toNat ≤ 20736) → cB v)
    (hS : SelAt yv y0 S11) (hP : Holds1 pv P9) (hf : Wrote yv pv y0 (fun _ => z) B k f) :
    (iprop(owns (thr d i) arg9 fullShare P9 ∗ owns (thr d i) arg10 fullShare Y10
        ∗ owns (thr d i) arg11 fullShare S11 ∗ owns (thr d i) buf fullShare f) : sProp 𝕄)
      ⊢ wp frame (wpE (defs₀ (F := F)) 𝒱₀ (thr d i) none) Set.univ
          (zeroTrip (F := F) i arg9 arg10 arg11 buf off inb v23 cA dA hA1 pay cB dB hB)
          fun _ => iprop(owns (thr d i) arg9 fullShare P9 ∗ owns (thr d i) arg10 fullShare Y10
            ∗ owns (thr d i) arg11 fullShare S11 ∗ ∃ f', ⌜Wrote yv pv y0 (fun _ => z) B (k + 1) f'⌝ ∗ owns (thr d i) buf fullShare f') := by
  have hc := cnt_le yv y0 12000
  have hgr := group_read (F := F) (inb := inb) hk hoff hS
  have hA : cA fun x => S11 ((Rect.unit (s := S12032) off S16.size inb).emb x) := hcA _ fun x => by
    have := sel_lt (yv := yv) (y0 := y0) (16 * k + (x 0).val)
    rw [hgr, toNat_small (by omega)]; exact this
  unfold zeroTrip
  simp only [Prog.lift, Prog.bind_op, Prog.bind_ret, Prog.pure_eq_ret]
  iintro ⟨H9, H10, H11, Hb⟩
  iapply (own_load (defs := defs₀ (F := F)) 𝒱₀ (thr d i) none) $$ H11
  iintro H11
  iapply (own_assume (defs := defs₀ (F := F)) 𝒱₀ (thr d i) none hA)
  iapply (own_loadIdx (defs := defs₀ (F := F)) 𝒱₀ (thr d i) none) $$ H10
  iintro H10
  iapply (own_loadIdx (defs := defs₀ (F := F)) 𝒱₀ (thr d i) none) $$ H9
  iintro H9
  have hpos := through_list (F := F) (k := k) hP hgr (hA1 _ hA)
  have hcell := cellIdx_apply (y0 := y0) (i := k) hp hy0 (by omega) hpos
  have hB' : cB (pay (loadIdx P9 ![fun x => S11 ((Rect.unit (s := S12032) off S16.size inb).emb x)] (hA1 _ hA))) := hcB _ fun x => by
    rw [hpay, hcell]; exact cellN_lt hp _
  iapply (own_assume (defs := defs₀ (F := F)) 𝒱₀ (thr d i) none hB')
  iapply (own_storeIdx (defs := defs₀ (F := F)) 𝒱₀ (thr d i) none) $$ Hb
  iintro Hb
  rw [wp_ret]
  imodintro
  isplitl [H9]; · iexact H9
  isplitl [H10]; · iexact H10
  isplitl [H11]; · iexact H11
  iexists _
  isplitr
  rotate_left
  · iexact Hb
  · ipureintro
    refine wrote_step hf (fun x => ?_) (fun x => hz x) _
    rw [hpay]; exact hcell x

end Cert.Pillars

end
-- ==== Proof.Loops0.lean ====
/-
  The build's inner loops: the zero fill of both blocks, the scan that lists a block's pillars, the
  scatter of one channel's values and the scatter of zeros over them.
-/
module

public import proofs.«01_k».proof.Proof.Trips0
public import proofs.«01_k».proof.Proof.Gen.KernelIdeal.Skeleton

@[expose] public section

set_option maxRecDepth 16384

noncomputable section

namespace Cert.Pillars

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (d : Dev nD) (i : grid0.Coords) (arg2 : Memref sig .scVector .hbm S1540096 .f32) (harg2 : arg2.IsWhole) (arg3 : Memref sig .scVector .hbm S24064 .i32) (harg3 : arg3.IsWhole) (arg4 : Memref sig .scVector .hbm S24064 .i32) (harg4 : arg4.IsWhole) (arg5 : Memref sig .scVector .hbm S27426816 .f32) (harg5 : arg5.IsWhole) (arg6 : Memref sig .scVector .vmem S21168 .f32) (harg6 : arg6.IsWhole) (arg7 : Memref sig .scVector .vmem S21168 .f32) (harg7 : arg7.IsWhole) (arg8 : Memref sig .scVector .vmem S4x12032 .f32) (harg8 : arg8.IsWhole) (arg9 : Memref sig .scVector .vmem S12032 .i32) (harg9 : arg9.IsWhole) (arg10 : Memref sig .scVector .vmem S12032 .i32) (harg10 : arg10.IsWhole) (arg11 : Memref sig .scVector .vmem S12032 .i32) (harg11 : arg11.IsWhole) (arg12 : DmaSems sig S_) (arg13 : DmaSems sig S_) (v26_r0 : DmaSems sig S_) (v26_r1 : DmaSems sig S_) (v26_r2 : DmaSems sig S_) (v26_r3 : DmaSems sig S_) (v26_r4 : DmaSems sig S_) (v26_r5 : DmaSems sig S_)

/-! ## Zeros -/

/-- The zero the blocks are filled with. -/
def zeroF : Elt F .f32 := (Scalar.ofBits .f32 0x00000000#32 : F .f32)

theorem pay1_apply (x : S16.Idx) : k0_pay1 (F := F) x = zeroF := rfl

/-- The first `n` words are zero. -/
def ZeroTo (n : ℕ) (f : Vec F S21168 .f32) : Prop := ∀ q : S21168.Idx, (q 0).val < n → f q = zeroF

theorem t1_trips : k0_t1_loop.trips = 1323 := by decide +kernel

theorem t3_trips : k0_t3_loop.trips = 750 := by decide +kernel

theorem zero_step {k : Fin k0_t1_loop.trips} {f : Vec F S21168 .f32} (hf : ZeroTo (16 * k.val) f) :
    ZeroTo (16 * (k.val + 1)) ((Rect.unit (s := S21168) (k0_off3 k) S16.size (k0_off3_inb k)).overlay f (k0_pay1 (F := F))) := by
  intro q hq
  have h0 : k0_off3 k 0 = 16 * k.val := congrFun (k0_off3_eq k) 0
  by_cases h : (q 0).val < 16 * k.val
  · rw [overlay_unit_out _ _ ⟨0, .inl (by rw [h0]; exact h)⟩, hf q h]
  · rw [overlay_unit_in f _ (fun a => ⟨(q 0).val - 16 * k.val, by obtain rfl : a = 0 := Fin.eq_zero a; change _ < 16; omega⟩)
      (fun a => by obtain rfl : a = 0 := Fin.eq_zero a; rw [h0]; change (q 0).val = 16 * k.val + ((q 0).val - 16 * k.val); omega)]
    exact pay1_apply _

/-- Both blocks filled. -/
theorem wp_fill {α : Type} {kk : Unit → TileProg F i α} {Q : α → sProp 𝕄} {f g : Vec F S21168 .f32} :
    (iprop(owns (thr d i) arg6 fullShare f ∗ owns (thr d i) arg7 fullShare g) : sProp 𝕄)
      ⊢ iprop((iprop(∃ f g, ⌜ZeroTo 21168 f ∧ ZeroTo 21168 g⌝ ∗ owns (thr d i) arg6 fullShare f ∗ owns (thr d i) arg7 fullShare g)
          -∗ wp frame (wpE (defs₀ (F := F)) 𝒱₀ (thr d i) none) Set.univ (kk ⟨⟩) Q)
        -∗ wp frame (wpE (defs₀ (F := F)) 𝒱₀ (thr d i) none) Set.univ
          (Scf.Loop.for k0_t1_loop k0_t1_ok ⟨⟩ (k0_t1_body i arg2 harg2 arg3 harg3 arg4 harg4 arg5 harg5 arg6 harg6 arg7 harg7 arg8 harg8
            arg9 harg9 arg10 harg10 arg11 harg11 arg12 arg13 v26_r0 v26_r1 v26_r2 v26_r3 v26_r4 v26_r5) >>= kk) Q) := by
  iintro H Hk
  iapply (Scf.wp_for_bind frame (wpE (defs₀ (F := F)) 𝒱₀ (thr d i) none) Set.univ k0_t1_loop.lb k0_t1_loop.ub k0_t1_loop.st k0_t1_ok ⟨⟩ _
    (fun n _ => iprop(∃ f g, ⌜ZeroTo (16 * n) f ∧ ZeroTo (16 * n) g⌝ ∗ owns (thr d i) arg6 fullShare f ∗ owns (thr d i) arg7 fullShare g))
    (fun k _ => ?_)) $$ [H]
  · unfold k0_t1_body
    simp only [Prog.lift, Prog.bind_op, Prog.bind_ret, Prog.pure_eq_ret]
    iintro ⟨%f, %g, %h, H6, H7⟩
    iapply (own_load (defs := defs₀ (F := F)) 𝒱₀ (thr d i) none) $$ H6
    iintro H6
    iapply (own_store (defs := defs₀ (F := F)) 𝒱₀ (thr d i) none) $$ H6
    iintro H6
    iapply (own_load (defs := defs₀ (F := F)) 𝒱₀ (thr d i) none) $$ H7
    iintro H7
    iapply (own_store (defs := defs₀ (F := F)) 𝒱₀ (thr d i) none) $$ H7
    iintro H7
    rw [wp_ret]
    imodintro
    iexists _, _
    isplitr
    rotate_left
    · isplitl [H6] <;> iassumption
    · ipureintro; exact ⟨zero_step h.1, zero_step h.2⟩
  · iexists f, g
    isplitr
    · ipureintro; exact ⟨fun q hq => absurd hq (by omega), fun q hq => absurd hq (by omega)⟩
    · iexact H
  · iintro %_ H
    iapply Hk
    rw [show Scf.trips k0_t1_loop.lb k0_t1_loop.ub k0_t1_loop.st = 1323 from t1_trips]
    iexact H

/-! ## The scan -/

theorem wp_scan {α : Type} {kk : BitVec 32 → TileProg F i α} {Q : α → sProp 𝕄} {Y10 S11 : Vec F S12032 .i32} {yv : ℕ → ℕ} (arg1 : BitVec 32)
    (k2 : Fin k0_t2_loop.trips) (hyv : ∀ n, yv n < 2 ^ 30) (hY : Holds1 yv Y10) :
    (iprop(owns (thr d i) arg10 fullShare Y10 ∗ owns (thr d i) arg11 fullShare S11) : sProp 𝕄)
      ⊢ iprop((∀ S', iprop(⌜Listed yv (row0 k2.val) 12000 S'⌝ ∗ owns (thr d i) arg10 fullShare Y10 ∗ owns (thr d i) arg11 fullShare S')
          -∗ wp frame (wpE (defs₀ (F := F)) 𝒱₀ (thr d i) none) Set.univ (kk (BitVec.ofNat 32 (cnt yv (row0 k2.val) 12000))) Q)
        -∗ wp frame (wpE (defs₀ (F := F)) 𝒱₀ (thr d i) none) Set.univ
          (Scf.Loop.for k0_t3_loop k0_t3_ok 0#32 (k0_t3_body i arg2 harg2 arg3 harg3 arg4 harg4 arg5 harg5 arg6 harg6 arg7 harg7 arg8 harg8
            arg9 harg9 arg10 harg10 arg11 harg11 arg12 arg13 v26_r0 v26_r1 v26_r2 v26_r3 v26_r4 v26_r5 arg1 lanes 0#32 1#32 k2) >>= kk) Q) := by
  iintro ⟨H10, H11⟩ Hk
  iapply (Scf.wp_for_bind frame (wpE (defs₀ (F := F)) 𝒱₀ (thr d i) none) Set.univ k0_t3_loop.lb k0_t3_loop.ub k0_t3_loop.st k0_t3_ok 0#32 _
    (fun n a => iprop(∃ S', ⌜a = BitVec.ofNat 32 (cnt yv (row0 k2.val) (16 * n)) ∧ Listed yv (row0 k2.val) (16 * n) S'⌝
      ∗ owns (thr d i) arg10 fullShare Y10 ∗ owns (thr d i) arg11 fullShare S'))
    (fun k a => ?_)) $$ [H10 H11]
  · unfold k0_t3_body
    simp only [Prog.lift, Prog.bind_op, Prog.bind_ret, Prog.pure_eq_ret]
    iintro ⟨%S', %h, H10, H11⟩
    obtain ⟨rfl, hS⟩ := h
    have hk : k.val < 750 := lt_of_lt_of_eq k.isLt t3_trips
    have hg : ∀ x : S16.Idx, Y10 ((Rect.unit (s := S12032) (k0_off4 k) S16.size (k0_off4_inb k)).emb x)
        = BitVec.ofNat 32 (yv (16 * k.val + (x 0).val)) := fun x => by
      have hx : (x 0).val < 16 := (x 0).isLt
      have he : ((Rect.unit (s := S12032) (k0_off4 k) S16.size (k0_off4_inb k)).emb x 0).val = 16 * k.val + (x 0).val := by
        rw [emb_unit_val (s := S12032) (off := k0_off4 k) (size := S16.size) (k0_off4_inb k) x 0]
        exact congrArg (· + (x 0).val) (congrFun (k0_off4_eq k) 0)
      rw [hY _ (by rw [he]; omega), he]
    iapply (own_load (defs := defs₀ (F := F)) 𝒱₀ (thr d i) none) $$ H10
    iintro H10
    have hc : k0_chk1 (k0_pay6 (F := F) lanes 0#32 1#32 k2 (BitVec.ofNat 32 (cnt yv (row0 k2.val) (16 * k.val)))
        fun x => Y10 ((Rect.unit (s := S12032) (k0_off4 k) S16.size (k0_off4_inb k)).emb x)) := by
      intro a x
      obtain rfl : a = 0 := Fin.eq_zero a
      have hx : (x 0).val < 16 := (x 0).isLt
      have := cnt_le yv (row0 k2.val) (16 * k.val + (x 0).val)
      refine lt_of_eq_of_lt (pay6_apply hyv hg (by omega) x) ?_
      change _ < 12032
      split_ifs <;> omega
    iapply (own_assume (defs := defs₀ (F := F)) 𝒱₀ (thr d i) none hc)
    iapply (own_storeIdx (defs := defs₀ (F := F)) 𝒱₀ (thr d i) none) $$ H11
    iintro H11
    rw [wp_ret]
    imodintro
    iexists _
    isplitr
    rotate_left
    · isplitl [H10] <;> iassumption
    · ipureintro; exact ⟨pay8_apply hyv hg (by omega), listed_step hyv hg hS rfl _⟩
  · iexists S11
    isplitr
    · ipureintro; exact ⟨rfl, listed_zero _⟩
    · isplitl [H10] <;> iassumption
  · rw [show Scf.trips k0_t3_loop.lb k0_t3_loop.ub k0_t3_loop.st = 750 from t3_trips]
    iintro %a ⟨%S', %h, H⟩
    obtain ⟨rfl, hS⟩ := h
    iapply Hk
    isplitr
    · ipureintro; exact hS
    · iexact H

/-! ## The scatters -/

/-- A block that held zeros, after all of a channel's writes. -/
def Filled (yv pv : ℕ → ℕ) (y0 : ℕ) (w : ℕ → Elt F .f32) (f : Vec F S21168 .f32) : Prop :=
  ∃ B, ZeroTo (F := F) 20736 B ∧ Wrote yv pv y0 w B ((cnt yv y0 12000 + 15) / 16) f

theorem filled_canvas {yv pv : ℕ → ℕ} {y0 : ℕ} {w : ℕ → Elt F .f32} {f : Vec F S21168 .f32} (hp : Placed yv pv) (h : Filled yv pv y0 w f)
    (q : S21168.Idx) (hq : (q 0).val < 20736) : f q = canvas pv w zeroF (432 * y0 + (q 0).val) := by
  obtain ⟨B, hB, hf⟩ := h
  exact wrote_canvas hp (by omega) hB hf q hq

theorem filled_clear {yv pv : ℕ → ℕ} {y0 : ℕ} {w : ℕ → Elt F .f32} {f g : Vec F S21168 .f32} (h : Filled yv pv y0 w f)
    (hg : Wrote yv pv y0 (fun _ => zeroF) f ((cnt yv y0 12000 + 15) / 16) g) : ZeroTo 20736 g := by
  obtain ⟨B, hB, hf⟩ := h
  exact wrote_clear hB hf hg

variable {yv pv : ℕ → ℕ} {y0 : ℕ} {X8 : Vec F S4x12032 .f32} {P9 Y10 S11 : Vec F S12032 .i32} {B : Vec F S21168 .f32} {α : Type}
    {kk : Unit → TileProg F i α} {Q : α → sProp (MT nD τ sig (HIx 2) (Elt F) ℕ UU ℕ)}

/-- A loop that runs no trip. -/
theorem wp_rest {L : Scf.Loop 32} {hok : L.OK} {body : Fin L.trips → Unit → TileProg F i Unit} (hL : L.trips = 0) :
    wp frame (wpE (defs₀ (F := F)) 𝒱₀ (thr d i) none) Set.univ (kk ⟨⟩) Q
      ⊢ (wp frame (wpE (defs₀ (F := F)) 𝒱₀ (thr d i) none) Set.univ (Scf.Loop.for L hok ⟨⟩ body >>= kk) Q : sProp 𝕄) := by
  iintro Hk
  iapply (Scf.wp_for_bind frame (wpE (defs₀ (F := F)) 𝒱₀ (thr d i) none) Set.univ L.lb L.ub L.st hok ⟨⟩ _
    (fun _ _ => wp frame (wpE (defs₀ (F := F)) 𝒱₀ (thr d i) none) Set.univ (kk ⟨⟩) Q)
    (fun k _ => (Nat.not_lt_zero _ (lt_of_lt_of_eq k.isLt hL)).elim)) $$ Hk
  iintro %_ Hk
  iexact Hk

/-- One channel's values scattered, the loop of the rest running no trip. -/
theorem wp_build (arg8 : Memref sig .scVector .vmem S4x12032 .f32) (arg9 arg10 arg11 : Memref sig .scVector .vmem S12032 .i32)
    (buf : Memref sig .scVector .vmem S21168 .f32) {w : ℕ → ℕ → Elt F .f32} (ch : ℕ) {L L' : Scf.Loop 32} {hok : L.OK} {hok' : L'.OK}
    {body : Fin L.trips → Unit → TileProg F i Unit} {body' : Fin L'.trips → Unit → TileProg F i Unit}
    (hp : Placed yv pv) (hy0 : y0 ≤ 448) (hch : ch < 4) (hS : SelAt yv y0 S11) (hP : Holds1 pv P9) (hX : Holds4 w X8)
    (hB0 : ZeroTo 20736 B)
    (hL : L.trips = (cnt yv y0 12000 + 15) / 16) (hL' : L'.trips = 0)
    (inb : ∀ (k : Fin L.trips), ∀ a, groupOff k.val a + S16.size a ≤ S12032.size a)
    {cA : Fin L.trips → IVec S16 32 → Prop} {dA : ∀ k v, Decidable (cA k v)}
    {hA1 : ∀ k v, cA k v → ∀ a x, ((![v] : Fin 1 → IVec S16 32) a x).toNat < S12032.size a}
    {hA2 : ∀ k v, cA k v → ∀ a x, ((![broadcast S16 (BitVec.ofNat 32 ch), v] : Fin 2 → IVec S16 32) a x).toNat < S4x12032.size a}
    {cB : Fin L.trips → IVec S16 32 → Prop} {dB : ∀ k v, Decidable (cB k v)}
    {hB : ∀ k v, cB k v → ∀ a x, ((![v] : Fin 1 → IVec S16 32) a x).toNat < S21168.size a}
    (hcA : ∀ k, ∀ v : IVec S16 32, (∀ x, (v x).toNat < 12000) → cA k v) (hcB : ∀ k, ∀ v : IVec S16 32, (∀ x, (v x).toNat ≤ 20736) → cB k v)
    (hbody : ∀ k u, body k u = buildTrip (F := F) i arg8 arg9 arg10 arg11 buf (groupOff k.val) (inb k) (broadcast S16 (BitVec.ofNat 32 ch))
      (cA k) (dA k) (hA1 k) (hA2 k)
      (fun v => cellIdx (BitVec.ofNat 32 y0) (BitVec.ofNat 32 (cnt yv y0 12000)) (Scalar.muli (Scf.iv 0#32 1#32 k.val) 16#32) v)
      (cB k) (dB k) (hB k)) :
    (iprop(owns (thr d i) arg8 fullShare X8 ∗ owns (thr d i) arg9 fullShare P9 ∗ owns (thr d i) arg10 fullShare Y10
        ∗ owns (thr d i) arg11 fullShare S11 ∗ owns (thr d i) buf fullShare B) : sProp 𝕄)
      ⊢ iprop((∀ f, iprop(⌜Filled yv pv y0 (w ch) f⌝
            ∗ owns (thr d i) arg8 fullShare X8 ∗ owns (thr d i) arg9 fullShare P9 ∗ owns (thr d i) arg10 fullShare Y10
            ∗ owns (thr d i) arg11 fullShare S11 ∗ owns (thr d i) buf fullShare f)
          -∗ wp frame (wpE (defs₀ (F := F)) 𝒱₀ (thr d i) none) Set.univ (kk ⟨⟩) Q)
        -∗ wp frame (wpE (defs₀ (F := F)) 𝒱₀ (thr d i) none) Set.univ
          (Scf.Loop.for L hok ⟨⟩ body >>= fun _ => Scf.Loop.for L' hok' ⟨⟩ body' >>= kk) Q) := by
  have hc := cnt_le yv y0 12000
  iintro ⟨H8, H9, H10, H11, Hb⟩ Hk
  iapply (Scf.wp_for_bind frame (wpE (defs₀ (F := F)) 𝒱₀ (thr d i) none) Set.univ L.lb L.ub L.st hok ⟨⟩ _
    (fun n _ => iprop(owns (thr d i) arg8 fullShare X8 ∗ owns (thr d i) arg9 fullShare P9 ∗ owns (thr d i) arg10 fullShare Y10
            ∗ owns (thr d i) arg11 fullShare S11 ∗ ∃ f, ⌜Wrote yv pv y0 (w ch) B n f⌝ ∗ owns (thr d i) buf fullShare f))
    (fun k u => ?_)) $$ [H8 H9 H10 H11 Hb]
  · have hk : k.val < (cnt yv y0 12000 + 15) / 16 := lt_of_lt_of_eq k.isLt hL
    rw [hbody]
    iintro ⟨H8, H9, H10, H11, %f, %hf, Hb⟩
    have hlt : 16 * k.val < cnt yv y0 12000 := by omega
    have hoff : groupOff k.val = ![16 * k.val] := groupOff_eq (by omega)
    iapply (wp_buildTrip d i hp hy0 hlt hoff hch rfl
      (fun z => congrArg (fun g => cellIdx _ _ g z) (iv_mul k.val)) (hcA k) (hcB k) hS hP hX hf)
    isplitl [H8]; · iexact H8
    isplitl [H9]; · iexact H9
    isplitl [H10]; · iexact H10
    isplitl [H11]; · iexact H11
    iexact Hb
  · isplitl [H8]; · iexact H8
    isplitl [H9]; · iexact H9
    isplitl [H10]; · iexact H10
    isplitl [H11]; · iexact H11
    iexists B
    isplitr
    · ipureintro; exact wrote_zero _ _
    · iexact Hb
  · iintro %_ ⟨H8, H9, H10, H11, %f, %hf, Hb⟩
    iapply (wp_rest d i hL')
    iapply Hk
    isplitr
    · ipureintro
      rw [show Scf.trips L.lb L.ub L.st = _ from hL] at hf
      exact ⟨B, hB0, hf⟩
    isplitl [H8]; · iexact H8
    isplitl [H9]; · iexact H9
    isplitl [H10]; · iexact H10
    isplitl [H11]; · iexact H11
    iexact Hb

/-- Zeros scattered over the same cells, up to the loop of the rest. -/
theorem wp_clear (arg9 arg10 arg11 : Memref sig .scVector .vmem S12032 .i32)
    (buf : Memref sig .scVector .vmem S21168 .f32) {L : Scf.Loop 32} {hok : L.OK}
    {body : Fin L.trips → Unit → TileProg F i Unit}
    (hp : Placed yv pv) (hy0 : y0 ≤ 448) (hS : SelAt yv y0 S11) {w : ℕ → Elt F .f32} (hP : Holds1 pv P9) (hB0 : Filled yv pv y0 w B)
    (hL : L.trips = (cnt yv y0 12000 + 15) / 16)
    (inb : ∀ (k : Fin L.trips), ∀ a, groupOff k.val a + S16.size a ≤ S12032.size a)
    {cA : Fin L.trips → IVec S16 32 → Prop} {dA : ∀ k v, Decidable (cA k v)}
    {hA1 : ∀ k v, cA k v → ∀ a x, ((![v] : Fin 1 → IVec S16 32) a x).toNat < S12032.size a}
    {cB : Fin L.trips → IVec S16 32 → Prop} {dB : ∀ k v, Decidable (cB k v)}
    {hB : ∀ k v, cB k v → ∀ a x, ((![v] : Fin 1 → IVec S16 32) a x).toNat < S21168.size a}
    (hcA : ∀ k, ∀ v : IVec S16 32, (∀ x, (v x).toNat < 12000) → cA k v) (hcB : ∀ k, ∀ v : IVec S16 32, (∀ x, (v x).toNat ≤ 20736) → cB k v)
    (hbody : ∀ k u, body k u = zeroTrip (F := F) i arg9 arg10 arg11 buf (groupOff k.val) (inb k) (k0_pay1 (F := F))
      (cA k) (dA k) (hA1 k)
      (fun v => cellIdx (BitVec.ofNat 32 y0) (BitVec.ofNat 32 (cnt yv y0 12000)) (Scalar.muli (Scf.iv 0#32 1#32 k.val) 16#32) v)
      (cB k) (dB k) (hB k)) :
    (iprop(owns (thr d i) arg9 fullShare P9 ∗ owns (thr d i) arg10 fullShare Y10
        ∗ owns (thr d i) arg11 fullShare S11 ∗ owns (thr d i) buf fullShare B) : sProp 𝕄)
      ⊢ iprop((∀ f, iprop(⌜ZeroTo 20736 f⌝
            ∗ owns (thr d i) arg9 fullShare P9 ∗ owns (thr d i) arg10 fullShare Y10
            ∗ owns (thr d i) arg11 fullShare S11 ∗ owns (thr d i) buf fullShare f)
          -∗ wp frame (wpE (defs₀ (F := F)) 𝒱₀ (thr d i) none) Set.univ (kk ⟨⟩) Q)
        -∗ wp frame (wpE (defs₀ (F := F)) 𝒱₀ (thr d i) none) Set.univ (Scf.Loop.for L hok ⟨⟩ body >>= kk) Q) := by
  have hc := cnt_le yv y0 12000
  iintro ⟨H9, H10, H11, Hb⟩ Hk
  iapply (Scf.wp_for_bind frame (wpE (defs₀ (F := F)) 𝒱₀ (thr d i) none) Set.univ L.lb L.ub L.st hok ⟨⟩ _
    (fun n _ => iprop(owns (thr d i) arg9 fullShare P9 ∗ owns (thr d i) arg10 fullShare Y10
            ∗ owns (thr d i) arg11 fullShare S11 ∗ ∃ f, ⌜Wrote yv pv y0 (fun _ => zeroF) B n f⌝ ∗ owns (thr d i) buf fullShare f))
    (fun k u => ?_)) $$ [H9 H10 H11 Hb]
  · have hk : k.val < (cnt yv y0 12000 + 15) / 16 := lt_of_lt_of_eq k.isLt hL
    rw [hbody]
    iintro ⟨H9, H10, H11, %f, %hf, Hb⟩
    have hlt : 16 * k.val < cnt yv y0 12000 := by omega
    have hoff : groupOff k.val = ![16 * k.val] := groupOff_eq (by omega)
    iapply (wp_zeroTrip d i hp hy0 hlt hoff pay1_apply
      (fun z => congrArg (fun g => cellIdx _ _ g z) (iv_mul k.val)) (hcA k) (hcB k) hS hP hf)
    isplitl [H9]; · iexact H9
    isplitl [H10]; · iexact H10
    isplitl [H11]; · iexact H11
    iexact Hb
  · isplitl [H9]; · iexact H9
    isplitl [H10]; · iexact H10
    isplitl [H11]; · iexact H11
    iexists B
    isplitr
    · ipureintro; exact wrote_zero _ _
    · iexact Hb
  · iintro %_ ⟨H9, H10, H11, %f, %hf, Hb⟩
    iapply Hk
    isplitr
    · ipureintro
      rw [show Scf.trips L.lb L.ub L.st = _ from hL] at hf
      exact filled_clear hB0 hf
    isplitl [H9]; · iexact H9
    isplitl [H10]; · iexact H10
    isplitl [H11]; · iexact H11
    iexact Hb

end Cert.Pillars

end
-- ==== Proof.Parts0.lean ====
/-
  The build of one block, part by part: the scan and the four channels' blocks, each built in one of two
  block memories, copied out while the next is built, and cleared once its copy has landed.
-/
module

public import proofs.«01_k».proof.Proof.Loops0
public import proofs.«01_k».proof.Proof.Trips

@[expose] public section

set_option maxRecDepth 16384

noncomputable section

namespace Cert.Pillars

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (d : Dev nD) (i : grid0.Coords) (arg2 : Memref sig .scVector .hbm S1540096 .f32) (harg2 : arg2.IsWhole) (arg3 : Memref sig .scVector .hbm S24064 .i32) (harg3 : arg3.IsWhole) (arg4 : Memref sig .scVector .hbm S24064 .i32) (harg4 : arg4.IsWhole) (arg5 : Memref sig .scVector .hbm S27426816 .f32) (harg5 : arg5.IsWhole) (arg6 : Memref sig .scVector .vmem S21168 .f32) (harg6 : arg6.IsWhole) (arg7 : Memref sig .scVector .vmem S21168 .f32) (harg7 : arg7.IsWhole) (arg8 : Memref sig .scVector .vmem S4x12032 .f32) (harg8 : arg8.IsWhole) (arg9 : Memref sig .scVector .vmem S12032 .i32) (harg9 : arg9.IsWhole) (arg10 : Memref sig .scVector .vmem S12032 .i32) (harg10 : arg10.IsWhole) (arg11 : Memref sig .scVector .vmem S12032 .i32) (harg11 : arg11.IsWhole) (arg12 : DmaSems sig S_) (arg13 : DmaSems sig S_) (v26_r0 : DmaSems sig S_) (v26_r1 : DmaSems sig S_) (v26_r2 : DmaSems sig S_) (v26_r3 : DmaSems sig S_) (v26_r4 : DmaSems sig S_) (v26_r5 : DmaSems sig S_)

/-! ## A channel's part of the map -/

/-- Where channel `r` of the tile's four starts in the flat map. -/
def chOff (i : grid0.Coords) (r : Fin 4) : Fin 1 → ℕ := ![13713408 * (i 0).val + 857088 * (i 1).val + 214272 * r.val]

theorem chOff_inb (i : grid0.Coords) (r : Fin 4) : ∀ a, chOff i r a + (![214272] : Fin 1 → ℕ) a ≤ S27426816.size a := by
  intro a
  obtain rfl : a = 0 := Fin.eq_zero a
  have h0 : (i 0).val < 2 := (i 0).isLt
  have h1 : (i 1).val < 16 := (i 1).isLt
  have := r.isLt
  change 13713408 * (i 0).val + 857088 * (i 1).val + 214272 * r.val + 214272 ≤ 27426816
  omega

/-- Channel `r`'s words. -/
abbrev chR (i : grid0.Coords) (r : Fin 4) : Rect S27426816 := Rect.unit (s := S27426816) (chOff i r) ![214272] (chOff_inb i r)

/-- Channel `r`'s words of the map, its first blocks' rows filled. -/
def chan (arg5 : Memref sig .scVector .hbm S27426816 .f32) (r : Fin 4) (pv : ℕ → ℕ) (w : ℕ → Elt F .f32) (n : ℕ) : sProp 𝕄 :=
  iprop(∃ Y : Vec F (chR i r).shape .f32, ⌜∀ j, (j 0).val < 432 * min (48 * n) 496 → Y j = canvas pv w zeroF (j 0).val⌝
    ∗ owns (thr d i) (arg5.slice (chR i r) (fun _ => rfl)) fullShare Y)

/-- What a block's copy credits. -/
def credit0 (arg5 : Memref sig .scVector .hbm S27426816 .f32) : ℕ :=
  (arg5.slice (Rect.unit (s := S27426816) ![0] S20736.size inb_S27426816_S20736_0) (fun _ => rfl)).view.dmaCredit

variable {yv pv : ℕ → ℕ} {w : ℕ → ℕ → Elt F .f32} {X8 : Vec F S4x12032 .f32} {P9 Y10 S11 : Vec F S12032 .i32} {α : Type}
  {kk : PUnit → TileProg F i α} {Q : α → sProp (MT nD τ sig (HIx 2) (Elt F) ℕ UU ℕ)}

/-- A filled block's copy to its rows of the map. -/
theorem wp_fire (buf : Memref sig .scVector .vmem S21168 .f32) (sem : DmaSem sig) (r : Fin 4) {k : ℕ} (hk : k < 11) {off : Fin 1 → ℕ}
    {inb : ∀ a, off a + S20736.size a ≤ S27426816.size a} (hoff : off = ![chOff i r 0 + 432 * row0 k]) (hp : Placed yv pv)
    {w : ℕ → Elt F .f32} {f : Vec F S21168 .f32} (hf : Filled yv pv (row0 k) w f)
    {hsrc : (buf.slice (Rect.unit (s := S21168) ![0] S20736.size inb_S21168_S20736_0) (fun _ => rfl)).view.WordExact}
    {hdst : (arg5.slice (Rect.unit (s := S27426816) off S20736.size inb) (fun _ => rfl)).view.WordExact}
    {hsem : DmaTarget.Typed (nD := nD) (p := (thr d i).2) .vmem (.dma sem) (.here (arg5.slice (Rect.unit (s := S27426816) off S20736.size inb) (fun _ => rfl)))} :
    iprop(owns (thr d i) buf fullShare f ∗ chan d i arg5 r pv w k ∗ semVal (thr d i, .dma sem) 0)
      ⊢ iprop((Transfers.Flight EC (thr d i) (.dma sem) none (credit0 arg5) iprop(chan d i arg5 r pv w (k + 1) ∗ owns (thr d i) buf fullShare f)
            -∗ wp frame (wpE (defs₀ (F := F)) 𝒱₀ (thr d i) none) Set.univ (kk ⟨⟩) Q)
          -∗ wp frame (wpE (defs₀ (F := F)) 𝒱₀ (thr d i) none) Set.univ
            (.op (.enqueueDma (buf.slice (Rect.unit (s := S21168) ![0] S20736.size inb_S21168_S20736_0) (fun _ => rfl))
              (.here (arg5.slice (Rect.unit (s := S27426816) off S20736.size inb) (fun _ => rfl))) (.dma sem) hsrc hdst hsem) kk) Q) := by
  subst hoff
  have hrow : row0 k + 48 = min (48 * (k + 1)) 496 := by unfold row0; omega
  have hrow' : row0 k ≤ min (48 * k) 496 := by unfold row0; omega
  iintro ⟨Hb, Hc, Hs⟩ Hk
  unfold chan owns
  icases Hc with ⟨%Y, %hY, %fd, %hfd, Hc⟩
  have hs : (arg5.slice (Rect.unit (s := S27426816) ![chOff i r 0 + 432 * row0 k] S20736.size inb) (fun _ => rfl)).view.set
      ⊆ (arg5.slice (chR i r) (fun _ => rfl)).view.set := by
    have hset : ∀ r hr, (arg5.slice r hr).view.set = r.set.map arg5.view.emb := fun r _ => View.set_slice _ r
    rw [hset, hset]
    refine Finset.map_subset_map.mpr fun j hj => ?_
    have hj0 : chOff i r 0 + 432 * row0 k ≤ (j 0).val ∧ (j 0).val < chOff i r 0 + 432 * row0 k + 20736 := Rect.mem_set_unit.mp hj 0
    have := row0_le k
    refine Rect.mem_set_unit.mpr fun a => ?_
    obtain rfl : a = 0 := Fin.eq_zero a
    change chOff i r 0 ≤ (j 0).val ∧ (j 0).val < chOff i r 0 + 214272
    omega
  have hD : ((arg5.slice (Rect.unit (s := S27426816) ![chOff i r 0 + 432 * row0 k] S20736.size inb) (fun _ => rfl)).view.loc (thr d i)
        ↦[(arg5.slice (chR i r) (fun _ => rfl)).view.set]{fullShare}
        ((arg5.slice (Rect.unit (s := S27426816) ![chOff i r 0 + 432 * row0 k] S20736.size inb) (fun _ => rfl)).view.write (Elt F) fd
          (fun x => f ((Rect.unit (s := S21168) ![0] S20736.size inb_S21168_S20736_0).emb x)) Finset.univ))
      ⊢ (chan d i arg5 r pv w (k + 1) : sProp 𝕄) := by
    refine BIBase.Entails.trans (written_inside (thr d i) (m := arg5)
      (r := Rect.unit (s := S27426816) ![chOff i r 0 + 432 * row0 k] S20736.size inb) (r₁ := chR i r) (hr₁ := fun _ => rfl)) ?_
    unfold chan
    iintro H
    iexists _
    isplitr
    rotate_left
    · iexact H
    · ipureintro
      intro j hj
      have he : ((chR i r).emb j 0).val = chOff i r 0 + (j 0).val := emb_unit_val (chOff_inb i r) j 0
      by_cases h : (j 0).val < 432 * row0 k
      · rw [overlay_unit_out _ _ ⟨0, .inl (by rw [he]; change _ < chOff i r 0 + 432 * row0 k; omega)⟩]
        refine (congrFun hfd j).trans (hY j (by omega))
      · have hlt : (j 0).val - 432 * row0 k < 20736 := by omega
        rw [overlay_unit_in _ _ (fun a => ⟨(j 0).val - 432 * row0 k, by obtain rfl : a = 0 := Fin.eq_zero a; exact hlt⟩)
          (fun a => by
            obtain rfl : a = 0 := Fin.eq_zero a
            rw [he]; change _ = chOff i r 0 + 432 * row0 k + ((j 0).val - 432 * row0 k); omega)]
        have hv : ∀ x : S20736.Idx, ((Rect.unit (s := S21168) ![0] S20736.size inb_S21168_S20736_0).emb x 0).val = (x 0).val := fun x =>
          (emb_unit_val (s := S21168) (off := ![0]) (size := S20736.size) inb_S21168_S20736_0 x 0).trans (Nat.zero_add _)
        refine (filled_canvas hp hf _ ((hv _).trans_lt hlt)).trans (congrArg (canvas pv w zeroF) ?_)
        rw [hv]
        change 432 * row0 k + ((j 0).val - 432 * row0 k) = (j 0).val
        omega
  have key := own_dma_slice (defs := defs₀ (F := F)) 𝒱₀ (thr d i) none EC (m := buf) (q := fullShare) (X := f) (hsrc := hsrc) (hdst := hdst)
    (hsem := hsem) (k := kk) (Q := Q) none (View.amount_pos _ _ (by decide +kernel)) hs hD
  iapply key $$ [Hb Hc Hs]
  · isplitl [Hb]
    · unfold owns; iexact Hb
    isplitl [Hc]; · iexact Hc
    iexact Hs
  iintro Hf
  iapply Hk
  unfold owns
  iexact Hf

/-! ## The checks -/

theorem chk_sel {v : IVec S16 32} (h : ∀ x, (v x).toNat < 12000) : ∀ a x, ((![v] : Fin 1 → IVec S16 32) a x).toNat < S12032.size a := by
  intro a x
  obtain rfl : a = 0 := Fin.eq_zero a
  exact lt_trans (h x) (by decide +kernel)

theorem chk_val {ch : ℕ} (hch : ch < 4) {v : IVec S16 32} (h : ∀ x, (v x).toNat < 12000) :
    ∀ a x, ((![broadcast S16 (BitVec.ofNat 32 ch), v] : Fin 2 → IVec S16 32) a x).toNat < S4x12032.size a := by
  intro a x
  match a with
  | 0 => change (BitVec.ofNat 32 ch).toNat < 4; rw [toNat_small (by omega)]; exact hch
  | 1 => exact lt_trans (h x) (by decide +kernel)

theorem chk_cell {v : IVec S16 32} (h : ∀ x, (v x).toNat ≤ 20736) : ∀ a x, ((![v] : Fin 1 → IVec S16 32) a x).toNat < S21168.size a := by
  intro a x
  obtain rfl : a = 0 := Fin.eq_zero a
  exact lt_of_le_of_lt (h x) (by decide +kernel)

/-- The scan, its trailing zeros, and channel 0's block. -/
theorem wp_part1 (arg1 : BitVec 32) (k2 : Fin k0_t2_loop.trips) (hp : Placed yv pv) (hX : Holds4 w X8) (hP : Holds1 pv P9) (hY : Holds1 yv Y10)
    {B : Vec F S21168 .f32} (hB : ZeroTo 20736 B) :
    iprop(owns (thr d i) arg8 fullShare X8 ∗ owns (thr d i) arg9 fullShare P9 ∗ owns (thr d i) arg10 fullShare Y10 ∗ owns (thr d i) arg11 fullShare S11 ∗ owns (thr d i) arg6 fullShare B)
      ⊢ (wp frame (wpE (defs₀ (F := F)) 𝒱₀ (thr d i) none) Set.univ
          (k0_part1 i arg2 harg2 arg3 harg3 arg4 harg4 arg5 harg5 arg6 harg6 arg7 harg7 arg8 harg8
            arg9 harg9 arg10 harg10 arg11 harg11 arg12 arg13 v26_r0 v26_r1 v26_r2 v26_r3 v26_r4 v26_r5 arg1 lanes 0#32 1#32 k2)
          fun r => iprop(∃ S f, ⌜r.1 = BitVec.ofNat 32 (row0 k2.val) ∧ r.2.1 = BitVec.ofNat 32 (cnt yv (row0 k2.val) 12000)
              ∧ SelAt yv (row0 k2.val) S ∧ Filled yv pv (row0 k2.val) (w 0) f⌝
            ∗ owns (thr d i) arg8 fullShare X8 ∗ owns (thr d i) arg9 fullShare P9 ∗ owns (thr d i) arg10 fullShare Y10 ∗ owns (thr d i) arg11 fullShare S ∗ owns (thr d i) arg6 fullShare f) : sProp 𝕄) := by
  have hc := cnt_le yv (row0 k2.val) 12000
  rw [k0_part1_eq_skeleton]
  unfold k0_part1_skel
  simp only [Prog.lift, Prog.bind_op, Prog.bind_ret, Prog.pure_eq_ret]
  iintro ⟨H8, H9, H10, H11, Hb⟩
  iapply (wp_scan d i arg2 harg2 arg3 harg3 arg4 harg4 arg5 harg5 arg6 harg6 arg7 harg7 arg8 harg8
            arg9 harg9 arg10 harg10 arg11 harg11 arg12 arg13 v26_r0 v26_r1 v26_r2 v26_r3 v26_r4 v26_r5
    arg1 k2 (fun n => lt_of_lt_of_le (hp n).1 (by decide)) hY) $$ [H10 H11]
  · isplitl [H10] <;> iassumption
  iintro %S' ⟨%hS', H10, H11⟩
  have hw := chk2 hc
  iapply (own_assume (defs := defs₀ (F := F)) 𝒱₀ (thr d i) none hw)
  iapply (own_load (defs := defs₀ (F := F)) 𝒱₀ (thr d i) none) $$ H11
  iintro H11
  iapply (own_store (defs := defs₀ (F := F)) 𝒱₀ (thr d i) none) $$ H11
  iintro H11
  have hS := selAt_of_listed (F := F) hS' (off5_eq hc) (k0_off5_inb _ hw)
  iapply (wp_build d i arg8 arg9 arg10 arg11 arg6 0 (yv := yv) (pv := pv) (w := w) (y0 := row0 k2.val) hp (row0_le _) (by decide) hS hP hX hB
    (main_trips (cnt_le yv (row0 k2.val) 12000)) (rest_trips (cnt_le yv (row0 k2.val) 12000))
    (fun k => k0_off6_inb _ hw k)
    (cA := fun _ => k0_chk3 (broadcast S16 (BitVec.ofNat 32 0))) (dA := fun _ => k0_chk3.dec _)
    (hA1 := fun _ v h => k0_idx2_inb _ v h) (hA2 := fun _ v h => k0_idx4_inb _ v h)
    (cB := fun _ => k0_chk4) (dB := fun _ => k0_chk4.dec) (hB := fun _ v h => k0_idx5_inb v h)
    (fun _ _ h => ⟨chk_sel h, chk_sel h, chk_val (by decide) h⟩) (fun _ _ h => chk_cell h)
    (fun _ _ => by rw [← row0_eq k2]; rfl)) $$ [H8 H9 H10 H11 Hb]
  · isplitl [H8]; · iexact H8
    isplitl [H9]; · iexact H9
    isplitl [H10]; · iexact H10
    isplitl [H11]; · iexact H11
    iexact Hb
  iintro %f ⟨%hf, H8, H9, H10, H11, Hb⟩
  rw [wp_ret]
  imodintro
  iexists _, f
  isplitr
  rotate_left
  · isplitl [H8]; · iexact H8
    isplitl [H9]; · iexact H9
    isplitl [H10]; · iexact H10
    isplitl [H11]; · iexact H11
    iexact Hb
  · ipureintro; exact ⟨row0_eq k2, rfl, hS, hf⟩

theorem off_row (i : grid0.Coords) (k : ℕ) (r : Fin 4) {c : ℕ} (hc : 214272 * r.val = c) {off : Fin 1 → ℕ}
    (h : off 0 = 13713408 * (i 0).val + 857088 * (i 1).val + 432 * min (48 * k) 448 + c) : off = ![chOff i r 0 + 432 * row0 k] := by
  subst hc
  funext a
  obtain rfl : a = 0 := Fin.eq_zero a
  rw [h]
  simp only [chOff, row0, Matrix.cons_val_zero]
  omega

theorem off_row_8 (i : grid0.Coords) (k2 : Fin k0_t2_loop.trips) : k0_off8 i k2 = ![chOff i 0 0 + 432 * row0 k2.val] :=
  off_row i k2.val 0 (c := 0) (by decide) (congrFun (k0_off8_eq i k2) 0)

theorem off_row_11 (i : grid0.Coords) (k2 : Fin k0_t2_loop.trips) : k0_off11 i k2 = ![chOff i 1 0 + 432 * row0 k2.val] :=
  off_row i k2.val 1 (c := 214272) (by decide) (congrFun (k0_off11_eq i k2) 0)

theorem off_row_16 (i : grid0.Coords) (k2 : Fin k0_t2_loop.trips) : k0_off16 i k2 = ![chOff i 2 0 + 432 * row0 k2.val] :=
  off_row i k2.val 2 (c := 428544) (by decide) (congrFun (k0_off16_eq i k2) 0)

theorem off_row_21 (i : grid0.Coords) (k2 : Fin k0_t2_loop.trips) : k0_off21 i k2 = ![chOff i 3 0 + 432 * row0 k2.val] :=
  off_row i k2.val 3 (c := 642816) (by decide) (congrFun (k0_off21_eq i k2) 0)

end Cert.Pillars

end
-- ==== Proof.Part02.lean ====
/-
  The build of one block: its first two channels.
-/
module

public import proofs.«01_k».proof.Proof.Parts0

@[expose] public section

set_option maxRecDepth 16384

noncomputable section

namespace Cert.Pillars

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (d : Dev nD) (i : grid0.Coords) (arg2 : Memref sig .scVector .hbm S1540096 .f32) (harg2 : arg2.IsWhole) (arg3 : Memref sig .scVector .hbm S24064 .i32) (harg3 : arg3.IsWhole) (arg4 : Memref sig .scVector .hbm S24064 .i32) (harg4 : arg4.IsWhole) (arg5 : Memref sig .scVector .hbm S27426816 .f32) (harg5 : arg5.IsWhole) (arg6 : Memref sig .scVector .vmem S21168 .f32) (harg6 : arg6.IsWhole) (arg7 : Memref sig .scVector .vmem S21168 .f32) (harg7 : arg7.IsWhole) (arg8 : Memref sig .scVector .vmem S4x12032 .f32) (harg8 : arg8.IsWhole) (arg9 : Memref sig .scVector .vmem S12032 .i32) (harg9 : arg9.IsWhole) (arg10 : Memref sig .scVector .vmem S12032 .i32) (harg10 : arg10.IsWhole) (arg11 : Memref sig .scVector .vmem S12032 .i32) (harg11 : arg11.IsWhole) (arg12 : DmaSems sig S_) (arg13 : DmaSems sig S_) (v26_r0 : DmaSems sig S_) (v26_r1 : DmaSems sig S_) (v26_r2 : DmaSems sig S_) (v26_r3 : DmaSems sig S_) (v26_r4 : DmaSems sig S_) (v26_r5 : DmaSems sig S_)

variable {yv pv : ℕ → ℕ} {w : ℕ → ℕ → Elt F .f32} {X8 : Vec F S4x12032 .f32} {P9 Y10 S11 : Vec F S12032 .i32} {α : Type}
  {kk : PUnit → TileProg F i α} {Q : α → sProp (MT nD τ sig (HIx 2) (Elt F) ℕ UU ℕ)}

/-- Channel 0's copy started, channel 1 built and started, channel 0's landed. -/
theorem wp_part2 (arg0 arg1 v51 v58 : BitVec 32) (k2 : Fin k0_t2_loop.trips) (hk : k2.val < 11) (hp : Placed yv pv) (hX : Holds4 w X8) (hP : Holds1 pv P9)
    {O : CellTallies nD τ sig (HIx 2)} {W₀ : Waits sig (HIx 2)} (hw : k0_chk2 (BitVec.ofNat 32 (cnt yv (row0 k2.val) 12000)))
    (hS : SelAt yv (row0 k2.val) S11)
    {f g : Vec F S21168 .f32} (hf : Filled yv pv (row0 k2.val) (w 0) f) (hB : ZeroTo 20736 g) :
    iprop(Transfers.MayWaits (thr d i) none O ∗ owing (thr d i) O W₀ ∗ owns (thr d i) arg8 fullShare X8 ∗ owns (thr d i) arg9 fullShare P9 ∗ owns (thr d i) arg10 fullShare Y10 ∗ owns (thr d i) arg11 fullShare S11 ∗ owns (thr d i) arg6 fullShare f ∗ owns (thr d i) arg7 fullShare g ∗ chan d i arg5 0 pv (w 0) k2.val ∗ chan d i arg5 1 pv (w 1) k2.val ∗ semVal (thr d i, .dma arg12.sem) 0 ∗ semVal (thr d i, .dma arg13.sem) 0)
      ⊢ (wp frame (wpE (defs₀ (F := F)) 𝒱₀ (thr d i) none) Set.univ
          (k0_part2 i arg2 harg2 arg3 harg3 arg4 harg4 arg5 harg5 arg6 harg6 arg7 harg7 arg8 harg8
            arg9 harg9 arg10 harg10 arg11 harg11 arg12 arg13 v26_r0 v26_r1 v26_r2 v26_r3 v26_r4 v26_r5 arg0 arg1 lanes k2 (BitVec.ofNat 32 (row0 k2.val)) (BitVec.ofNat 32 (cnt yv (row0 k2.val) 12000)) hw v51 v58)
          fun r => iprop(∃ g', ⌜r.1 = 0#32 ∧ Filled yv pv (row0 k2.val) (w 1) g'⌝ ∗ owing (thr d i) O W₀ ∗ owns (thr d i) arg8 fullShare X8 ∗ owns (thr d i) arg9 fullShare P9 ∗ owns (thr d i) arg10 fullShare Y10 ∗ owns (thr d i) arg11 fullShare S11 ∗ owns (thr d i) arg6 fullShare f ∗ chan d i arg5 0 pv (w 0) (k2.val + 1) ∗ semVal (thr d i, .dma arg12.sem) 0 ∗ Transfers.Flight EC (thr d i) (.dma arg13.sem) none (credit0 arg5) iprop(chan d i arg5 1 pv (w 1) (k2.val + 1) ∗ owns (thr d i) arg7 fullShare g')) : sProp 𝕄) := by
  have hrest := rest_trips (cnt_le yv (row0 k2.val) 12000)
  rw [k0_part2_eq_skeleton]
  unfold k0_part2_skel
  simp only [Prog.lift, Prog.bind_op, Prog.bind_ret, Prog.pure_eq_ret]
  iintro ⟨#Hmw, HO, H8, H9, H10, H11, H6, Hb, Hc0, Hc, Hs12, Hs⟩
  iapply (wp_fire d i (arg5 := arg5) arg6 arg12.sem 0 hk (off := k0_off8 i k2) (inb := k0_off8_inb i k2)
    (off_row_8 i k2) hp hf) $$ [H6 Hc0 Hs12]
  · isplitl [H6]; · iexact H6
    isplitl [Hc0]; · iexact Hc0
    iexact Hs12
  iintro Hf
  iapply (wp_build d i arg8 arg9 arg10 arg11 arg7 1 (yv := yv) (pv := pv) (w := w) (y0 := row0 k2.val) hp (row0_le _) (by decide) hS hP hX hB
    (main_trips (cnt_le yv (row0 k2.val) 12000)) (rest_trips (cnt_le yv (row0 k2.val) 12000))
    (fun k => k0_off9_inb _ hw k)
    (cA := fun _ => k0_chk7 (broadcast S16 (BitVec.ofNat 32 1))) (dA := fun _ => k0_chk7.dec _)
    (hA1 := fun _ v h => k0_idx10_inb _ v h) (hA2 := fun _ v h => k0_idx12_inb _ v h)
    (cB := fun _ => k0_chk8) (dB := fun _ => k0_chk8.dec) (hB := fun _ v h => k0_idx13_inb v h)
    (fun _ _ h => ⟨chk_sel h, chk_sel h, chk_val (by decide) h⟩) (fun _ _ h => chk_cell h)
    (fun _ _ => rfl)) $$ [H8 H9 H10 H11 Hb]
  · isplitl [H8]; · iexact H8
    isplitl [H9]; · iexact H9
    isplitl [H10]; · iexact H10
    isplitl [H11]; · iexact H11
    iexact Hb
  iintro %g' ⟨%hg, H8, H9, H10, H11, Hb⟩
  iapply (wp_fire d i (arg5 := arg5) arg7 arg13.sem 1 hk (off := k0_off11 i k2) (inb := k0_off11_inb i k2)
    (off_row_11 i k2) hp hg) $$ [Hb Hc Hs]
  · isplitl [Hb]; · iexact Hb
    isplitl [Hc]; · iexact Hc
    iexact Hs
  iintro Hf13
  iapply (own_wait (defs := defs₀ (F := F)) 𝒱₀ (thr d i) none EC rfl) $$ [Hf HO]
  · isplitl [Hf]; · iexact Hf
    isplitl [HO]; · iexact HO
    iexact Hmw
  iintro ⟨⟨Hc, H6⟩, Hs12, HO⟩
  rw [wp_ret]
  imodintro
  iexists g'
  isplitr
  rotate_left
  · isplitl [HO]; · iexact HO
    isplitl [H8]; · iexact H8
    isplitl [H9]; · iexact H9
    isplitl [H10]; · iexact H10
    isplitl [H11]; · iexact H11
    isplitl [H6]; · iexact H6
    isplitl [Hc]; · iexact Hc
    isplitl [Hs12]; · iexact Hs12
    iexact Hf13
  · ipureintro; exact ⟨rfl, hg⟩

end Cert.Pillars

end
-- ==== Proof.Part03.lean ====
/-
  The build of one block: its third channel.
-/
module

public import proofs.«01_k».proof.Proof.Parts0

@[expose] public section

set_option maxRecDepth 16384

noncomputable section

namespace Cert.Pillars

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (d : Dev nD) (i : grid0.Coords) (arg2 : Memref sig .scVector .hbm S1540096 .f32) (harg2 : arg2.IsWhole) (arg3 : Memref sig .scVector .hbm S24064 .i32) (harg3 : arg3.IsWhole) (arg4 : Memref sig .scVector .hbm S24064 .i32) (harg4 : arg4.IsWhole) (arg5 : Memref sig .scVector .hbm S27426816 .f32) (harg5 : arg5.IsWhole) (arg6 : Memref sig .scVector .vmem S21168 .f32) (harg6 : arg6.IsWhole) (arg7 : Memref sig .scVector .vmem S21168 .f32) (harg7 : arg7.IsWhole) (arg8 : Memref sig .scVector .vmem S4x12032 .f32) (harg8 : arg8.IsWhole) (arg9 : Memref sig .scVector .vmem S12032 .i32) (harg9 : arg9.IsWhole) (arg10 : Memref sig .scVector .vmem S12032 .i32) (harg10 : arg10.IsWhole) (arg11 : Memref sig .scVector .vmem S12032 .i32) (harg11 : arg11.IsWhole) (arg12 : DmaSems sig S_) (arg13 : DmaSems sig S_) (v26_r0 : DmaSems sig S_) (v26_r1 : DmaSems sig S_) (v26_r2 : DmaSems sig S_) (v26_r3 : DmaSems sig S_) (v26_r4 : DmaSems sig S_) (v26_r5 : DmaSems sig S_)

variable {yv pv : ℕ → ℕ} {w : ℕ → ℕ → Elt F .f32} {X8 : Vec F S4x12032 .f32} {P9 Y10 S11 : Vec F S12032 .i32} {α : Type}
  {kk : PUnit → TileProg F i α} {Q : α → sProp (MT nD τ sig (HIx 2) (Elt F) ℕ UU ℕ)}

/-- Channel 0's block cleared, channel 2 built there and started, channel 1's copy landed, its block cleared. -/
theorem wp_part3 (arg0 arg1 v51 v90 : BitVec 32) (k2 : Fin k0_t2_loop.trips) (hk : k2.val < 11) (hp : Placed yv pv) (hX : Holds4 w X8) (hP : Holds1 pv P9)
    {O : CellTallies nD τ sig (HIx 2)} {W₀ : Waits sig (HIx 2)} (hw : k0_chk2 (BitVec.ofNat 32 (cnt yv (row0 k2.val) 12000)))
    (hS : SelAt yv (row0 k2.val) S11)
    {f g : Vec F S21168 .f32} (hF : Filled yv pv (row0 k2.val) (w 0) f) (hg : Filled yv pv (row0 k2.val) (w 1) g) :
    iprop(Transfers.MayWaits (thr d i) none O ∗ owing (thr d i) O W₀ ∗ owns (thr d i) arg8 fullShare X8 ∗ owns (thr d i) arg9 fullShare P9 ∗ owns (thr d i) arg10 fullShare Y10 ∗ owns (thr d i) arg11 fullShare S11 ∗ owns (thr d i) arg6 fullShare f ∗ chan d i arg5 2 pv (w 2) k2.val ∗ semVal (thr d i, .dma arg12.sem) 0 ∗ Transfers.Flight EC (thr d i) (.dma arg13.sem) none (credit0 arg5) iprop(chan d i arg5 1 pv (w 1) (k2.val + 1) ∗ owns (thr d i) arg7 fullShare g))
      ⊢ (wp frame (wpE (defs₀ (F := F)) 𝒱₀ (thr d i) none) Set.univ
          (k0_part3 i arg2 harg2 arg3 harg3 arg4 harg4 arg5 harg5 arg6 harg6 arg7 harg7 arg8 harg8
            arg9 harg9 arg10 harg10 arg11 harg11 arg12 arg13 v26_r0 v26_r1 v26_r2 v26_r3 v26_r4 v26_r5 arg0 arg1 lanes (k0_pay1 (F := F)) k2 (BitVec.ofNat 32 (row0 k2.val)) (BitVec.ofNat 32 (cnt yv (row0 k2.val) 12000)) hw v51 0#32 v90)
          fun r => iprop(∃ f' g', ⌜Filled yv pv (row0 k2.val) (w 2) f' ∧ ZeroTo 20736 g'⌝ ∗ owing (thr d i) O W₀ ∗ owns (thr d i) arg8 fullShare X8 ∗ owns (thr d i) arg9 fullShare P9 ∗ owns (thr d i) arg10 fullShare Y10 ∗ owns (thr d i) arg11 fullShare S11 ∗ Transfers.Flight EC (thr d i) (.dma arg12.sem) none (credit0 arg5) iprop(chan d i arg5 2 pv (w 2) (k2.val + 1) ∗ owns (thr d i) arg6 fullShare f') ∗ chan d i arg5 1 pv (w 1) (k2.val + 1) ∗ semVal (thr d i, .dma arg13.sem) 0 ∗ owns (thr d i) arg7 fullShare g') : sProp 𝕄) := by
  have hrest := rest_trips (cnt_le yv (row0 k2.val) 12000)
  rw [k0_part3_eq_skeleton]
  unfold k0_part3_skel
  simp only [Prog.lift, Prog.bind_op, Prog.bind_ret, Prog.pure_eq_ret]
  iintro ⟨#Hmw, HO, H8, H9, H10, H11, Hb, Hc, Hs, Hf⟩
  iapply (wp_clear d i arg9 arg10 arg11 arg6 (yv := yv) (pv := pv) (y0 := row0 k2.val) hp (row0_le _) hS hP hF
    (main_trips (cnt_le yv (row0 k2.val) 12000))
    (fun k => k0_off12_inb _ hw k)
    (cA := fun _ => k0_chk11) (dA := fun _ => k0_chk11.dec) (hA1 := fun _ v h => k0_idx18_inb v h)
    (cB := fun _ => k0_chk12) (dB := fun _ => k0_chk12.dec) (hB := fun _ v h => k0_idx20_inb v h)
    (fun _ _ h => ⟨chk_sel h, chk_sel h⟩) (fun _ _ h => chk_cell h)
    (fun _ _ => rfl)) $$ [H9 H10 H11 Hb]
  · isplitl [H9]; · iexact H9
    isplitl [H10]; · iexact H10
    isplitl [H11]; · iexact H11
    iexact Hb
  iintro %f₁ ⟨%hB, H9, H10, H11, Hb⟩
  iapply (wp_rest d i hrest)
  iapply (wp_build d i arg8 arg9 arg10 arg11 arg6 2 (yv := yv) (pv := pv) (w := w) (y0 := row0 k2.val) hp (row0_le _) (by decide) hS hP hX hB
    (main_trips (cnt_le yv (row0 k2.val) 12000)) (rest_trips (cnt_le yv (row0 k2.val) 12000))
    (fun k => k0_off14_inb _ hw k)
    (cA := fun _ => k0_chk15 (broadcast S16 (BitVec.ofNat 32 2))) (dA := fun _ => k0_chk15.dec _)
    (hA1 := fun _ v h => k0_idx24_inb _ v h) (hA2 := fun _ v h => k0_idx26_inb _ v h)
    (cB := fun _ => k0_chk16) (dB := fun _ => k0_chk16.dec) (hB := fun _ v h => k0_idx27_inb v h)
    (fun _ _ h => ⟨chk_sel h, chk_sel h, chk_val (by decide) h⟩) (fun _ _ h => chk_cell h)
    (fun _ _ => rfl)) $$ [H8 H9 H10 H11 Hb]
  · isplitl [H8]; · iexact H8
    isplitl [H9]; · iexact H9
    isplitl [H10]; · iexact H10
    isplitl [H11]; · iexact H11
    iexact Hb
  iintro %f' ⟨%hf', H8, H9, H10, H11, Hb⟩
  iapply (wp_fire d i (arg5 := arg5) arg6 arg12.sem 2 hk (off := k0_off16 i k2) (inb := k0_off16_inb i k2)
    (off_row_16 i k2) hp hf') $$ [Hb Hc Hs]
  · isplitl [Hb]; · iexact Hb
    isplitl [Hc]; · iexact Hc
    iexact Hs
  iintro Hf12
  iapply (own_wait (defs := defs₀ (F := F)) 𝒱₀ (thr d i) none EC rfl) $$ [Hf HO]
  · isplitl [Hf]; · iexact Hf
    isplitl [HO]; · iexact HO
    iexact Hmw
  iintro ⟨⟨Hc, Hb⟩, Hs, HO⟩
  clear hF hB
  have hF := hg
  iapply (wp_clear d i arg9 arg10 arg11 arg7 (yv := yv) (pv := pv) (y0 := row0 k2.val) hp (row0_le _) hS hP hF
    (main_trips (cnt_le yv (row0 k2.val) 12000))
    (fun k => k0_off17_inb _ hw k)
    (cA := fun _ => k0_chk19) (dA := fun _ => k0_chk19.dec) (hA1 := fun _ v h => k0_idx32_inb v h)
    (cB := fun _ => k0_chk20) (dB := fun _ => k0_chk20.dec) (hB := fun _ v h => k0_idx34_inb v h)
    (fun _ _ h => ⟨chk_sel h, chk_sel h⟩) (fun _ _ h => chk_cell h)
    (fun _ _ => rfl)) $$ [H9 H10 H11 Hb]
  · isplitl [H9]; · iexact H9
    isplitl [H10]; · iexact H10
    isplitl [H11]; · iexact H11
    iexact Hb
  iintro %g' ⟨%hg', H9, H10, H11, Hb⟩
  rw [wp_ret]
  imodintro
  iexists f', g'
  isplitr
  rotate_left
  · isplitl [HO]; · iexact HO
    isplitl [H8]; · iexact H8
    isplitl [H9]; · iexact H9
    isplitl [H10]; · iexact H10
    isplitl [H11]; · iexact H11
    isplitl [Hf12]; · iexact Hf12
    isplitl [Hc]; · iexact Hc
    isplitl [Hs]; · iexact Hs
    iexact Hb
  · ipureintro; exact ⟨hf', hg'⟩

end Cert.Pillars

end
-- ==== Proof.Part04.lean ====
/-
  The build of one block: its fourth channel.
-/
module

public import proofs.«01_k».proof.Proof.Parts0

@[expose] public section

set_option maxRecDepth 16384

noncomputable section

namespace Cert.Pillars

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (d : Dev nD) (i : grid0.Coords) (arg2 : Memref sig .scVector .hbm S1540096 .f32) (harg2 : arg2.IsWhole) (arg3 : Memref sig .scVector .hbm S24064 .i32) (harg3 : arg3.IsWhole) (arg4 : Memref sig .scVector .hbm S24064 .i32) (harg4 : arg4.IsWhole) (arg5 : Memref sig .scVector .hbm S27426816 .f32) (harg5 : arg5.IsWhole) (arg6 : Memref sig .scVector .vmem S21168 .f32) (harg6 : arg6.IsWhole) (arg7 : Memref sig .scVector .vmem S21168 .f32) (harg7 : arg7.IsWhole) (arg8 : Memref sig .scVector .vmem S4x12032 .f32) (harg8 : arg8.IsWhole) (arg9 : Memref sig .scVector .vmem S12032 .i32) (harg9 : arg9.IsWhole) (arg10 : Memref sig .scVector .vmem S12032 .i32) (harg10 : arg10.IsWhole) (arg11 : Memref sig .scVector .vmem S12032 .i32) (harg11 : arg11.IsWhole) (arg12 : DmaSems sig S_) (arg13 : DmaSems sig S_) (v26_r0 : DmaSems sig S_) (v26_r1 : DmaSems sig S_) (v26_r2 : DmaSems sig S_) (v26_r3 : DmaSems sig S_) (v26_r4 : DmaSems sig S_) (v26_r5 : DmaSems sig S_)

variable {yv pv : ℕ → ℕ} {w : ℕ → ℕ → Elt F .f32} {X8 : Vec F S4x12032 .f32} {P9 Y10 S11 : Vec F S12032 .i32} {α : Type}
  {kk : PUnit → TileProg F i α} {Q : α → sProp (MT nD τ sig (HIx 2) (Elt F) ℕ UU ℕ)}

/-- Channel 3 built and started, channel 2's copy landed, its block cleared. -/
theorem wp_part4 (arg0 arg1 v51 v120 c1 : BitVec 32) (k2 : Fin k0_t2_loop.trips) (hk : k2.val < 11) (hp : Placed yv pv) (hX : Holds4 w X8) (hP : Holds1 pv P9)
    {O : CellTallies nD τ sig (HIx 2)} {W₀ : Waits sig (HIx 2)} (hw : k0_chk2 (BitVec.ofNat 32 (cnt yv (row0 k2.val) 12000)))
    (hS : SelAt yv (row0 k2.val) S11)
    {f g : Vec F S21168 .f32} (hF : Filled yv pv (row0 k2.val) (w 2) f) (hB : ZeroTo 20736 g) :
    iprop(Transfers.MayWaits (thr d i) none O ∗ owing (thr d i) O W₀ ∗ owns (thr d i) arg8 fullShare X8 ∗ owns (thr d i) arg9 fullShare P9 ∗ owns (thr d i) arg10 fullShare Y10 ∗ owns (thr d i) arg11 fullShare S11 ∗ Transfers.Flight EC (thr d i) (.dma arg12.sem) none (credit0 arg5) iprop(chan d i arg5 2 pv (w 2) (k2.val + 1) ∗ owns (thr d i) arg6 fullShare f) ∗ chan d i arg5 3 pv (w 3) k2.val ∗ semVal (thr d i, .dma arg13.sem) 0 ∗ owns (thr d i) arg7 fullShare g)
      ⊢ (wp frame (wpE (defs₀ (F := F)) 𝒱₀ (thr d i) none) Set.univ
          (k0_part4 i arg2 harg2 arg3 harg3 arg4 harg4 arg5 harg5 arg6 harg6 arg7 harg7 arg8 harg8
            arg9 harg9 arg10 harg10 arg11 harg11 arg12 arg13 v26_r0 v26_r1 v26_r2 v26_r3 v26_r4 v26_r5 arg0 arg1 lanes (k0_pay1 (F := F)) k2 (BitVec.ofNat 32 (row0 k2.val)) (BitVec.ofNat 32 (cnt yv (row0 k2.val) 12000)) hw v51 v120 c1)
          fun r => iprop(∃ f' g', ⌜ZeroTo 20736 f' ∧ Filled yv pv (row0 k2.val) (w 3) g'⌝ ∗ owing (thr d i) O W₀ ∗ owns (thr d i) arg8 fullShare X8 ∗ owns (thr d i) arg9 fullShare P9 ∗ owns (thr d i) arg10 fullShare Y10 ∗ owns (thr d i) arg11 fullShare S11 ∗ Transfers.Flight EC (thr d i) (.dma arg13.sem) none (credit0 arg5) iprop(chan d i arg5 3 pv (w 3) (k2.val + 1) ∗ owns (thr d i) arg7 fullShare g') ∗ chan d i arg5 2 pv (w 2) (k2.val + 1) ∗ semVal (thr d i, .dma arg12.sem) 0 ∗ owns (thr d i) arg6 fullShare f') : sProp 𝕄) := by
  have hrest := rest_trips (cnt_le yv (row0 k2.val) 12000)
  rw [k0_part4_eq_skeleton]
  unfold k0_part4_skel
  simp only [Prog.lift, Prog.bind_op, Prog.bind_ret, Prog.pure_eq_ret]
  iintro ⟨#Hmw, HO, H8, H9, H10, H11, Hf, Hc, Hs, Hb⟩
  iapply (wp_rest d i hrest)
  iapply (wp_build d i arg8 arg9 arg10 arg11 arg7 3 (yv := yv) (pv := pv) (w := w) (y0 := row0 k2.val) hp (row0_le _) (by decide) hS hP hX hB
    (main_trips (cnt_le yv (row0 k2.val) 12000)) (rest_trips (cnt_le yv (row0 k2.val) 12000))
    (fun k => k0_off19_inb _ hw k)
    (cA := fun _ => k0_chk23 (broadcast S16 (BitVec.ofNat 32 3))) (dA := fun _ => k0_chk23.dec _)
    (hA1 := fun _ v h => k0_idx38_inb _ v h) (hA2 := fun _ v h => k0_idx40_inb _ v h)
    (cB := fun _ => k0_chk24) (dB := fun _ => k0_chk24.dec) (hB := fun _ v h => k0_idx41_inb v h)
    (fun _ _ h => ⟨chk_sel h, chk_sel h, chk_val (by decide) h⟩) (fun _ _ h => chk_cell h)
    (fun _ _ => rfl)) $$ [H8 H9 H10 H11 Hb]
  · isplitl [H8]; · iexact H8
    isplitl [H9]; · iexact H9
    isplitl [H10]; · iexact H10
    isplitl [H11]; · iexact H11
    iexact Hb
  iintro %g' ⟨%hg', H8, H9, H10, H11, Hb⟩
  iapply (wp_fire d i (arg5 := arg5) arg7 arg13.sem 3 hk (off := k0_off21 i k2) (inb := k0_off21_inb i k2)
    (off_row_21 i k2) hp hg') $$ [Hb Hc Hs]
  · isplitl [Hb]; · iexact Hb
    isplitl [Hc]; · iexact Hc
    iexact Hs
  iintro Hf13
  iapply (own_wait (defs := defs₀ (F := F)) 𝒱₀ (thr d i) none EC rfl) $$ [Hf HO]
  · isplitl [Hf]; · iexact Hf
    isplitl [HO]; · iexact HO
    iexact Hmw
  iintro ⟨⟨Hc, Hb⟩, Hs, HO⟩
  iapply (wp_clear d i arg9 arg10 arg11 arg6 (yv := yv) (pv := pv) (y0 := row0 k2.val) hp (row0_le _) hS hP hF
    (main_trips (cnt_le yv (row0 k2.val) 12000))
    (fun k => k0_off22_inb _ hw k)
    (cA := fun _ => k0_chk27) (dA := fun _ => k0_chk27.dec) (hA1 := fun _ v h => k0_idx46_inb v h)
    (cB := fun _ => k0_chk28) (dB := fun _ => k0_chk28.dec) (hB := fun _ v h => k0_idx48_inb v h)
    (fun _ _ h => ⟨chk_sel h, chk_sel h⟩) (fun _ _ h => chk_cell h)
    (fun _ _ => rfl)) $$ [H9 H10 H11 Hb]
  · isplitl [H9]; · iexact H9
    isplitl [H10]; · iexact H10
    isplitl [H11]; · iexact H11
    iexact Hb
  iintro %f' ⟨%hf', H9, H10, H11, Hb⟩
  iapply (wp_rest d i hrest)
  rw [wp_ret]
  imodintro
  iexists f', g'
  isplitr
  rotate_left
  · isplitl [HO]; · iexact HO
    isplitl [H8]; · iexact H8
    isplitl [H9]; · iexact H9
    isplitl [H10]; · iexact H10
    isplitl [H11]; · iexact H11
    isplitl [Hf13]; · iexact Hf13
    isplitl [Hc]; · iexact Hc
    isplitl [Hs]; · iexact Hs
    iexact Hb
  · ipureintro; exact ⟨hf', hg'⟩

end Cert.Pillars

end
-- ==== Proof.Block0.lean ====
/-
  The build of one block from its parts.
-/
module

public import proofs.«01_k».proof.Proof.Part02
public import proofs.«01_k».proof.Proof.Part03
public import proofs.«01_k».proof.Proof.Part04

@[expose] public section

set_option maxRecDepth 16384

noncomputable section

namespace Cert.Pillars

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (d : Dev nD) (i : grid0.Coords) (arg2 : Memref sig .scVector .hbm S1540096 .f32) (harg2 : arg2.IsWhole) (arg3 : Memref sig .scVector .hbm S24064 .i32) (harg3 : arg3.IsWhole) (arg4 : Memref sig .scVector .hbm S24064 .i32) (harg4 : arg4.IsWhole) (arg5 : Memref sig .scVector .hbm S27426816 .f32) (harg5 : arg5.IsWhole) (arg6 : Memref sig .scVector .vmem S21168 .f32) (harg6 : arg6.IsWhole) (arg7 : Memref sig .scVector .vmem S21168 .f32) (harg7 : arg7.IsWhole) (arg8 : Memref sig .scVector .vmem S4x12032 .f32) (harg8 : arg8.IsWhole) (arg9 : Memref sig .scVector .vmem S12032 .i32) (harg9 : arg9.IsWhole) (arg10 : Memref sig .scVector .vmem S12032 .i32) (harg10 : arg10.IsWhole) (arg11 : Memref sig .scVector .vmem S12032 .i32) (harg11 : arg11.IsWhole) (arg12 : DmaSems sig S_) (arg13 : DmaSems sig S_) (v26_r0 : DmaSems sig S_) (v26_r1 : DmaSems sig S_) (v26_r2 : DmaSems sig S_) (v26_r3 : DmaSems sig S_) (v26_r4 : DmaSems sig S_) (v26_r5 : DmaSems sig S_)

variable {yv pv : ℕ → ℕ} {w : ℕ → ℕ → Elt F .f32} {X8 : Vec F S4x12032 .f32} {P9 Y10 S11 : Vec F S12032 .i32} {α : Type}
  {kk : PUnit → TileProg F i α} {Q : α → sProp (MT nD τ sig (HIx 2) (Elt F) ℕ UU ℕ)}

variable {O : CellTallies nD τ sig (HIx 2)} {W₀ : Waits sig (HIx 2)}

/-- One part after another. -/
theorem wp_seq {β : Type} {p : TileProg F i β} {R : β → sProp (MT nD τ sig (HIx 2) (Elt F) ℕ UU ℕ)} {kk : β → TileProg F i α}
    {P : sProp (MT nD τ sig (HIx 2) (Elt F) ℕ UU ℕ)} (h : P ⊢ wp frame (wpE (defs₀ (F := F)) 𝒱₀ (thr d i) none) Set.univ p R) :
    P ⊢ (iprop((∀ r, R r -∗ wp frame (wpE (defs₀ (F := F)) 𝒱₀ (thr d i) none) Set.univ (kk r) Q) -∗ wp frame (wpE (defs₀ (F := F)) 𝒱₀ (thr d i) none) Set.univ (p >>= kk) Q) : sProp 𝕄) := by
  rw [wp_bind]
  iintro HP Hk
  iapply (wp_wand frame (wpE (defs₀ (F := F)) 𝒱₀ (thr d i) none) Set.univ (p := p) (Q := R)) $$ [HP]
  · iapply h $$ HP
  · iexact Hk

/-- What a tile holds between two blocks. -/
def between (arg5 : Memref sig .scVector .hbm S27426816 .f32) (arg6 arg7 : Memref sig .scVector .vmem S21168 .f32)
    (arg8 : Memref sig .scVector .vmem S4x12032 .f32) (arg9 arg10 arg11 : Memref sig .scVector .vmem S12032 .i32) (arg12 arg13 : DmaSems sig S_)
    (pv : ℕ → ℕ) (w : ℕ → ℕ → Elt F .f32) (X8 : Vec F S4x12032 .f32) (P9 Y10 : Vec F S12032 .i32)
    (O : CellTallies nD τ sig (HIx 2)) (W₀ : Waits sig (HIx 2)) (n : ℕ) : sProp 𝕄 :=
  iprop(owing (thr d i) O W₀ ∗ owns (thr d i) arg8 fullShare X8 ∗ owns (thr d i) arg9 fullShare P9 ∗ owns (thr d i) arg10 fullShare Y10 ∗ (∃ S, owns (thr d i) arg11 fullShare S) ∗ (∃ f, ⌜ZeroTo 20736 f⌝ ∗ owns (thr d i) arg6 fullShare f) ∗ (∃ g, ⌜ZeroTo 20736 g⌝ ∗ owns (thr d i) arg7 fullShare g)
      ∗ chan d i arg5 0 pv (w 0) n ∗ chan d i arg5 1 pv (w 1) n ∗ chan d i arg5 2 pv (w 2) n ∗ chan d i arg5 3 pv (w 3) n ∗ semVal (thr d i, .dma arg12.sem) 0 ∗ semVal (thr d i, .dma arg13.sem) 0)

/-- One block. -/
theorem wp_block (arg0 arg1 : BitVec 32) (k2 : Fin k0_t2_loop.trips) (hk : k2.val < 11) (hp : Placed yv pv) (hX : Holds4 w X8)
    (hP : Holds1 pv P9) (hY : Holds1 yv Y10) :
    iprop(Transfers.MayWaits (thr d i) none O ∗ between d i arg5 arg6 arg7 arg8 arg9 arg10 arg11 arg12 arg13 pv w X8 P9 Y10 O W₀ k2.val)
      ⊢ (wp frame (wpE (defs₀ (F := F)) 𝒱₀ (thr d i) none) Set.univ
          (k0_t2_body i arg2 harg2 arg3 harg3 arg4 harg4 arg5 harg5 arg6 harg6 arg7 harg7 arg8 harg8
            arg9 harg9 arg10 harg10 arg11 harg11 arg12 arg13 v26_r0 v26_r1 v26_r2 v26_r3 v26_r4 v26_r5 arg0 arg1 lanes k2 ⟨⟩)
          fun _ => between d i arg5 arg6 arg7 arg8 arg9 arg10 arg11 arg12 arg13 pv w X8 P9 Y10 O W₀ (k2.val + 1) : sProp 𝕄) := by
  have hrest := rest_trips (cnt_le yv (row0 k2.val) 12000)
  unfold k0_t2_body between
  iintro ⟨#Hmw, HO, H8, H9, H10, ⟨%S₀, H11⟩, ⟨%f₀, %hf₀, H6⟩, ⟨%g₀, %hg₀, H7⟩, Hc0, Hc1, Hc2, Hc3, Hs12, Hs13⟩
  iapply (wp_seq d i (wp_part1 d i arg2 harg2 arg3 harg3 arg4 harg4 arg5 harg5 arg6 harg6 arg7 harg7 arg8 harg8
            arg9 harg9 arg10 harg10 arg11 harg11 arg12 arg13 v26_r0 v26_r1 v26_r2 v26_r3 v26_r4 v26_r5 arg1 k2 hp hX hP hY hf₀)) $$ [H8 H9 H10 H11 H6]
  · isplitl [H8]; · iexact H8
    isplitl [H9]; · iexact H9
    isplitl [H10]; · iexact H10
    isplitl [H11]; · iexact H11
    iexact H6
  iintro %r ⟨%S11, %f, %h, H8, H9, H10, H11, H6⟩
  obtain ⟨v28, v30, hw, v51, v58⟩ := r
  obtain ⟨h1, h2, hS, hf⟩ := h
  obtain rfl : v28 = BitVec.ofNat 32 (row0 k2.val) := h1
  obtain rfl : v30 = BitVec.ofNat 32 (cnt yv (row0 k2.val) 12000) := h2
  iapply (wp_seq d i (wp_part2 d i arg2 harg2 arg3 harg3 arg4 harg4 arg5 harg5 arg6 harg6 arg7 harg7 arg8 harg8
            arg9 harg9 arg10 harg10 arg11 harg11 arg12 arg13 v26_r0 v26_r1 v26_r2 v26_r3 v26_r4 v26_r5 arg0 arg1 v51 v58 k2 hk hp hX hP hw hS hf hg₀)) $$ [HO H8 H9 H10 H11 H6 H7 Hc0 Hc1 Hs12 Hs13]
  · isplitr; · iexact Hmw
    isplitl [HO]; · iexact HO
    isplitl [H8]; · iexact H8
    isplitl [H9]; · iexact H9
    isplitl [H10]; · iexact H10
    isplitl [H11]; · iexact H11
    isplitl [H6]; · iexact H6
    isplitl [H7]; · iexact H7
    isplitl [Hc0]; · iexact Hc0
    isplitl [Hc1]; · iexact Hc1
    isplitl [Hs12]; · iexact Hs12
    iexact Hs13
  iintro %r ⟨%g, %h, HO, H8, H9, H10, H11, H6, Hc0, Hs12, Hf13⟩
  obtain ⟨c0, v90⟩ := r
  obtain ⟨h1, hg⟩ := h
  obtain rfl : c0 = 0#32 := h1
  iapply (wp_seq d i (wp_part3 d i arg2 harg2 arg3 harg3 arg4 harg4 arg5 harg5 arg6 harg6 arg7 harg7 arg8 harg8
            arg9 harg9 arg10 harg10 arg11 harg11 arg12 arg13 v26_r0 v26_r1 v26_r2 v26_r3 v26_r4 v26_r5 arg0 arg1 v51 v90 k2 hk hp hX hP hw hS hf hg)) $$ [HO H8 H9 H10 H11 H6 Hc2 Hs12 Hf13]
  · isplitr; · iexact Hmw
    isplitl [HO]; · iexact HO
    isplitl [H8]; · iexact H8
    isplitl [H9]; · iexact H9
    isplitl [H10]; · iexact H10
    isplitl [H11]; · iexact H11
    isplitl [H6]; · iexact H6
    isplitl [Hc2]; · iexact Hc2
    isplitl [Hs12]; · iexact Hs12
    iexact Hf13
  iintro %r ⟨%f', %g', %h, HO, H8, H9, H10, H11, Hf12, Hc1, Hs13, H7⟩
  obtain ⟨v120, c1⟩ := r
  obtain ⟨hf', hg'⟩ := h
  iapply (wp_seq d i (wp_part4 d i arg2 harg2 arg3 harg3 arg4 harg4 arg5 harg5 arg6 harg6 arg7 harg7 arg8 harg8
            arg9 harg9 arg10 harg10 arg11 harg11 arg12 arg13 v26_r0 v26_r1 v26_r2 v26_r3 v26_r4 v26_r5 arg0 arg1 v51 v120 c1 k2 hk hp hX hP hw hS hf' hg')) $$ [HO H8 H9 H10 H11 Hf12 Hc3 Hs13 H7]
  · isplitr; · iexact Hmw
    isplitl [HO]; · iexact HO
    isplitl [H8]; · iexact H8
    isplitl [H9]; · iexact H9
    isplitl [H10]; · iexact H10
    isplitl [H11]; · iexact H11
    isplitl [Hf12]; · iexact Hf12
    isplitl [Hc3]; · iexact Hc3
    isplitl [Hs13]; · iexact Hs13
    iexact H7
  iintro %r ⟨%f'', %g'', %h, HO, H8, H9, H10, H11, Hf, Hc2, Hs12, H6⟩
  obtain ⟨hf'', hF⟩ := h
  simp only [Prog.lift, Prog.bind_op, Prog.bind_ret, Prog.pure_eq_ret]
  iapply (own_wait (defs := defs₀ (F := F)) 𝒱₀ (thr d i) none EC rfl) $$ [Hf HO]
  · isplitl [Hf]; · iexact Hf
    isplitl [HO]; · iexact HO
    iexact Hmw
  iintro ⟨⟨Hc3, Hb⟩, Hs13, HO⟩
  iapply (wp_clear d i arg9 arg10 arg11 arg7 (yv := yv) (pv := pv) (y0 := row0 k2.val) hp (row0_le _) hS hP hF
    (main_trips (cnt_le yv (row0 k2.val) 12000))
    (fun k => k0_off24_inb _ hw k)
    (cA := fun _ => k0_chk31) (dA := fun _ => k0_chk31.dec) (hA1 := fun _ v h => k0_idx52_inb v h)
    (cB := fun _ => k0_chk32) (dB := fun _ => k0_chk32.dec) (hB := fun _ v h => k0_idx54_inb v h)
    (fun _ _ h => ⟨chk_sel h, chk_sel h⟩) (fun _ _ h => chk_cell h)
    (fun _ _ => rfl)) $$ [H9 H10 H11 Hb]
  · isplitl [H9]; · iexact H9
    isplitl [H10]; · iexact H10
    isplitl [H11]; · iexact H11
    iexact Hb
  iintro %g₃ ⟨%hg₃, H9, H10, H11, H7⟩
  iapply (wp_rest d i hrest)
  rw [wp_ret]
  imodintro
  isplitl [HO]; · iexact HO
  isplitl [H8]; · iexact H8
  isplitl [H9]; · iexact H9
  isplitl [H10]; · iexact H10
  isplitl [H11]
  · iexists S11; iexact H11
  isplitl [H6]
  · iexists f''
    isplitr
    · ipureintro; exact hf''
    · iexact H6
  isplitl [H7]
  · iexists g₃
    isplitr
    · ipureintro; exact hg₃
    · iexact H7
  isplitl [Hc0]; · iexact Hc0
  isplitl [Hc1]; · iexact Hc1
  isplitl [Hc2]; · iexact Hc2
  isplitl [Hc3]; · iexact Hc3
  isplitl [Hs12]; · iexact Hs12
  iexact Hs13

end Cert.Pillars

end
-- ==== Proof.Fetch0.lean ====
/-
  The build's inputs copied into tile memory.
-/
module

public import proofs.«01_k».proof.Proof.Block0
public import Idealize.ShloMosaic.Lib.ValueIdxCore

@[expose] public section

set_option maxRecDepth 16384

noncomputable section

namespace Cert.Pillars

open Cert.KernelIdeal Cert.KernelIdeal.Gen
open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (d : Dev nD) (i : grid0.Coords) (arg2 : Memref sig .scVector .hbm S1540096 .f32) (harg2 : arg2.IsWhole) (arg3 : Memref sig .scVector .hbm S24064 .i32) (harg3 : arg3.IsWhole) (arg4 : Memref sig .scVector .hbm S24064 .i32) (harg4 : arg4.IsWhole) (arg5 : Memref sig .scVector .hbm S27426816 .f32) (harg5 : arg5.IsWhole) (arg6 : Memref sig .scVector .vmem S21168 .f32) (harg6 : arg6.IsWhole) (arg7 : Memref sig .scVector .vmem S21168 .f32) (harg7 : arg7.IsWhole) (arg8 : Memref sig .scVector .vmem S4x12032 .f32) (harg8 : arg8.IsWhole) (arg9 : Memref sig .scVector .vmem S12032 .i32) (harg9 : arg9.IsWhole) (arg10 : Memref sig .scVector .vmem S12032 .i32) (harg10 : arg10.IsWhole) (arg11 : Memref sig .scVector .vmem S12032 .i32) (harg11 : arg11.IsWhole) (arg12 : DmaSems sig S_) (arg13 : DmaSems sig S_) (v26_r0 : DmaSems sig S_) (v26_r1 : DmaSems sig S_) (v26_r2 : DmaSems sig S_) (v26_r3 : DmaSems sig S_) (v26_r4 : DmaSems sig S_) (v26_r5 : DmaSems sig S_)

variable {yv pv : ℕ → ℕ} {w : ℕ → ℕ → Elt F .f32} {X8 : Vec F S4x12032 .f32} {P9 Y10 S11 : Vec F S12032 .i32} {α : Type}
  {kk : PUnit → TileProg F i α} {Q : α → sProp (MT nD τ sig (HIx 2) (Elt F) ℕ UU ℕ)}

variable {O : CellTallies nD τ sig (HIx 2)} {W₀ : Waits sig (HIx 2)}

/-! ## A copy in, waited for -/

/-- A rectangle of a table copied into a whole tile memory. -/
theorem wp_fetch {t : Shape} {e : EltTy} {m : Memref sig .scVector .hbm t e} {r : Rect t} {hr hr' : ∀ a, r.stride a = 1}
    {dst : Memref sig .scVector .vmem r.shape e} {sm : DmaSem sig} {hsrc : (m.slice r hr).view.WordExact} {hdst hdst' : dst.view.WordExact}
    {hsem : DmaTarget.Typed (nD := nD) (p := (thr d i).2) .hbm (.dma sm) (.here dst)} {hsrc' : (m.slice r hr').view.WordExact}
    {k : PUnit → TileProg F i α} {q : PosShare TreeShare} {X : Vec F t e} (hN0 : 0 < dst.view.amount (.dma sm)) :
    iprop(Transfers.MayWaits (thr d i) none O ∗ owing (thr d i) O W₀ ∗ owns (thr d i) m q X ∗ (∃ f, owns (thr d i) dst fullShare f) ∗ semVal (thr d i, .dma sm) 0)
      ⊢ (iprop((iprop(owing (thr d i) O W₀ ∗ owns (thr d i) m q X ∗ owns (thr d i) dst fullShare (fun x => X (r.emb x)) ∗ semVal (thr d i, .dma sm) 0)
            -∗ wp frame (wpE (defs₀ (F := F)) 𝒱₀ (thr d i) none) Set.univ (k ⟨⟩) Q)
          -∗ wp frame (wpE (defs₀ (F := F)) 𝒱₀ (thr d i) none) Set.univ (.op (.enqueueDma (m.slice r hr) (.here dst) (.dma sm) hsrc hdst hsem)
              fun _ => .op (.waitDma2 sm (m.slice r hr') dst hsrc' hdst') k) Q) : sProp 𝕄) := by
  iintro ⟨#Hmw, HO, Hm, ⟨%f, Hd⟩, Hs⟩ Hk
  unfold owns
  icases Hd with ⟨%fd, %hfd, Hd⟩
  have hD := written_whole (Ix := HIx 2) (Name := ℕ) (U := UU) (Lvl := ℕ) (c := thr d i) (m := dst) (f := fd) (w := fun x => X (r.emb x))
  iapply (own_dma_slice (defs := defs₀ (F := F)) 𝒱₀ (thr d i) none EC (m := m) (hsrc := hsrc) (hdst := hdst) (hsem := hsem) none hN0
    (Finset.Subset.refl _) hD) $$ [Hm Hd Hs]
  · isplitl [Hm]; · unfold owns; iexact Hm
    isplitl [Hd] <;> iassumption
  iintro Hf
  iapply (own_wait (defs := defs₀ (F := F)) 𝒱₀ (thr d i) none EC rfl) $$ [Hf HO]
  · isplitl [Hf]; · iexact Hf
    isplitl [HO]; · iexact HO
    iexact Hmw
  unfold owns
  iintro ⟨⟨Hd, Hm⟩, Hs, HO⟩
  iapply Hk
  isplitl [HO]; · iexact HO
  isplitl [Hm]; · iexact Hm
  isplitl [Hd] <;> iassumption

/-- The first rows of the tile's values are in. -/
def RowsTo (n : ℕ) (w : ℕ → ℕ → Elt F .f32) (f : Vec F S4x12032 .f32) : Prop :=
  ∀ j : S4x12032.Idx, (j 0).val < n → (j 1).val < 12000 → f j = w (j 0).val (j 1).val

theorem rowsTo_four {f : Vec F S4x12032 .f32} (h : RowsTo 4 w f) : Holds4 w f := fun j => h j (j 0).isLt

/-- One row of the tile's values copied in. -/
theorem wp_row {off : Fin 1 → ℕ} {inb : ∀ a, off a + S12032.size a ≤ S1540096.size a} (r : ℕ)
    {inb' inb'' : ∀ a, (![r, 0] : Fin 2 → ℕ) a + S1x12032.size a ≤ S4x12032.size a} {sm : DmaSem sig}
    {hr hr' : ∀ a, (Rect.unit (s := S1540096) off S12032.size inb).stride a = 1}
    {hr₁ : ∀ a, (Rect.unit (s := S4x12032) ![r, 0] S1x12032.size inb').stride a = 1}
    {hr₁' : ∀ a, (Rect.unit (s := S4x12032) ![r, 0] S1x12032.size inb'').stride a = 1}
    {hq hq' : S1x12032.Squeezes S12032}
    {hsrc : (arg2.slice (Rect.unit (s := S1540096) off S12032.size inb) hr).view.WordExact}
    {hdst : ((arg8.slice (Rect.unit (s := S4x12032) ![r, 0] S1x12032.size inb') hr₁).squeeze S12032 hq).view.WordExact}
    {hsem : DmaTarget.Typed (nD := nD) (p := (thr d i).2) .hbm (.dma sm)
      (.here ((arg8.slice (Rect.unit (s := S4x12032) ![r, 0] S1x12032.size inb') hr₁).squeeze S12032 hq))}
    {hsrc' : (arg2.slice (Rect.unit (s := S1540096) off S12032.size inb) hr').view.WordExact}
    {hdst' : ((arg8.slice (Rect.unit (s := S4x12032) ![r, 0] S1x12032.size inb'') hr₁').squeeze S12032 hq').view.WordExact}
    {k : PUnit → TileProg F i α} {q : PosShare TreeShare} {X : Vec F S1540096 .f32}
    (hX : ∀ n < 12000, ∀ j : S1540096.Idx, (j 0).val = off 0 + n → X j = w r n) :
    iprop(Transfers.MayWaits (thr d i) none O ∗ owing (thr d i) O W₀ ∗ owns (thr d i) arg2 q X ∗ (∃ f, ⌜RowsTo r w f⌝ ∗ owns (thr d i) arg8 fullShare f) ∗ semVal (thr d i, .dma sm) 0)
      ⊢ (iprop((iprop(owing (thr d i) O W₀ ∗ owns (thr d i) arg2 q X ∗ (∃ f, ⌜RowsTo (r + 1) w f⌝ ∗ owns (thr d i) arg8 fullShare f) ∗ semVal (thr d i, .dma sm) 0)
            -∗ wp frame (wpE (defs₀ (F := F)) 𝒱₀ (thr d i) none) Set.univ (k ⟨⟩) Q)
          -∗ wp frame (wpE (defs₀ (F := F)) 𝒱₀ (thr d i) none) Set.univ (.op (.enqueueDma (arg2.slice (Rect.unit (s := S1540096) off S12032.size inb) hr)
              (.here ((arg8.slice (Rect.unit (s := S4x12032) ![r, 0] S1x12032.size inb') hr₁).squeeze S12032 hq)) (.dma sm) hsrc hdst hsem)
              fun _ => .op (.waitDma2 sm (arg2.slice (Rect.unit (s := S1540096) off S12032.size inb) hr')
                ((arg8.slice (Rect.unit (s := S4x12032) ![r, 0] S1x12032.size inb'') hr₁').squeeze S12032 hq') hsrc' hdst') k) Q) : sProp 𝕄) := by
  have hN0 : 0 < ((arg8.slice (Rect.unit (s := S4x12032) ![r, 0] S1x12032.size inb') hr₁).squeeze S12032 hq).view.amount (.dma sm) := by
    change 0 < (Shape.numel S12032) * _
    exact Nat.mul_pos (by decide +kernel) (by decide)
  iintro ⟨#Hmw, HO, Hm, ⟨%f, %hf, Hd⟩, Hs⟩ Hk
  unfold owns
  icases Hd with ⟨%fd, %hfd, Hd⟩
  have hset : ((arg8.slice (Rect.unit (s := S4x12032) ![r, 0] S1x12032.size inb') hr₁).squeeze S12032 hq).view.set ⊆ arg8.view.set := by
    rw [show ((arg8.slice (Rect.unit (s := S4x12032) ![r, 0] S1x12032.size inb') hr₁).squeeze S12032 hq).view.set
      = (arg8.slice (Rect.unit (s := S4x12032) ![r, 0] S1x12032.size inb') hr₁).view.set from View.set_reshape _ _,
      show (arg8.slice (Rect.unit (s := S4x12032) ![r, 0] S1x12032.size inb') hr₁).view.set = _ from View.set_slice _ _]
    exact Finset.map_subset_map.mpr (Finset.subset_univ _)
  have hD := written_squeeze (Ix := HIx 2) (Name := ℕ) (U := UU) (Lvl := ℕ) (c := thr d i) (m := arg8) (hr := hr₁) (hq := hq) (f := fd)
    (w := fun x => X ((Rect.unit (s := S1540096) off S12032.size inb).emb x))
  iapply (own_dma_slice (defs := defs₀ (F := F)) 𝒱₀ (thr d i) none EC (m := arg2) (hsrc := hsrc) (hdst := hdst) (hsem := hsem) none hN0
    hset hD) $$ [Hm Hd Hs]
  · isplitl [Hm]; · unfold owns; iexact Hm
    isplitl [Hd] <;> iassumption
  iintro Hf
  iapply (own_wait (defs := defs₀ (F := F)) 𝒱₀ (thr d i) none EC rfl) $$ [Hf HO]
  · isplitl [Hf]; · iexact Hf
    isplitl [HO]; · iexact HO
    iexact Hmw
  iintro ⟨⟨Hd, Hm⟩, Hs, HO⟩
  iapply Hk
  isplitl [HO]; · iexact HO
  isplitl [Hm]; · unfold owns; iexact Hm
  isplitl [Hd]
  · iexists _
    isplitr
    rotate_left
    · unfold owns; iexact Hd
    · ipureintro
      rw [hfd]
      intro j h0 h1
      by_cases hj : (j 0).val = r
      · have ha : ∀ a, (j a).val = (![r, 0] : Fin 2 → ℕ) a + ((ix2 (0 : Fin 1) (j 1) : S1x12032.Idx) a).val := fun a => by
          match a with
          | ⟨0, _⟩ => exact hj
          | ⟨1, _⟩ => exact (Nat.zero_add _).symm
        refine (overlay_unit_in (s := S4x12032) (off := ![r, 0]) (size := S1x12032.size) (inb := inb') f _ (ix2 (0 : Fin 1) (j 1) : S1x12032.Idx) ha).trans ?_
        have e : (Shape.reshapeEquiv hq.numel_eq).symm (ix2 (0 : Fin 1) (j 1)) = (ix1 (j 1) : S12032.Idx) := by
          rw [Equiv.symm_apply_eq]
          refine (Shape.reshapeEquiv_eq_of_rowMajor _ ?_).symm
          rw [Shape.rowMajor_val_two, Shape.rowMajor_val_one]
          show 0 * _ + (j 1).val = (j 1).val
          rw [Nat.zero_mul, Nat.zero_add]
        rw [hj]
        refine (congrArg (fun x => X ((Rect.unit (s := S1540096) off S12032.size inb).emb x)) e).trans ?_
        exact hX _ h1 _ (emb_unit_val (s := S1540096) (off := off) (size := S12032.size) inb (ix1 (j 1)) 0)
      · refine (overlay_unit_out (s := S4x12032) f _ ⟨0, ?_⟩).trans (hf j (by omega) h1)
        show (j 0).val < r ∨ r + 1 ≤ (j 0).val
        omega
  · iexact Hs

end Cert.Pillars

end
-- ==== Proof.Tile0.lean ====
/-
  The build's tile: inputs in, the memories zeroed, eleven blocks.
-/
module

public import proofs.«01_k».proof.Proof.Fetch0

@[expose] public section

set_option maxRecDepth 16384

noncomputable section

namespace Cert.Pillars

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (d : Dev nD) (i : grid0.Coords) (arg2 : Memref sig .scVector .hbm S1540096 .f32) (harg2 : arg2.IsWhole) (arg3 : Memref sig .scVector .hbm S24064 .i32) (harg3 : arg3.IsWhole) (arg4 : Memref sig .scVector .hbm S24064 .i32) (harg4 : arg4.IsWhole) (arg5 : Memref sig .scVector .hbm S27426816 .f32) (harg5 : arg5.IsWhole) (arg6 : Memref sig .scVector .vmem S21168 .f32) (harg6 : arg6.IsWhole) (arg7 : Memref sig .scVector .vmem S21168 .f32) (harg7 : arg7.IsWhole) (arg8 : Memref sig .scVector .vmem S4x12032 .f32) (harg8 : arg8.IsWhole) (arg9 : Memref sig .scVector .vmem S12032 .i32) (harg9 : arg9.IsWhole) (arg10 : Memref sig .scVector .vmem S12032 .i32) (harg10 : arg10.IsWhole) (arg11 : Memref sig .scVector .vmem S12032 .i32) (harg11 : arg11.IsWhole) (arg12 : DmaSems sig S_) (arg13 : DmaSems sig S_) (v26_r0 : DmaSems sig S_) (v26_r1 : DmaSems sig S_) (v26_r2 : DmaSems sig S_) (v26_r3 : DmaSems sig S_) (v26_r4 : DmaSems sig S_) (v26_r5 : DmaSems sig S_)

variable {yv pv : ℕ → ℕ} {w : ℕ → ℕ → Elt F .f32} {X8 : Vec F S4x12032 .f32} {P9 Y10 S11 : Vec F S12032 .i32} {α : Type}
  {kk : PUnit → TileProg F i α} {Q : α → sProp (MT nD τ sig (HIx 2) (Elt F) ℕ UU ℕ)}

variable {O : CellTallies nD τ sig (HIx 2)} {W₀ : Waits sig (HIx 2)} {q : PosShare TreeShare}
  {VF : Vec F S1540096 .f32} {PV YV : Vec F S24064 .i32}

/-- What a tile reads off its inputs: its channels' values, the batch's cells and rows. -/
def Sources (i : grid0.Coords) (w : ℕ → ℕ → Elt F .f32) (pv yv : ℕ → ℕ) (VF : Vec F S1540096 .f32) (PV YV : Vec F S24064 .i32) : Prop :=
  (∀ r : Fin 4, ∀ n < 12000, ∀ j : S1540096.Idx, (j 0).val = 96256 * (i 1).val + 24064 * r.val + 12032 * (i 0).val + n → VF j = w r.val n)
    ∧ (∀ n < 12000, ∀ j : S24064.Idx, (j 0).val = 12032 * (i 0).val + n → PV j = BitVec.ofNat 32 (pv n))
    ∧ (∀ n < 12000, ∀ j : S24064.Idx, (j 0).val = 12032 * (i 0).val + n → YV j = BitVec.ofNat 32 (yv n))

theorem holds1_of {g : ℕ → ℕ} {V : Vec F S24064 .i32} (h : ∀ n < 12000, ∀ j : S24064.Idx, (j 0).val = 12032 * (i 0).val + n → V j = BitVec.ofNat 32 (g n)) :
    Holds1 g (fun x : S12032.Idx => V ((Rect.unit (s := S24064) (k0_off1 i) S12032.size (k0_off1_inb i)).emb x)) := by
  intro x hx
  refine h _ hx _ ((emb_unit_val (s := S24064) (off := k0_off1 i) (size := S12032.size) (k0_off1_inb i) x 0).trans ?_)
  rw [congrFun (k0_off1_eq i) 0]
  rfl

theorem t2_trips : k0_t2_loop.trips = 11 := by decide +kernel

/-- The build's tile: every channel of the tile leaves as the map of its values. -/
theorem wp_tile0 (hp : Placed yv pv) (hV : Sources i w pv yv VF PV YV) :
    iprop(Transfers.MayWaits (thr d i) none O ∗ owing (thr d i) O W₀ ∗ owns (thr d i) arg2 q VF ∗ owns (thr d i) arg3 q PV ∗ owns (thr d i) arg4 q YV ∗ (∃ f, owns (thr d i) arg6 fullShare f) ∗ (∃ f, owns (thr d i) arg7 fullShare f) ∗ (∃ f, owns (thr d i) arg8 fullShare f) ∗ (∃ f, owns (thr d i) arg9 fullShare f) ∗ (∃ f, owns (thr d i) arg10 fullShare f) ∗ (∃ f, owns (thr d i) arg11 fullShare f)
      ∗ chan d i arg5 0 pv (w 0) 0 ∗ chan d i arg5 1 pv (w 1) 0 ∗ chan d i arg5 2 pv (w 2) 0 ∗ chan d i arg5 3 pv (w 3) 0
      ∗ semVal (thr d i, .dma arg12.sem) 0 ∗ semVal (thr d i, .dma arg13.sem) 0 ∗ semVal (thr d i, .dma v26_r0.sem) 0 ∗ semVal (thr d i, .dma v26_r1.sem) 0 ∗ semVal (thr d i, .dma v26_r2.sem) 0 ∗ semVal (thr d i, .dma v26_r3.sem) 0 ∗ semVal (thr d i, .dma v26_r4.sem) 0 ∗ semVal (thr d i, .dma v26_r5.sem) 0)
      ⊢ (wp frame (wpE (defs₀ (F := F)) 𝒱₀ (thr d i) none) Set.univ
          (cc0_body i arg2 harg2 arg3 harg3 arg4 harg4 arg5 harg5 arg6 harg6 arg7 harg7 arg8 harg8
            arg9 harg9 arg10 harg10 arg11 harg11 arg12 arg13 v26_r0 v26_r1 v26_r2 v26_r3 v26_r4 v26_r5)
          fun _ => iprop(owing (thr d i) O W₀ ∗ owns (thr d i) arg2 q VF ∗ owns (thr d i) arg3 q PV ∗ owns (thr d i) arg4 q YV ∗ (∃ f, owns (thr d i) arg6 fullShare f) ∗ (∃ f, owns (thr d i) arg7 fullShare f) ∗ (∃ f, owns (thr d i) arg8 fullShare f) ∗ (∃ f, owns (thr d i) arg9 fullShare f) ∗ (∃ f, owns (thr d i) arg10 fullShare f) ∗ (∃ f, owns (thr d i) arg11 fullShare f)
      ∗ chan d i arg5 0 pv (w 0) 11 ∗ chan d i arg5 1 pv (w 1) 11 ∗ chan d i arg5 2 pv (w 2) 11 ∗ chan d i arg5 3 pv (w 3) 11
      ∗ semVal (thr d i, .dma arg12.sem) 0 ∗ semVal (thr d i, .dma arg13.sem) 0 ∗ semVal (thr d i, .dma v26_r0.sem) 0 ∗ semVal (thr d i, .dma v26_r1.sem) 0 ∗ semVal (thr d i, .dma v26_r2.sem) 0 ∗ semVal (thr d i, .dma v26_r3.sem) 0 ∗ semVal (thr d i, .dma v26_r4.sem) 0 ∗ semVal (thr d i, .dma v26_r5.sem) 0) : sProp 𝕄) := by
  have hv : ∀ r : Fin 4, ∀ n < 12000, ∀ j : S1540096.Idx, (j 0).val = (k0_off2 i (BitVec.ofNat 32 r.val)) 0 + n → VF j = w r.val n := by
    intro r n hn j hj
    refine hV.1 r n hn j (hj.trans ?_)
    rw [congrFun (k0_off2_eq i r) 0]
    rfl
  have hP := holds1_of i hV.2.1
  have hY := holds1_of i hV.2.2
  have hN0 : 0 < (Shape.numel S12032) * EltTy.i32.bits := Nat.mul_pos (by decide +kernel) (by decide)
  rw [cc0_body_eq_skeleton]
  unfold cc0_body_skel
  rw [k0_part5_eq_skeleton, k0_part6_eq_skeleton]
  unfold k0_part5_skel k0_part6_skel
  simp only [Prog.lift, Prog.bind_op, Prog.bind_ret, Prog.pure_eq_ret]
  iintro ⟨#Hmw, HO, H2, H3, H4, H6, H7, H8, H9, H10, H11, Hc0, Hc1, Hc2, Hc3, Hs12, Hs13, Hr0, Hr1, Hr2, Hr3, Hr4, Hr5⟩
  iapply (wp_fetch d i (m := arg3) (dst := arg9) (by exact hN0)) $$ [HO H3 H9 Hr0]
  · isplitr; · iexact Hmw
    isplitl [HO]; · iexact HO
    isplitl [H3]; · iexact H3
    isplitl [H9]; · iexact H9
    iexact Hr0
  iintro ⟨HO, H3, H9, Hr0⟩
  iapply (wp_fetch d i (m := arg4) (dst := arg10) (by exact hN0)) $$ [HO H4 H10 Hr1]
  · isplitr; · iexact Hmw
    isplitl [HO]; · iexact HO
    isplitl [H4]; · iexact H4
    isplitl [H10]; · iexact H10
    iexact Hr1
  iintro ⟨HO, H4, H10, Hr1⟩
  ihave H8 := (show iprop(∃ f, owns (thr d i) arg8 fullShare f) ⊢ (iprop(∃ f, ⌜RowsTo 0 w f⌝ ∗ owns (thr d i) arg8 fullShare f) : sProp 𝕄) from by
    iintro ⟨%f, H⟩
    iexists f
    isplitr
    · ipureintro
      intro j h0 h1
      exact absurd h0 (Nat.not_lt_zero _)
    · iexact H) $$ H8
  iapply (wp_row d i arg2 arg8 0 (w := w) (hv 0)) $$ [HO H2 H8 Hr2]
  · isplitr; · iexact Hmw
    isplitl [HO]; · iexact HO
    isplitl [H2]; · iexact H2
    isplitl [H8]; · iexact H8
    iexact Hr2
  iintro ⟨HO, H2, H8, Hr2⟩
  iapply (wp_row d i arg2 arg8 1 (w := w) (hv 1)) $$ [HO H2 H8 Hr3]
  · isplitr; · iexact Hmw
    isplitl [HO]; · iexact HO
    isplitl [H2]; · iexact H2
    isplitl [H8]; · iexact H8
    iexact Hr3
  iintro ⟨HO, H2, H8, Hr3⟩
  iapply (wp_row d i arg2 arg8 2 (w := w) (hv 2)) $$ [HO H2 H8 Hr4]
  · isplitr; · iexact Hmw
    isplitl [HO]; · iexact HO
    isplitl [H2]; · iexact H2
    isplitl [H8]; · iexact H8
    iexact Hr4
  iintro ⟨HO, H2, H8, Hr4⟩
  iapply (wp_row d i arg2 arg8 3 (w := w) (hv 3)) $$ [HO H2 H8 Hr5]
  · isplitr; · iexact Hmw
    isplitl [HO]; · iexact HO
    isplitl [H2]; · iexact H2
    isplitl [H8]; · iexact H8
    iexact Hr5
  iintro ⟨HO, H2, H8, Hr5⟩
  icases H8 with ⟨%X8, %hX, H8⟩
  icases H6 with ⟨%f, H6⟩
  icases H7 with ⟨%g, H7⟩
  iapply (wp_fill d i arg2 harg2 arg3 harg3 arg4 harg4 arg5 harg5 arg6 harg6 arg7 harg7 arg8 harg8
            arg9 harg9 arg10 harg10 arg11 harg11 arg12 arg13 v26_r0 v26_r1 v26_r2 v26_r3 v26_r4 v26_r5) $$ [H6 H7]
  · isplitl [H6] <;> iassumption
  iintro ⟨%f', %g', %hz, H6, H7⟩
  iapply (Scf.wp_for_bind frame (wpE (defs₀ (F := F)) 𝒱₀ (thr d i) none) Set.univ k0_t2_loop.lb k0_t2_loop.ub k0_t2_loop.st k0_t2_ok ⟨⟩ _
    (fun n _ => iprop(Transfers.MayWaits (thr d i) none O ∗ between d i arg5 arg6 arg7 arg8 arg9 arg10 arg11 arg12 arg13 pv w X8 (fun x : S12032.Idx => PV ((Rect.unit (s := S24064) (k0_off1 i) S12032.size (k0_off1_inb i)).emb x)) (fun x : S12032.Idx => YV ((Rect.unit (s := S24064) (k0_off1 i) S12032.size (k0_off1_inb i)).emb x)) O W₀ n)) (fun n acc => ?_)) $$ [HO H8 H9 H10 H11 H6 H7 Hc0 Hc1 Hc2 Hc3 Hs12 Hs13]
  · iintro ⟨#Hmw, Hb⟩
    iapply (wp_wand frame (wpE (defs₀ (F := F)) 𝒱₀ (thr d i) none) Set.univ (Q := fun _ => between d i arg5 arg6 arg7 arg8 arg9 arg10 arg11 arg12 arg13 pv w X8 (fun x : S12032.Idx => PV ((Rect.unit (s := S24064) (k0_off1 i) S12032.size (k0_off1_inb i)).emb x)) (fun x : S12032.Idx => YV ((Rect.unit (s := S24064) (k0_off1 i) S12032.size (k0_off1_inb i)).emb x)) O W₀ (n.val + 1))) $$ [Hb]
    · iapply (wp_block d i arg2 harg2 arg3 harg3 arg4 harg4 arg5 harg5 arg6 harg6 arg7 harg7 arg8 harg8
            arg9 harg9 arg10 harg10 arg11 harg11 arg12 arg13 v26_r0 v26_r1 v26_r2 v26_r3 v26_r4 v26_r5 (BitVec.ofNat 32 (i 0).val) (BitVec.ofNat 32 (i 1).val) n (lt_of_lt_of_eq n.isLt t2_trips) hp (rowsTo_four hX) hP hY) $$ [Hb]
      isplitr; · iexact Hmw
      iexact Hb
    · iintro %_ Hb
      isplitr; · iexact Hmw
      iexact Hb
  · isplitr; · iexact Hmw
    unfold between
    isplitl [HO]; · iexact HO
    isplitl [H8]; · iexact H8
    isplitl [H9]; · iexact H9
    isplitl [H10]; · iexact H10
    isplitl [H11]; · iexact H11
    isplitl [H6]
    · iexists f'
      isplitr; · ipureintro; exact fun j hj => hz.1 j (lt_trans hj (by decide +kernel))
      iexact H6
    isplitl [H7]
    · iexists g'
      isplitr; · ipureintro; exact fun j hj => hz.2 j (lt_trans hj (by decide +kernel))
      iexact H7
    isplitl [Hc0]; · iexact Hc0
    isplitl [Hc1]; · iexact Hc1
    isplitl [Hc2]; · iexact Hc2
    isplitl [Hc3]; · iexact Hc3
    isplitl [Hs12]; · iexact Hs12
    iexact Hs13
  rw [show Scf.trips k0_t2_loop.lb k0_t2_loop.ub k0_t2_loop.st = 11 from t2_trips]
  iintro %acc ⟨-, Hb⟩
  unfold between
  icases Hb with ⟨HO, H8, H9, H10, ⟨%S, H11⟩, ⟨%f₁, %_, H6⟩, ⟨%g₁, %_, H7⟩, Hc0, Hc1, Hc2, Hc3, Hs12, Hs13⟩
  rw [wp_ret]
  imodintro
  isplitl [HO]; · iexact HO
  isplitl [H2]; · iexact H2
  isplitl [H3]; · iexact H3
  isplitl [H4]; · iexact H4
  isplitl [H6]; · iexists f₁; iexact H6
  isplitl [H7]; · iexists g₁; iexact H7
  isplitl [H8]; · iexists _; iexact H8
  isplitl [H9]; · iexists _; iexact H9
  isplitl [H10]; · iexists _; iexact H10
  isplitl [H11]; · iexists _; iexact H11
  isplitl [Hc0]; · iexact Hc0
  isplitl [Hc1]; · iexact Hc1
  isplitl [Hc2]; · iexact Hc2
  isplitl [Hc3]; · iexact Hc3
  isplitl [Hs12]; · iexact Hs12
  isplitl [Hs13]; · iexact Hs13
  isplitl [Hr0]; · iexact Hr0
  isplitl [Hr1]; · iexact Hr1
  isplitl [Hr2]; · iexact Hr2
  isplitl [Hr3]; · iexact Hr3
  isplitl [Hr4]; · iexact Hr4
  iexact Hr5

end Cert.Pillars

end
-- ==== Proof.Mem1.lean ====
/-
  More memory rules: a rectangle read, copied from or written inside a larger one that is owned alone.
-/
module

public import proofs.«01_k».proof.Proof.Mem

@[expose] public section

set_option maxRecDepth 16384

noncomputable section

namespace Cert.Pillars

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V)
variable {s t : Shape} {e : EltTy} {α : Type} {Q : α → sProp (MT nD τ sig Ix (Elt F) Name U Lvl)}

local notation "𝕄" => MT nD τ sig Ix (Elt F) Name U Lvl

theorem slice_set_subset {sp : Space} {m : Memref sig c.2.kind sp t e} {r r₁ : Rect t} {hr : ∀ a, r.stride a = 1} {hr₁ : ∀ a, r₁.stride a = 1}
    (hin : r.set ⊆ r₁.set) : (m.slice r hr).view.set ⊆ (m.slice r₁ hr₁).view.set := by
  rw [show (m.slice r hr).view.set = r.set.map m.view.emb from View.set_slice _ r,
    show (m.slice r₁ hr₁).view.set = r₁.set.map m.view.emb from View.set_slice _ r₁]
  exact Finset.map_subset_map.mpr hin

/-- A load of a rectangle inside a rectangle owned alone. -/
theorem own_load_in {cs : CoreSpace} {m : Memref sig c.2.kind cs t e} {r r₁ : Rect t} {hr₁ : ∀ a, r₁.stride a = 1} {hl : m.view.LoadsAt r}
    {G : t.Idx → Elt F e} (hin : r.set ⊆ r₁.set)
    {k : Vec F r.shape e → Prog (TpuEff nD τ sig (Elt F) Λ c.2) α} {q : PosShare TreeShare} :
    (owns c (m.slice r₁ hr₁) q (fun y => G (r₁.emb y)) : sProp 𝕄)
      ⊢ iprop((owns c (m.slice r₁ hr₁) q (fun y => G (r₁.emb y)) -∗ wp frame (wpE defs 𝒱 c bd) Set.univ (k fun x => G (r.emb x)) Q)
        -∗ wp frame (wpE defs 𝒱 c bd) Set.univ (.op (.load m r hl) k) Q) := by
  unfold owns
  iintro ⟨%f, %hf, H⟩ Hk
  have hs : (m.access r).set ⊆ (m.slice r₁ hr₁).view.set := by
    rw [show (m.access r).set = r.set.map m.view.emb from View.set_slice _ r,
      show (m.slice r₁ hr₁).view.set = r₁.set.map m.view.emb from View.set_slice _ r₁]
    exact Finset.map_subset_map.mpr hin
  iapply (wp_load_rect (defs := defs) 𝒱 c bd Set.univ (Q := Q) (r := r) (m := m) (hl := hl) (k := k) (q := q) (f := f)
    (S := (m.slice r₁ hr₁).view.set) hs) $$ H
  iintro H
  rw [show (m.access r).read (Elt F) f = fun x => G (r.emb x) from by
    funext x
    obtain ⟨y, hy⟩ := r₁.exists_idx_of_mem (hin (r.map_emb_univ ▸ Finset.mem_map_of_mem r.emb (Finset.mem_univ x)))
    change m.view.read (Elt F) f (r.emb x) = _
    rw [show r.emb x = r₁.emb y from hy.symm]
    exact congrFun hf y]
  iapply Hk
  iexists f
  isplitr
  · ipureintro; exact hf
  · iexact H

section Copy

variable [Infinite Name] (EC : UEmb Counters (MT nD τ sig Ix (Elt F) Name U Lvl))
variable [EC.LandsIn (upEmb : UEmb _ (MT nD τ sig Ix (Elt F) Name U Lvl))]
variable {sp sp' : Space}

/-- A copy out of a rectangle inside a rectangle owned alone. -/
theorem own_dma_in {m : Memref sig c.2.kind sp t e} {r r₁ : Rect t} {hr : ∀ a, r.stride a = 1} {hr₁ : ∀ a, r₁.stride a = 1}
    {dst : Memref sig c.2.kind sp' r.shape e} {sm : SemLoc sig} {hsrc : (m.slice r hr).view.WordExact} {hdst : dst.view.WordExact}
    {hsem : DmaTarget.Typed (nD := nD) sp sm (.here dst)}
    {k : PUnit → Prog (TpuEff nD τ sig (Elt F) Λ c.2) α} {q : PosShare TreeShare} {G : t.Idx → Elt F e} (hin : r.set ⊆ r₁.set)
    {Sd : Finset (Idx (dst.view.loc c))} {fd : Buf (Elt F) (dst.view.loc c)} {D : sProp 𝕄}
    (ι : Ix) (hN0 : 0 < dst.view.amount sm) (hSd : dst.view.set ⊆ Sd)
    (hD : (dst.view.loc c ↦[Sd]{fullShare} (dst.view.write (Elt F) fd (fun i => G (r.emb i)) Finset.univ)) ⊢ D) :
    iprop(owns c (m.slice r₁ hr₁) q (fun y => G (r₁.emb y)) ∗ (dst.view.loc c ↦[Sd]{fullShare} fd) ∗ semVal (c, sm) 0)
      ⊢ iprop((Transfers.Flight EC c sm ι (dst.view.amount sm) iprop(D ∗ owns c (m.slice r₁ hr₁) q (fun y => G (r₁.emb y)))
              -∗ wp frame (wpE defs 𝒱 c bd) Set.univ (k ⟨⟩) Q)
          -∗ wp frame (wpE defs 𝒱 c bd) Set.univ (.op (.enqueueDma (m.slice r hr) (.here dst) sm hsrc hdst hsem) k) Q) := by
  conv_lhs => unfold owns
  iintro ⟨⟨%f, %hf, Hm⟩, Hd, Hv⟩ Hk
  have hread : (m.slice r hr).view.read (Elt F) f = fun i => G (r.emb i) := by
    funext x
    obtain ⟨y, hy⟩ := r₁.exists_idx_of_mem (hin (r.map_emb_univ ▸ Finset.mem_map_of_mem r.emb (Finset.mem_univ x)))
    change m.view.read (Elt F) f (r.emb x) = _
    rw [show r.emb x = r₁.emb y from hy.symm]
    exact congrFun hf y
  have hsplit := pointsTo_split_subset (Ix := Ix) (Name := Name) (U := U) (Lvl := Lvl) (q := q) (f := f) (ℓ := (m.slice r₁ hr₁).view.loc c)
    (slice_set_subset c (m := m) (hr := hr) (hr₁ := hr₁) hin)
  ihave Hs := hsplit.1 $$ Hm
  icases Hs with ⟨Hs, Hg⟩
  iapply (Transfers.wp_dmaLocal (defs := defs) EC 𝒱 c bd (Q := Q) (via := .same) ι (dst.view.amount sm) rfl hN0 hSd (src := m.slice r hr) (fs := f) (fd := fd) (q := q)
    (hsrc := hsrc) (hdst := hdst) (hsem := hsem) (k := k)) $$ [Hs Hd Hv]
  · isplitl [Hs]; · iexact Hs
    isplitl [Hd] <;> iassumption
  iintro Hf
  iapply Hk
  ihave Hf := (flight_frame c EC) $$ [Hf Hg]
  · isplitl [Hf]; · iexact Hf
    iexact Hg
  iapply (Transfers.Flight_mono EC c) $$ Hf
  iintro ⟨⟨Hd, Hs⟩, Hg⟩
  isplitl [Hd]
  · iapply hD
    rw [ReadAs.apply_same, hread]
    iexact Hd
  · unfold owns
    iexists f
    isplitr
    · ipureintro; exact hf
    · iapply hsplit.2
      isplitl [Hs]; · iexact Hs
      iexact Hg

end Copy

section Written

variable {sp : Space}

omit [FloatOps F] [Preorder Lvl] in
/-- A memref written through its squeezed shape is owned at the payload. -/
theorem written_reshape {m : Memref sig c.2.kind sp t e} {hq : t.Squeezes s} {f : m.view.ty.Contents (Elt F)} {w : Vec F s e} :
    (m.view.loc c ↦[m.view.set]{fullShare} ((m.squeeze s hq).view.write (Elt F) f w Finset.univ))
      ⊢ (owns c m fullShare (fun x => w ((Shape.reshapeEquiv hq.numel_eq).symm x)) : sProp 𝕄) := by
  have h := written_whole (Ix := Ix) (Name := Name) (U := U) (Lvl := Lvl) (c := c) (m := m) (f := f)
    (w := fun x => w ((Shape.reshapeEquiv hq.numel_eq).symm x))
  rwa [← View.write_reshape_univ (Val := Elt F) m.view hq.numel_eq f w] at h

omit [FloatOps F] [Preorder Lvl] in
/-- A rectangle written, through its squeezed shape, inside a larger one owned alone. -/
theorem written_inside_squeeze {m : Memref sig c.2.kind sp t e} {r r₁ : Rect t} {hr : ∀ a, r.stride a = 1} {hr₁ : ∀ a, r₁.stride a = 1}
    {hq : r.shape.Squeezes s} {f : m.view.ty.Contents (Elt F)} {w : Vec F s e} :
    (m.view.loc c ↦[(m.slice r₁ hr₁).view.set]{fullShare} (((m.slice r hr).squeeze s hq).view.write (Elt F) f w Finset.univ))
      ⊢ (owns c (m.slice r₁ hr₁) fullShare
          (fun i => r.overlay (m.view.read (Elt F) f) (fun x => w ((Shape.reshapeEquiv hq.numel_eq).symm x)) (r₁.emb i)) : sProp 𝕄) := by
  have h := written_inside (Ix := Ix) (Name := Name) (U := U) (Lvl := Lvl) (c := c) (m := m) (r := r) (r₁ := r₁) (hr₁ := hr₁) (f := f)
    (w := fun x => w ((Shape.reshapeEquiv hq.numel_eq).symm x))
  rwa [← View.write_reshape_univ (Val := Elt F) (m.view.slice r) hq.numel_eq f w] at h

end Written

end Cert.Pillars

end
-- ==== Proof.Rows1.lean ====
/-
  The row-by-row copy of a flat block into its rows: the programs of the four copy loops as one program, and
  what it leaves.
-/
module

public import proofs.«01_k».proof.Proof.Common
public import proofs.«01_k».proof.Proof.Mem1
public import Idealize.ShloMosaic.Lib.Pipeline.Value
public import Idealize.ShloMosaic.Lib.ValueIdxCore

@[expose] public section

set_option maxRecDepth 16384

noncomputable section

namespace Cert.Pillars

open Cert.KernelIdeal Cert.KernelIdeal.Gen
open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- A tile of the copy's grid as a thread. -/
abbrev thr1 (d : Dev nD) (i : grid1.Coords) : Thread nD τ := (d, .scVector ((i 0).castLE hcore1) ((i 1).castLE hsub1))

/-- The programs of a tile. -/
abbrev TileProg1 (F : FTy → Type) (i : grid1.Coords) (α : Type) : Type 1 :=
  Prog (TpuEff nD τ sig (Elt F) Λ₀ (.scVector ((i 0).castLE hcore1) ((i 1).castLE hsub1))) α

/-- The last `n` of a row's twenty-seven copies of sixteen. -/
def rowProg (i : grid1.Coords) (arg4 : Memref sig .scVector .vmem S2x20736 .f32) (buf : Memref sig .scVector .vmem S48x432 .f32)
    (so : ℕ → Fin 2 → ℕ) (hso : ∀ g < 27, ∀ a, so g a + S1x16.size a ≤ S2x20736.size a)
    (dt : ℕ → Fin 2 → ℕ) (hdt : ∀ g < 27, ∀ a, dt g a + S1x16.size a ≤ S48x432.size a) : (n : ℕ) → TileProg1 F i Unit
  | 0 => .ret ⟨⟩
  | n + 1 =>
    .op (.load arg4 (Rect.unit (s := S2x20736) (so (26 - n)) S1x16.size (hso _ (by omega))).toLoadRect (View.loadsAt_vmem h_S1x16)) fun (v : Vec F S1x16 .f32) =>
    .op (.load buf (Rect.unit (s := S48x432) (dt (26 - n)) S1x16.size (hdt _ (by omega))).toLoadRect (View.loadsAt_vmem h_S1x16)) fun (_ : Vec F S1x16 .f32) =>
    .op (.store buf (Rect.unit (s := S48x432) (dt (26 - n)) S1x16.size (hdt _ (by omega))) (k1_pay4 v) Finset.univ (View.stores_vmem_bits_univ h_S1x16 rfl) (.inl rfl)) fun _ =>
    rowProg i arg4 buf so hso dt hdt n

/-- A loop body is a row's copies. -/
def IsRow (i : grid1.Coords) (arg4 : Memref sig .scVector .vmem S2x20736 .f32) (buf : Memref sig .scVector .vmem S48x432 .f32) (sl t : ℕ)
    (p : TileProg1 F i Unit) : Prop :=
  ∃ so hso dt hdt, p = rowProg i arg4 buf so hso dt hdt 27 ∧ (∀ g < 27, so g = ![sl, 432 * t + 16 * g]) ∧ (∀ g < 27, dt g = ![t, 16 * g])

/-- A loop counter of forty-eight as an index. -/
def rowIx (k : ℕ) : ℕ := (Scalar.indexCast (Scf.iv 0#32 1#32 k)).toNat

theorem rowIx_eq : ∀ k : Fin 48, rowIx k.val = k.val := by decide +kernel

variable (d : Dev nD) (i : grid1.Coords) (arg2 : Memref sig .scVector .hbm S27426816 .f32) (harg2 : arg2.IsWhole) (arg3 : Memref sig .scVector .hbm S2x64x496x432 .f32) (harg3 : arg3.IsWhole) (arg4 : Memref sig .scVector .vmem S2x20736 .f32) (harg4 : arg4.IsWhole) (arg5 : Memref sig .scVector .vmem S48x432 .f32) (harg5 : arg5.IsWhole) (arg6 : Memref sig .scVector .vmem S48x432 .f32) (harg6 : arg6.IsWhole) (arg7 : DmaSems sig S_) (arg8 : DmaSems sig S_) (arg9 : DmaSems sig S_) (arg10 : DmaSems sig S_)

variable {α : Type} {kk : Unit → TileProg1 F i α} {Q : α → sProp (MT nD τ sig (HIx 2) (Elt F) ℕ UU ℕ)}

theorem rowIx_inb (k : Fin 48) : ∀ g < 27, ∀ a, (![rowIx k.val, 16 * g] : Fin 2 → ℕ) a + S1x16.size a ≤ S48x432.size a := by
  intro g hg a
  rw [rowIx_eq]
  have := k.isLt
  match a with
  | ⟨0, _⟩ => change k.val + 1 ≤ 48; omega
  | ⟨1, _⟩ => change 16 * g + 16 ≤ 432; omega

theorem trips_t2 : k1_t2_loop.trips = 48 := by decide +kernel

set_option maxRecDepth 65536 in
theorem isRow_t2 (arg0 arg1 v : BitVec 32) (k1_t1 : Fin k1_t1_loop.trips) (k : Fin k1_t2_loop.trips) :
    IsRow i arg4 arg5 0 k.val (k1_t2_body (F := F) i arg2 harg2 arg3 harg3 arg4 harg4 arg5 harg5 arg6 harg6
            arg7 arg8 arg9 arg10 arg0 arg1 k1_t1 v 0#32 k ⟨⟩) :=
  ⟨fun g => k1_off3 k (BitVec.ofNat 32 (16 * g)), fun g hg => k1_off3_inb k ⟨g, hg⟩, fun g => ![rowIx k.val, 16 * g],
    rowIx_inb ⟨k.val, lt_of_lt_of_eq k.isLt trips_t2⟩, rfl, fun g hg => k1_off3_eq k ⟨g, hg⟩,
    fun g _ => by rw [rowIx_eq ⟨k.val, lt_of_lt_of_eq k.isLt trips_t2⟩]⟩

theorem trips_t3 : k1_t3_loop.trips = 48 := by decide +kernel

set_option maxRecDepth 65536 in
theorem isRow_t3 (arg0 arg1 v : BitVec 32) (k1_t1 : Fin k1_t1_loop.trips) (k : Fin k1_t3_loop.trips) :
    IsRow i arg4 arg6 1 k.val (k1_t3_body (F := F) i arg2 harg2 arg3 harg3 arg4 harg4 arg5 harg5 arg6 harg6
            arg7 arg8 arg9 arg10 arg0 arg1 k1_t1 v k ⟨⟩) :=
  ⟨fun g => k1_off32 k (BitVec.ofNat 32 (16 * g)), fun g hg => k1_off32_inb k ⟨g, hg⟩, fun g => ![rowIx k.val, 16 * g],
    rowIx_inb ⟨k.val, lt_of_lt_of_eq k.isLt trips_t3⟩, rfl, fun g hg => k1_off32_eq k ⟨g, hg⟩,
    fun g _ => by rw [rowIx_eq ⟨k.val, lt_of_lt_of_eq k.isLt trips_t3⟩]⟩

theorem trips_t4 : k1_t4_loop.trips = 48 := by decide +kernel

set_option maxRecDepth 65536 in
theorem isRow_t4 (arg0 arg1 v : BitVec 32) (k1_t1 : Fin k1_t1_loop.trips) (k : Fin k1_t4_loop.trips) :
    IsRow i arg4 arg5 0 k.val (k1_t4_body (F := F) i arg2 harg2 arg3 harg3 arg4 harg4 arg5 harg5 arg6 harg6
            arg7 arg8 arg9 arg10 arg0 arg1 k1_t1 v k ⟨⟩) :=
  ⟨fun g => k1_off60 k (BitVec.ofNat 32 (16 * g)), fun g hg => k1_off60_inb k ⟨g, hg⟩, fun g => ![rowIx k.val, 16 * g],
    rowIx_inb ⟨k.val, lt_of_lt_of_eq k.isLt trips_t4⟩, rfl, fun g hg => k1_off60_eq k ⟨g, hg⟩,
    fun g _ => by rw [rowIx_eq ⟨k.val, lt_of_lt_of_eq k.isLt trips_t4⟩]⟩

theorem trips_t5 : k1_t5_loop.trips = 48 := by decide +kernel

set_option maxRecDepth 65536 in
theorem isRow_t5 (k : Fin k1_t5_loop.trips) :
    IsRow i arg4 arg6 1 k.val (k1_t5_body (F := F) i arg2 harg2 arg3 harg3 arg4 harg4 arg5 harg5 arg6 harg6
            arg7 arg8 arg9 arg10  k ⟨⟩) :=
  ⟨fun g => k1_off89 k (BitVec.ofNat 32 (16 * g)), fun g hg => k1_off89_inb k ⟨g, hg⟩, fun g => ![rowIx k.val, 16 * g],
    rowIx_inb ⟨k.val, lt_of_lt_of_eq k.isLt trips_t5⟩, rfl, fun g hg => k1_off89_eq k ⟨g, hg⟩,
    fun g _ => by rw [rowIx_eq ⟨k.val, lt_of_lt_of_eq k.isLt trips_t5⟩]⟩

/-! ## What the copies leave -/

/-- A half of the flat memory, owned at a block's values. -/
abbrev slotOwn (arg4 : Memref sig .scVector .vmem S2x20736 .f32) (sl : ℕ) (inb : ∀ a, (![sl, 0] : Fin 2 → ℕ) a + S1x20736.size a ≤ S2x20736.size a)
    (X : ℕ → Elt F .f32) : sProp 𝕄 :=
  owns (thr1 d i) (arg4.slice (Rect.unit (s := S2x20736) ![sl, 0] S1x20736.size inb) (fun _ => rfl)) fullShare
    (fun y => (fun j : S2x20736.Idx => X (j 1).val) ((Rect.unit (s := S2x20736) ![sl, 0] S1x20736.size inb).emb y))

/-- The rows before `t`, and `t`'s first `c` columns, are the block's. -/
def Copied (X : ℕ → Elt F .f32) (t c : ℕ) (f : Vec F S48x432 .f32) : Prop :=
  ∀ j : S48x432.Idx, ((j 0).val < t ∨ (j 0).val = t ∧ (j 1).val < c) → f j = X (432 * (j 0).val + (j 1).val)

theorem pay_copy (v : Vec F S1x16 .f32) (x : S1x16.Idx) : k1_pay4 v x = v x := by
  have h0 : (x 0).val = 0 := Nat.lt_one_iff.mp (x 0).isLt
  have hi : ∀ y : S16.Idx, (y 0).val = (x 1).val → (S1x16.rowMajor x).val = (S16.rowMajor y).val := fun y hy => by
    rw [Shape.rowMajor_val_two, Shape.rowMajor_val_one, hy, h0, Nat.zero_mul, Nat.zero_add]
  unfold k1_pay4
  refine (shapeCast_apply _ _ x (ix1 (x 1) : S16.Idx) (hi _ rfl).symm).trans ?_
  exact shapeCast_apply _ _ (ix1 (x 1) : S16.Idx) x (hi _ rfl)

/-- The copies of one row. -/
theorem wp_rowProg {arg4 : Memref sig .scVector .vmem S2x20736 .f32} {buf : Memref sig .scVector .vmem S48x432 .f32} {sl t : ℕ}
    (ht : t < 48) {inb : ∀ a, (![sl, 0] : Fin 2 → ℕ) a + S1x20736.size a ≤ S2x20736.size a} {so dt : ℕ → Fin 2 → ℕ}
    {hso : ∀ g < 27, ∀ a, so g a + S1x16.size a ≤ S2x20736.size a} {hdt : ∀ g < 27, ∀ a, dt g a + S1x16.size a ≤ S48x432.size a}
    (es : ∀ g < 27, so g = ![sl, 432 * t + 16 * g]) (ed : ∀ g < 27, dt g = ![t, 16 * g]) (X : ℕ → Elt F .f32) (n : ℕ) (hn : n ≤ 27) :
    iprop(slotOwn d i arg4 sl inb X ∗ (∃ f, ⌜Copied X t (16 * (27 - n)) f⌝ ∗ owns (thr1 d i) buf fullShare f))
      ⊢ (wp frame (wpE (defs₀ (F := F)) 𝒱₀ (thr1 d i) none) Set.univ (rowProg i arg4 buf so hso dt hdt n)
          fun _ => iprop(slotOwn d i arg4 sl inb X ∗ (∃ f, ⌜Copied X (t + 1) 0 f⌝ ∗ owns (thr1 d i) buf fullShare f)) : sProp 𝕄) := by
  induction n with
  | zero =>
    unfold rowProg
    iintro ⟨H4, %f, %hf, Hb⟩
    rw [wp_ret]
    imodintro
    isplitl [H4]; · iexact H4
    iexists f
    isplitr
    · ipureintro
      intro j hj
      refine hf j ?_
      have : (j 1).val < 432 := (j 1).isLt
      omega
    · iexact Hb
  | succ n ih =>
    unfold rowProg
    obtain ⟨g, rfl⟩ : ∃ g, n = 26 - g := ⟨26 - n, by omega⟩
    have hin : (Rect.unit (s := S2x20736) (so (26 - (26 - g))) S1x16.size (hso _ (by omega))).set
        ⊆ (Rect.unit (s := S2x20736) ![sl, 0] S1x20736.size inb).set := by
      intro j hj
      have h0 := Rect.mem_set_unit.mp hj 0
      rw [es _ (by omega)] at h0
      refine Rect.mem_set_unit.mpr fun a => ?_
      match a with
      | ⟨0, _⟩ => exact h0
      | ⟨1, _⟩ => exact ⟨Nat.zero_le _, (j 1).isLt.trans_le (Nat.zero_add _).ge⟩
    iintro ⟨H4, %f, %hf, Hb⟩
    iapply (own_load_in (defs := defs₀ (F := F)) 𝒱₀ (thr1 d i) none (m := arg4) (G := fun j : S2x20736.Idx => X (j 1).val) hin) $$ H4
    iintro H4
    iapply (own_load (defs := defs₀ (F := F)) 𝒱₀ (thr1 d i) none) $$ Hb
    iintro Hb
    iapply (own_store (defs := defs₀ (F := F)) 𝒱₀ (thr1 d i) none) $$ Hb
    iintro Hb
    iapply (ih (by omega)) $$ [H4 Hb]
    isplitl [H4]; · iexact H4
    iexists _
    isplitr
    rotate_left
    · iexact Hb
    · ipureintro
      intro j hj
      have hj1 : (j 1).val < 432 := (j 1).isLt
      have e0 := congrFun (ed (26 - (26 - g)) (by omega)) 0
      have e1 := congrFun (ed (26 - (26 - g)) (by omega)) 1
      have e2 := congrFun (es (26 - (26 - g)) (by omega)) 1
      change dt _ 0 = t at e0
      change dt _ 1 = 16 * _ at e1
      change so _ 1 = 432 * t + 16 * _ at e2
      by_cases hin' : (j 0).val = t ∧ 16 * (26 - (26 - g)) ≤ (j 1).val
      · have ha : ∀ a, (j a).val = dt (26 - (26 - g)) a
            + ((ix2 (0 : Fin 1) (⟨(j 1).val - 16 * (26 - (26 - g)), by omega⟩ : Fin 16) : S1x16.Idx) a).val := fun a => by
          match a with
          | ⟨0, _⟩ => exact hin'.1.trans (e0.symm.trans (Nat.add_zero _).symm)
          | ⟨1, _⟩ =>
            refine Eq.trans ?_ (congrArg (· + _) e1.symm)
            change (j 1).val = 16 * (26 - (26 - g)) + ((j 1).val - 16 * (26 - (26 - g)))
            omega
        refine (overlay_unit_in (s := S48x432) (off := dt (26 - (26 - g))) (size := S1x16.size) f _ _ ha).trans ?_
        rw [pay_copy]
        refine congrArg X ((emb_unit_val (s := S2x20736) (off := so (26 - (26 - g))) (size := S1x16.size) _ _ 1).trans ?_)
        rw [e2]
        change 432 * t + 16 * (26 - (26 - g)) + ((j 1).val - 16 * (26 - (26 - g))) = _
        omega
      · refine (overlay_unit_out (s := S48x432) (off := dt (26 - (26 - g))) (size := S1x16.size) f _ ?_).trans (hf j (by omega))
        by_cases h0 : (j 0).val = t
        · refine ⟨1, .inl ?_⟩
          rw [e1]; omega
        · refine ⟨0, ?_⟩
          rw [e0]
          change (j 0).val < t ∨ t + 1 ≤ (j 0).val
          omega

/-- A copy loop: the whole block in rows. -/
theorem wp_rows {arg4 : Memref sig .scVector .vmem S2x20736 .f32} {buf : Memref sig .scVector .vmem S48x432 .f32} (sl : ℕ)
    {inb : ∀ a, (![sl, 0] : Fin 2 → ℕ) a + S1x20736.size a ≤ S2x20736.size a} {L : Scf.Loop 32} {hok : L.OK}
    {body : Fin L.trips → Unit → TileProg1 F i Unit} (hL : L.trips = 48) (hb : ∀ k, IsRow i arg4 buf sl k.val (body k ⟨⟩)) (X : ℕ → Elt F .f32) :
    iprop(slotOwn d i arg4 sl inb X ∗ (∃ f, owns (thr1 d i) buf fullShare f))
      ⊢ (iprop((iprop(slotOwn d i arg4 sl inb X ∗ (∃ f, ⌜Copied X 48 0 f⌝ ∗ owns (thr1 d i) buf fullShare f)) -∗ wp frame (wpE (defs₀ (F := F)) 𝒱₀ (thr1 d i) none) Set.univ (kk ⟨⟩) Q)
          -∗ wp frame (wpE (defs₀ (F := F)) 𝒱₀ (thr1 d i) none) Set.univ (Scf.Loop.for L hok ⟨⟩ body >>= kk) Q) : sProp 𝕄) := by
  iintro ⟨H4, %f, Hb⟩ Hk
  iapply (Scf.wp_for_bind frame (wpE (defs₀ (F := F)) 𝒱₀ (thr1 d i) none) Set.univ L.lb L.ub L.st hok ⟨⟩ _
    (fun n _ => iprop(slotOwn d i arg4 sl inb X ∗ (∃ f, ⌜Copied X n 0 f⌝ ∗ owns (thr1 d i) buf fullShare f))) (fun k acc => ?_)) $$ [H4 Hb]
  · obtain ⟨so, hso, dt, hdt, hp, es, ed⟩ := hb k
    rw [show body k acc = _ from hp]
    refine BIBase.Entails.trans ?_ (wp_rowProg d i (lt_of_lt_of_eq k.isLt hL) es ed X 27 le_rfl)
    exact .rfl
  · isplitl [H4]; · iexact H4
    iexists f
    isplitr
    · ipureintro
      intro j hj
      rcases hj with hj | hj
      · exact absurd hj (Nat.not_lt_zero _)
      · exact absurd hj.2 (Nat.not_lt_zero _)
    · iexact Hb
  rw [show Scf.trips L.lb L.ub L.st = 48 from hL]
  iintro %_ H
  iapply Hk $$ H

end Cert.Pillars

end
-- ==== Proof.Flights1.lean ====
/-
  The copies in flight of the relayout: a block's load, a block's copy to the result, and their waits.
-/
module

public import proofs.«01_k».proof.Proof.Rows1

@[expose] public section

set_option maxRecDepth 16384

noncomputable section

namespace Cert.Pillars

open Cert.KernelIdeal Cert.KernelIdeal.Gen
open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (d : Dev nD) (i : grid1.Coords) (arg2 : Memref sig .scVector .hbm S27426816 .f32) (harg2 : arg2.IsWhole) (arg3 : Memref sig .scVector .hbm S2x64x496x432 .f32) (harg3 : arg3.IsWhole) (arg4 : Memref sig .scVector .vmem S2x20736 .f32) (harg4 : arg4.IsWhole) (arg5 : Memref sig .scVector .vmem S48x432 .f32) (harg5 : arg5.IsWhole) (arg6 : Memref sig .scVector .vmem S48x432 .f32) (harg6 : arg6.IsWhole) (arg7 : DmaSems sig S_) (arg8 : DmaSems sig S_) (arg9 : DmaSems sig S_) (arg10 : DmaSems sig S_)

variable {α : Type} {kk : PUnit → TileProg1 F i α} {Q : α → sProp (MT nD τ sig (HIx 2) (Elt F) ℕ UU ℕ)}
variable {O : CellTallies nD τ sig (HIx 2)} {W₀ : Waits sig (HIx 2)}

/-! ## A channel's part of the flat map and of the result -/

/-- Where channel `r` of the tile's four starts in the flat map. -/
def chOff1 (i : grid1.Coords) (r : Fin 4) : Fin 1 → ℕ := ![13713408 * (i 0).val + 857088 * (i 1).val + 214272 * r.val]

theorem chOff1_inb (i : grid1.Coords) (r : Fin 4) : ∀ a, chOff1 i r a + (![214272] : Fin 1 → ℕ) a ≤ S27426816.size a := by
  intro a
  obtain rfl : a = 0 := Fin.eq_zero a
  have h0 : (i 0).val < 2 := (i 0).isLt
  have h1 : (i 1).val < 16 := (i 1).isLt
  have := r.isLt
  change 13713408 * (i 0).val + 857088 * (i 1).val + 214272 * r.val + 214272 ≤ 27426816
  omega

/-- Channel `r`'s words. -/
abbrev chR1 (i : grid1.Coords) (r : Fin 4) : Rect S27426816 := Rect.unit (s := S27426816) (chOff1 i r) ![214272] (chOff1_inb i r)

/-- Where channel `r`'s plane lies in the result. -/
def plOff (i : grid1.Coords) (r : Fin 4) : Fin 4 → ℕ := ![(i 0).val, 4 * (i 1).val + r.val, 0, 0]

theorem plOff_inb (i : grid1.Coords) (r : Fin 4) : ∀ a, plOff i r a + (![1, 1, 496, 432] : Fin 4 → ℕ) a ≤ S2x64x496x432.size a := by
  intro a
  have h0 : (i 0).val < 2 := (i 0).isLt
  have h1 : (i 1).val < 16 := (i 1).isLt
  have := r.isLt
  match a with
  | ⟨0, _⟩ => change (i 0).val + 1 ≤ 2; omega
  | ⟨1, _⟩ => change 4 * (i 1).val + r.val + 1 ≤ 64; omega
  | ⟨2, _⟩ => exact le_rfl
  | ⟨3, _⟩ => exact le_rfl

/-- Channel `r`'s plane. -/
abbrev plR (i : grid1.Coords) (r : Fin 4) : Rect S2x64x496x432 := Rect.unit (s := S2x64x496x432) (plOff i r) ![1, 1, 496, 432] (plOff_inb i r)

/-- A channel of the flat map, held. -/
abbrev img (arg2 : Memref sig .scVector .hbm S27426816 .f32) (r : Fin 4) (G : S27426816.Idx → Elt F .f32) : sProp 𝕄 :=
  owns (thr1 d i) (arg2.slice (chR1 i r) (fun _ => rfl)) fullShare (fun y => G ((chR1 i r).emb y))

/-- A channel of the result, its first blocks' rows filled. -/
def plane (arg3 : Memref sig .scVector .hbm S2x64x496x432 .f32) (r : Fin 4) (v : ℕ → Elt F .f32) (n : ℕ) : sProp 𝕄 :=
  iprop(∃ Z, ⌜∀ j, (j 2).val < min (48 * n) 496 → Z j = v (432 * (j 2).val + (j 3).val)⌝ ∗ owns (thr1 d i) (arg3.slice (plR i r) (fun _ => rfl)) fullShare Z)

/-- A half of the flat memory at any contents. -/
abbrev slotAny (arg4 : Memref sig .scVector .vmem S2x20736 .f32) (sl : ℕ) (inb : ∀ a, (![sl, 0] : Fin 2 → ℕ) a + S1x20736.size a ≤ S2x20736.size a) : sProp 𝕄 :=
  iprop(∃ Y, owns (thr1 d i) (arg4.slice (Rect.unit (s := S2x20736) ![sl, 0] S1x20736.size inb) (fun _ => rfl)) fullShare Y)

/-- What a load credits. -/
def ldCredit (arg4 : Memref sig .scVector .vmem S2x20736 .f32) : ℕ :=
  ((arg4.slice (Rect.unit (s := S2x20736) ![0, 0] S1x20736.size inb_S2x20736_S1x20736_0_0) (fun _ => rfl)).squeeze S20736 squeezes_S1x20736_S20736).view.dmaCredit

/-- What a block's copy out credits. -/
def outCredit (arg3 : Memref sig .scVector .hbm S2x64x496x432 .f32) : ℕ :=
  ((arg3.slice (Rect.unit (s := S2x64x496x432) ![0, 0, 0, 0] S1x1x48x432.size inb_S2x64x496x432_S1x1x48x432_0_0_0_0) (fun _ => rfl)).squeeze
    S48x432 squeezes_S1x1x48x432_S48x432).view.dmaCredit

/-! ## A block's load -/

/-- A block's load started. -/
theorem wp_load1 (sl : ℕ) {inbs : ∀ a, (![sl, 0] : Fin 2 → ℕ) a + S1x20736.size a ≤ S2x20736.size a} {sem : DmaSem sig} (r : Fin 4) {k : ℕ}
    {off : Fin 1 → ℕ} {inb : ∀ a, off a + S20736.size a ≤ S27426816.size a} (hoff : off 0 = chOff1 i r 0 + 432 * row0 k)
    {G : S27426816.Idx → Elt F .f32} {v : ℕ → Elt F .f32} (hG : ∀ j n, n < 214272 → (j 0).val = chOff1 i r 0 + n → G j = v n)
    {hr : ∀ a, (Rect.unit (s := S27426816) off S20736.size inb).stride a = 1} {hq : S1x20736.Squeezes S20736}
    {hrs : ∀ a, (Rect.unit (s := S2x20736) ![sl, 0] S1x20736.size inbs).stride a = 1}
    {hsrc : (arg2.slice (Rect.unit (s := S27426816) off S20736.size inb) hr).view.WordExact} {hdst : ((arg4.slice (Rect.unit (s := S2x20736) ![sl, 0] S1x20736.size inbs) hrs).squeeze S20736 hq).view.WordExact}
    {hsem : DmaTarget.Typed (nD := nD) (p := (thr1 d i).2) .hbm (.dma sem) (.here ((arg4.slice (Rect.unit (s := S2x20736) ![sl, 0] S1x20736.size inbs) hrs).squeeze S20736 hq))} :
    iprop(img d i arg2 r G ∗ slotAny d i arg4 sl inbs ∗ semVal (thr1 d i, .dma sem) 0)
      ⊢ (iprop((Transfers.Flight EC (thr1 d i) (.dma sem) none (ldCredit arg4) iprop(slotOwn d i arg4 sl inbs (fun n => v (432 * row0 k + n)) ∗ img d i arg2 r G)
            -∗ wp frame (wpE (defs₀ (F := F)) 𝒱₀ (thr1 d i) none) Set.univ (kk ⟨⟩) Q)
          -∗ wp frame (wpE (defs₀ (F := F)) 𝒱₀ (thr1 d i) none) Set.univ (.op (.enqueueDma (arg2.slice (Rect.unit (s := S27426816) off S20736.size inb) hr) (.here ((arg4.slice (Rect.unit (s := S2x20736) ![sl, 0] S1x20736.size inbs) hrs).squeeze S20736 hq)) (.dma sem) hsrc hdst hsem) kk) Q) : sProp 𝕄) := by
  have hrow := row0_le k
  have hin : (Rect.unit (s := S27426816) off S20736.size inb).set ⊆ (chR1 i r).set := by
    intro j hj
    have h0 : off 0 ≤ (j 0).val ∧ (j 0).val < off 0 + 20736 := Rect.mem_set_unit.mp hj 0
    refine Rect.mem_set_unit.mpr fun a => ?_
    obtain rfl : a = 0 := Fin.eq_zero a
    change chOff1 i r 0 ≤ (j 0).val ∧ (j 0).val < chOff1 i r 0 + 214272
    omega
  iintro ⟨Hi, ⟨%Y, Hs⟩, Hv⟩ Hk
  unfold owns
  icases Hs with ⟨%fd, %hfd, Hs⟩
  have hset : ((arg4.slice (Rect.unit (s := S2x20736) ![sl, 0] S1x20736.size inbs) hrs).squeeze S20736 hq).view.set ⊆ (arg4.slice (Rect.unit (s := S2x20736) ![sl, 0] S1x20736.size inbs) hrs).view.set :=
    (show ((arg4.slice (Rect.unit (s := S2x20736) ![sl, 0] S1x20736.size inbs) hrs).squeeze S20736 hq).view.set = _ from View.set_reshape _ _).le
  have hval : (fun x : S1x20736.Idx => (fun y : S20736.Idx => G ((Rect.unit (s := S27426816) off S20736.size inb).emb y)) ((Shape.reshapeEquiv hq.numel_eq).symm x))
      = fun y => (fun j : S2x20736.Idx => v (432 * row0 k + (j 1).val)) ((Rect.unit (s := S2x20736) ![sl, 0] S1x20736.size inbs).emb y) := by
    funext x
    have e : (Shape.reshapeEquiv hq.numel_eq).symm x = (ix1 (x 1) : S20736.Idx) := by
      rw [Equiv.symm_apply_eq]
      refine (Shape.reshapeEquiv_eq_of_rowMajor _ ?_).symm
      have h0 : (x 0).val = 0 := Nat.lt_one_iff.mp (x 0).isLt
      rw [Shape.rowMajor_val_two, Shape.rowMajor_val_one, h0, Nat.zero_mul, Nat.zero_add]
    rw [e]
    have e1 : ((Rect.unit (s := S2x20736) ![sl, 0] S1x20736.size inbs).emb x 1).val = (x 1).val :=
      (emb_unit_val (s := S2x20736) (off := ![sl, 0]) (size := S1x20736.size) inbs x 1).trans (Nat.zero_add _)
    have hx : (x 1).val < 20736 := (x 1).isLt
    refine (hG _ (432 * row0 k + (x 1).val) (by omega) ?_).trans (congrArg v ?_)
    · refine (emb_unit_val (s := S27426816) (off := off) (size := S20736.size) inb (ix1 (x 1)) 0).trans ?_
      rw [hoff]
      exact Nat.add_assoc _ _ _
    · exact congrArg (432 * row0 k + ·) e1.symm
  have hD : (((arg4.slice (Rect.unit (s := S2x20736) ![sl, 0] S1x20736.size inbs) hrs).squeeze S20736 hq).view.loc (thr1 d i)
        ↦[(arg4.slice (Rect.unit (s := S2x20736) ![sl, 0] S1x20736.size inbs) hrs).view.set]{fullShare}
        (((arg4.slice (Rect.unit (s := S2x20736) ![sl, 0] S1x20736.size inbs) hrs).squeeze S20736 hq).view.write (Elt F) fd (fun y : S20736.Idx => G ((Rect.unit (s := S27426816) off S20736.size inb).emb y)) Finset.univ))
      ⊢ (slotOwn d i arg4 sl inbs (fun n => v (432 * row0 k + n)) : sProp 𝕄) :=
    BIBase.Entails.trans (written_reshape (Ix := HIx 2) (Name := ℕ) (U := UU) (Lvl := ℕ) (c := thr1 d i)
      (m := arg4.slice (Rect.unit (s := S2x20736) ![sl, 0] S1x20736.size inbs) hrs) (hq := hq) (f := fd))
      (BIBase.Entails.of_eq (congrArg (owns (thr1 d i) (arg4.slice (Rect.unit (s := S2x20736) ![sl, 0] S1x20736.size inbs) hrs) fullShare) hval))
  have key := own_dma_in (defs := defs₀ (F := F)) 𝒱₀ (thr1 d i) none EC (m := arg2) (r₁ := chR1 i r) (hr₁ := fun _ => rfl) (q := fullShare) (G := G) (hsrc := hsrc) (hdst := hdst)
    (hsem := hsem) (k := kk) (Q := Q) hin none (View.amount_pos _ _ (show 0 < S20736.numel from by decide +kernel)) hset hD
  iapply key $$ [Hi Hs Hv]
  · isplitl [Hi]; · iexact Hi
    isplitl [Hs]; · iexact Hs
    iexact Hv
  iintro Hf
  iapply Hk
  iexact Hf

/-! ## A block's copy out -/

/-- A block's copy to its rows of the result started. -/
theorem wp_out1 (buf : Memref sig .scVector .vmem S48x432 .f32) {sem : DmaSem sig} (r : Fin 4) {k : ℕ}
    {off : Fin 4 → ℕ} {inb : ∀ a, off a + S1x1x48x432.size a ≤ S2x64x496x432.size a} (hoff : off = ![(i 0).val, 4 * (i 1).val + r.val, row0 k, 0])
    {v : ℕ → Elt F .f32} {f : Vec F S48x432 .f32} (hf : Copied (fun n => v (432 * row0 k + n)) 48 0 f)
    {hr : ∀ a, (Rect.unit (s := S2x64x496x432) off S1x1x48x432.size inb).stride a = 1} {hq : S1x1x48x432.Squeezes S48x432}
    {hsrc : buf.view.WordExact} {hdst : ((arg3.slice (Rect.unit (s := S2x64x496x432) off S1x1x48x432.size inb) hr).squeeze S48x432 hq).view.WordExact}
    {hsem : DmaTarget.Typed (nD := nD) (p := (thr1 d i).2) .vmem (.dma sem) (.here ((arg3.slice (Rect.unit (s := S2x64x496x432) off S1x1x48x432.size inb) hr).squeeze S48x432 hq))} :
    iprop(owns (thr1 d i) buf fullShare f ∗ plane d i arg3 r v k ∗ semVal (thr1 d i, .dma sem) 0)
      ⊢ (iprop((Transfers.Flight EC (thr1 d i) (.dma sem) none (outCredit arg3) iprop(plane d i arg3 r v (k + 1) ∗ owns (thr1 d i) buf fullShare f)
            -∗ wp frame (wpE (defs₀ (F := F)) 𝒱₀ (thr1 d i) none) Set.univ (kk ⟨⟩) Q)
          -∗ wp frame (wpE (defs₀ (F := F)) 𝒱₀ (thr1 d i) none) Set.univ (.op (.enqueueDma buf (.here ((arg3.slice (Rect.unit (s := S2x64x496x432) off S1x1x48x432.size inb) hr).squeeze S48x432 hq)) (.dma sem) hsrc hdst hsem) kk) Q) : sProp 𝕄) := by
  subst hoff
  have hrow : row0 k ≤ 448 ∧ row0 k + 48 ≥ min (48 * (k + 1)) 496 ∧ row0 k ≤ min (48 * k) 496 := by unfold row0; omega
  iintro ⟨Hb, Hc, Hs⟩ Hk
  unfold plane owns
  icases Hc with ⟨%Z, %hZ, %fd, %hfd, Hc⟩
  have hin : (Rect.unit (s := S2x64x496x432) ![(i 0).val, 4 * (i 1).val + r.val, row0 k, 0] S1x1x48x432.size inb).set ⊆ (plR i r).set := by
    intro j hj
    have hm := Rect.mem_set_unit.mp hj
    refine Rect.mem_set_unit.mpr fun a => ?_
    match a with
    | ⟨0, _⟩ => exact hm 0
    | ⟨1, _⟩ => exact hm 1
    | ⟨2, _⟩ => exact ⟨Nat.zero_le _, (j 2).isLt.trans_le (Nat.zero_add _).ge⟩
    | ⟨3, _⟩ => exact ⟨Nat.zero_le _, (j 3).isLt.trans_le (Nat.zero_add _).ge⟩
  have hset : ((arg3.slice (Rect.unit (s := S2x64x496x432) ![(i 0).val, 4 * (i 1).val + r.val, row0 k, 0] S1x1x48x432.size inb) hr).squeeze S48x432 hq).view.set ⊆ (arg3.slice (plR i r) (fun _ => rfl)).view.set :=
    (show ((arg3.slice (Rect.unit (s := S2x64x496x432) ![(i 0).val, 4 * (i 1).val + r.val, row0 k, 0] S1x1x48x432.size inb) hr).squeeze S48x432 hq).view.set = _ from View.set_reshape _ _).le.trans
      (slice_set_subset (thr1 d i) (m := arg3) hin)
  have hD : (((arg3.slice (Rect.unit (s := S2x64x496x432) ![(i 0).val, 4 * (i 1).val + r.val, row0 k, 0] S1x1x48x432.size inb) hr).squeeze S48x432 hq).view.loc (thr1 d i)
        ↦[(arg3.slice (plR i r) (fun _ => rfl)).view.set]{fullShare}
        (((arg3.slice (Rect.unit (s := S2x64x496x432) ![(i 0).val, 4 * (i 1).val + r.val, row0 k, 0] S1x1x48x432.size inb) hr).squeeze S48x432 hq).view.write (Elt F) fd f Finset.univ))
      ⊢ (plane d i arg3 r v (k + 1) : sProp 𝕄) := by
    refine BIBase.Entails.trans (written_inside_squeeze (thr1 d i) (m := arg3) (r₁ := plR i r) (hr₁ := fun _ => rfl) (hr := hr) (hq := hq) (f := fd) (w := f)) ?_
    unfold plane
    iintro H
    iexists _
    isplitr
    rotate_left
    · iexact H
    · ipureintro
      intro j hj
      have he : ∀ a, ((plR i r).emb j a).val = plOff i r a + (j a).val := emb_unit_val (plOff_inb i r) j
      have hj3 : (j 3).val < 432 := (j 3).isLt
      by_cases h : (j 2).val < row0 k
      · refine (overlay_unit_out (s := S2x64x496x432) (off := ![(i 0).val, 4 * (i 1).val + r.val, row0 k, 0]) (size := S1x1x48x432.size) _ _
          ⟨2, .inl ?_⟩).trans ((congrFun hfd j).trans (hZ j (by omega)))
        rw [he]
        exact (Nat.zero_add _).trans_lt h
      · have hlt : (j 2).val - row0 k < 48 := by omega
        have h0 : (j 0).val = 0 := Nat.lt_one_iff.mp (j 0).isLt
        have h1 : (j 1).val = 0 := Nat.lt_one_iff.mp (j 1).isLt
        have ha : ∀ a, ((plR i r).emb j a).val = (![(i 0).val, 4 * (i 1).val + r.val, row0 k, 0] : Fin 4 → ℕ) a
            + ((ix4 (0 : Fin 1) (0 : Fin 1) (⟨(j 2).val - row0 k, hlt⟩ : Fin 48) (j 3) : S1x1x48x432.Idx) a).val := fun a => by
          refine (he a).trans ?_
          match a with
          | ⟨0, _⟩ => exact congrArg ((i 0).val + ·) h0
          | ⟨1, _⟩ => exact congrArg (4 * (i 1).val + r.val + ·) h1
          | ⟨2, _⟩ => change 0 + (j 2).val = row0 k + ((j 2).val - row0 k); omega
          | ⟨3, _⟩ => exact rfl
        refine (overlay_unit_in (s := S2x64x496x432) (off := ![(i 0).val, 4 * (i 1).val + r.val, row0 k, 0]) (size := S1x1x48x432.size) _ _ _ ha).trans ?_
        have e : (Shape.reshapeEquiv hq.numel_eq).symm (ix4 (0 : Fin 1) (0 : Fin 1) (⟨(j 2).val - row0 k, hlt⟩ : Fin 48) (j 3) : S1x1x48x432.Idx)
            = (ix2 (⟨(j 2).val - row0 k, hlt⟩ : Fin 48) (j 3) : S48x432.Idx) := by
          rw [Equiv.symm_apply_eq]
          refine (Shape.reshapeEquiv_eq_of_rowMajor _ ?_).symm
          rw [Shape.rowMajor_val_four, Shape.rowMajor_val_two]
          change ((0 * 1 + 0) * 48 + ((j 2).val - row0 k)) * 432 + (j 3).val = ((j 2).val - row0 k) * 432 + (j 3).val
          omega
        refine (congrArg f e).trans ((hf _ (.inl hlt)).trans (congrArg v ?_))
        change 432 * row0 k + (432 * ((j 2).val - row0 k) + (j 3).val) = _
        omega
  have key := own_dma (defs := defs₀ (F := F)) 𝒱₀ (thr1 d i) none EC (src := buf) (q := fullShare) (X := f) (hsrc := hsrc) (hdst := hdst)
    (hsem := hsem) (k := kk) (Q := Q) none (View.amount_pos _ _ (by decide +kernel)) hset hD
  iapply key $$ [Hb Hc Hs]
  · isplitl [Hb]
    · unfold owns; iexact Hb
    isplitl [Hc]; · iexact Hc
    iexact Hs
  iintro Hf
  iapply Hk
  unfold owns
  iexact Hf

/-! ## The waits of the copies out -/

/-- A copy in flight since an earlier block, or none before the first. -/
def pend (sem : DmaSem sig) (N n : ℕ) (buf : Memref sig .scVector .vmem S48x432 .f32) (D : sProp (MT nD τ sig (HIx 2) (Elt F) ℕ UU ℕ)) : sProp 𝕄 :=
  if n = 0 then iprop(D ∗ (∃ f, owns (thr1 d i) buf fullShare f) ∗ semVal (thr1 d i, .dma sem) 0)
  else iprop(∃ f, Transfers.Flight EC (thr1 d i) (.dma sem) none N iprop(D ∗ owns (thr1 d i) buf fullShare f))

theorem pend_intro {sem : DmaSem sig} {N n : ℕ} {buf : Memref sig .scVector .vmem S48x432 .f32} {D : sProp (MT nD τ sig (HIx 2) (Elt F) ℕ UU ℕ)} (hn : n ≠ 0)
    {f : Vec F S48x432 .f32} :
    Transfers.Flight EC (thr1 d i) (.dma sem) none N iprop(D ∗ owns (thr1 d i) buf fullShare f) ⊢ (pend d i sem N n buf D : sProp 𝕄) := by
  unfold pend
  rw [if_neg hn]
  iintro H
  iexists f
  iexact H

/-- The guarded wait. -/
theorem wp_wait_pend {p : TileProg1 F i α} {b : BitVec 1} {N n : ℕ} {D : sProp (MT nD τ sig (HIx 2) (Elt F) ℕ UU ℕ)} (hb : b = 1#1 ↔ n ≠ 0) {sp : Space}
    {buf : Memref sig .scVector .vmem S48x432 .f32} {s : Shape} {e : EltTy} {sem : DmaSem sig}
    {dstw : Memref sig .scVector sp s e} {hsrc : buf.view.WordExact} {hdst : dstw.view.WordExact}
    (hN : dstw.view.dmaCredit = N) :
    iprop(Transfers.MayWaits (thr1 d i) none O ∗ owing (thr1 d i) O W₀ ∗ pend d i sem N n buf D)
      ⊢ (iprop((iprop(owing (thr1 d i) O W₀ ∗ D ∗ (∃ f, owns (thr1 d i) buf fullShare f) ∗ semVal (thr1 d i, .dma sem) 0) -∗ wp frame (wpE (defs₀ (F := F)) 𝒱₀ (thr1 d i) none) Set.univ p Q)
          -∗ wp frame (wpE (defs₀ (F := F)) 𝒱₀ (thr1 d i) none) Set.univ (if _h : b = 1#1 then (.op (.waitDma2 sem buf dstw hsrc hdst) fun _ => p : TileProg1 F i α) else p) Q) : sProp 𝕄) := by
  unfold pend
  by_cases hn : n = 0
  · rw [if_pos hn, dif_neg (fun h => hb.mp h hn)]
    iintro ⟨-, HO, HD, Hf, Hs⟩ Hk
    iapply Hk
    isplitl [HO]; · iexact HO
    isplitl [HD]; · iexact HD
    isplitl [Hf] <;> iassumption
  · rw [if_neg hn, dif_pos (hb.mpr hn)]
    iintro ⟨#Hmw, HO, %f, Hp⟩ Hk
    iapply (own_wait (defs := defs₀ (F := F)) 𝒱₀ (thr1 d i) none EC (hsrc := hsrc) (hdst := hdst) (k := fun _ => p) hN) $$ [Hp HO]
    · isplitl [Hp]; · iexact Hp
      isplitl [HO]; · iexact HO
      iexact Hmw
    iintro ⟨⟨HD, Hf⟩, Hs, HO⟩
    iapply Hk
    isplitl [HO]; · iexact HO
    isplitl [HD]; · iexact HD
    isplitl [Hf]
    · iexists f; iexact Hf
    · iexact Hs

/-- A load's wait. -/
theorem wp_wait_ld {sem : DmaSem sig} {D : sProp (MT nD τ sig (HIx 2) (Elt F) ℕ UU ℕ)} {s s' : Shape} {e e' : EltTy} {sp sp' : Space}
    {srcw : Memref sig .scVector sp' s' e'} {dstw : Memref sig .scVector sp s e} {hsrc : srcw.view.WordExact} {hdst : dstw.view.WordExact} {N : ℕ}
    (hN : dstw.view.dmaCredit = N) :
    iprop(Transfers.MayWaits (thr1 d i) none O ∗ owing (thr1 d i) O W₀ ∗ Transfers.Flight EC (thr1 d i) (.dma sem) none N D)
      ⊢ (iprop((iprop(owing (thr1 d i) O W₀ ∗ D ∗ semVal (thr1 d i, .dma sem) 0) -∗ wp frame (wpE (defs₀ (F := F)) 𝒱₀ (thr1 d i) none) Set.univ (kk ⟨⟩) Q)
          -∗ wp frame (wpE (defs₀ (F := F)) 𝒱₀ (thr1 d i) none) Set.univ (.op (.waitDma2 sem srcw dstw hsrc hdst) kk) Q) : sProp 𝕄) := by
  iintro ⟨#Hmw, HO, Hp⟩ Hk
  iapply (own_wait (defs := defs₀ (F := F)) 𝒱₀ (thr1 d i) none EC (hsrc := hsrc) (hdst := hdst) (k := kk) hN) $$ [Hp HO]
  · isplitl [Hp]; · iexact Hp
    isplitl [HO]; · iexact HO
    iexact Hmw
  iintro ⟨HD, Hs, HO⟩
  iapply Hk
  isplitl [HO]; · iexact HO
  isplitl [HD] <;> iassumption

/-! ## The loads carried from block to block -/

/-- The next block's load of the first channel in flight, or nothing after the last. -/
def ld (arg2 : Memref sig .scVector .hbm S27426816 .f32) (arg4 : Memref sig .scVector .vmem S2x20736 .f32) (sem : DmaSem sig) (G : S27426816.Idx → Elt F .f32)
    (v : ℕ → Elt F .f32) (n : ℕ) : sProp 𝕄 :=
  if n < 11 then Transfers.Flight EC (thr1 d i) (.dma sem) none (ldCredit arg4)
    iprop(slotOwn d i arg4 0 inb_S2x20736_S1x20736_0_0 (fun m => v (432 * row0 n + m)) ∗ img d i arg2 0 G)
  else iprop(slotAny d i arg4 0 inb_S2x20736_S1x20736_0_0 ∗ img d i arg2 0 G ∗ semVal (thr1 d i, .dma sem) 0)

theorem trips_t1 : k1_t1_loop.trips = 11 := by decide +kernel

theorem cond4_iff : ∀ t : Fin k1_t1_loop.trips, k1_cond4 t = 1#1 ↔ t.val + 1 < 11 := by decide +kernel

/-- The guarded load of the next block's first channel. -/
theorem wp_prefetch {t : Fin k1_t1_loop.trips} {p : TileProg1 F i α} {sem : DmaSem sig}
    {G : S27426816.Idx → Elt F .f32} {v : ℕ → Elt F .f32} (hG : ∀ j n, n < 214272 → (j 0).val = chOff1 i 0 0 + n → G j = v n) {X : ℕ → Elt F .f32}
    {hr : ∀ h : k1_cond4 t = 1#1, ∀ a, (Rect.unit (s := S27426816) (k1_off88 i t) S20736.size (k1_off88_inb i t h)).stride a = 1} {hq : S1x20736.Squeezes S20736}
    {hrs : ∀ a, (Rect.unit (s := S2x20736) ![0, 0] S1x20736.size inb_S2x20736_S1x20736_0_0).stride a = 1}
    {hsrc : ∀ h : k1_cond4 t = 1#1, (arg2.slice (Rect.unit (s := S27426816) (k1_off88 i t) S20736.size (k1_off88_inb i t h)) (hr h)).view.WordExact}
    {hdst : ((arg4.slice (Rect.unit (s := S2x20736) ![0, 0] S1x20736.size inb_S2x20736_S1x20736_0_0) hrs).squeeze S20736 hq).view.WordExact}
    {hsem : DmaTarget.Typed (nD := nD) (p := (thr1 d i).2) .hbm (.dma sem) (.here ((arg4.slice (Rect.unit (s := S2x20736) ![0, 0] S1x20736.size inb_S2x20736_S1x20736_0_0) hrs).squeeze S20736 hq))} :
    iprop(img d i arg2 0 G ∗ slotOwn d i arg4 0 inb_S2x20736_S1x20736_0_0 X ∗ semVal (thr1 d i, .dma sem) 0)
      ⊢ (iprop((ld d i arg2 arg4 sem G v (t.val + 1) -∗ wp frame (wpE (defs₀ (F := F)) 𝒱₀ (thr1 d i) none) Set.univ p Q)
          -∗ wp frame (wpE (defs₀ (F := F)) 𝒱₀ (thr1 d i) none) Set.univ (if h : k1_cond4 t = 1#1 then
              (.op (.enqueueDma (arg2.slice (Rect.unit (s := S27426816) (k1_off88 i t) S20736.size (k1_off88_inb i t h)) (hr h))
                (.here ((arg4.slice (Rect.unit (s := S2x20736) ![0, 0] S1x20736.size inb_S2x20736_S1x20736_0_0) hrs).squeeze S20736 hq)) (.dma sem) (hsrc h) hdst hsem) fun _ => p : TileProg1 F i α) else p) Q) : sProp 𝕄) := by
  unfold ld
  by_cases hn : t.val + 1 < 11
  · have hc := (cond4_iff t).mpr hn
    rw [if_pos hn, dif_pos hc]
    iintro ⟨Hi, Hs, Hv⟩ Hk
    have key := wp_load1 d i (arg2 := arg2) (arg4 := arg4) (kk := fun _ => p) (Q := Q) (sem := sem) 0 0 (k := t.val + 1) (off := k1_off88 i t) (by
      have := congrFun (k1_off88_eq i t) 0
      rw [this]
      change 13713408 * (i 0).val + 857088 * (i 1).val + 432 * min (48 * t.val + 48) 448 = 13713408 * (i 0).val + 857088 * (i 1).val + 214272 * 0 + 432 * min (48 * (t.val + 1)) 448
      omega) hG (hr := hr hc) (hrs := hrs) (hq := hq) (hsrc := hsrc hc) (hdst := hdst) (hsem := hsem)
    iapply key $$ [Hi Hs Hv]
    · isplitl [Hi]; · iexact Hi
      isplitl [Hs]
      · iexists _; iexact Hs
      iexact Hv
    iexact Hk
  · have hc : ¬ k1_cond4 t = 1#1 := fun h => hn ((cond4_iff t).mp h)
    rw [if_neg hn, dif_neg hc]
    iintro ⟨Hi, Hs, Hv⟩ Hk
    iapply Hk
    isplitl [Hs]
    · iexists _; iexact Hs
    isplitl [Hi] <;> iassumption

/-- One part after another. -/
theorem wp_seq1 {β : Type} {p : TileProg1 F i β} {R : β → sProp (MT nD τ sig (HIx 2) (Elt F) ℕ UU ℕ)} {kk : β → TileProg1 F i α}
    {P : sProp (MT nD τ sig (HIx 2) (Elt F) ℕ UU ℕ)} (h : P ⊢ wp frame (wpE (defs₀ (F := F)) 𝒱₀ (thr1 d i) none) Set.univ p R) :
    P ⊢ (iprop((∀ r, R r -∗ wp frame (wpE (defs₀ (F := F)) 𝒱₀ (thr1 d i) none) Set.univ (kk r) Q) -∗ wp frame (wpE (defs₀ (F := F)) 𝒱₀ (thr1 d i) none) Set.univ (p >>= kk) Q) : sProp 𝕄) := by
  rw [wp_bind]
  iintro HP Hk
  iapply (wp_wand frame (wpE (defs₀ (F := F)) 𝒱₀ (thr1 d i) none) Set.univ (p := p) (Q := R)) $$ [HP]
  · iapply h $$ HP
  · iexact Hk

end Cert.Pillars

end
-- ==== Proof.Block1.lean ====
/-
  The relayout's loop over blocks: the four channels of one block, each loaded, copied row by row and sent out.
-/
module

public import proofs.«01_k».proof.Proof.Flights1

@[expose] public section

set_option maxRecDepth 16384

noncomputable section

namespace Cert.Pillars

open Cert.KernelIdeal Cert.KernelIdeal.Gen
open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (d : Dev nD) (i : grid1.Coords) (arg2 : Memref sig .scVector .hbm S27426816 .f32) (harg2 : arg2.IsWhole) (arg3 : Memref sig .scVector .hbm S2x64x496x432 .f32) (harg3 : arg3.IsWhole) (arg4 : Memref sig .scVector .vmem S2x20736 .f32) (harg4 : arg4.IsWhole) (arg5 : Memref sig .scVector .vmem S48x432 .f32) (harg5 : arg5.IsWhole) (arg6 : Memref sig .scVector .vmem S48x432 .f32) (harg6 : arg6.IsWhole) (arg7 : DmaSems sig S_) (arg8 : DmaSems sig S_) (arg9 : DmaSems sig S_) (arg10 : DmaSems sig S_)

variable {α : Type} {kk : PUnit → TileProg1 F i α} {Q : α → sProp (MT nD τ sig (HIx 2) (Elt F) ℕ UU ℕ)}
variable {O : CellTallies nD τ sig (HIx 2)} {W₀ : Waits sig (HIx 2)}

variable {G : S27426816.Idx → Elt F .f32} {v : Fin 4 → ℕ → Elt F .f32}

theorem flag0 : ∀ t : Fin k1_t1_loop.trips, (Scalar.cmpi .ne (Scalar.extui (Scalar.cmpi .sge (Scalar.addi (Scalar.muli (Scf.iv 0#32 1#32 t) 4#32) 0#32) 2#32) : BitVec 32) 0#32) = 1#1 ↔ t.val ≠ 0 := by decide +kernel

theorem flag1 : ∀ t : Fin k1_t1_loop.trips, (Scalar.cmpi .ne (Scalar.extui (Scalar.cmpi .sge (Scalar.addi (Scalar.muli (Scf.iv 0#32 1#32 t) 4#32) 1#32) 2#32) : BitVec 32) 0#32) = 1#1 ↔ t.val ≠ 0 := by decide +kernel

theorem flag2 : ∀ t : Fin k1_t1_loop.trips, (Scalar.cmpi .ne (Scalar.extui (Scalar.cmpi .sge (Scalar.addi (Scalar.muli (Scf.iv 0#32 1#32 t) 4#32) 2#32) 2#32) : BitVec 32) 0#32) = 1#1 ↔ (1 : ℕ) ≠ 0 := by decide +kernel

theorem flag3 : ∀ t : Fin k1_t1_loop.trips, (Scalar.cmpi .ne (Scalar.extui (Scalar.cmpi .sge (Scalar.addi (Scalar.muli (Scf.iv 0#32 1#32 t) 4#32) 3#32) 2#32) : BitVec 32) 0#32) = 1#1 ↔ (1 : ℕ) ≠ 0 := by decide +kernel

/-- Where a block's load of a later channel starts. -/
theorem off2_at (t : Fin k1_t1_loop.trips) (r : Fin 3) {r' : Fin 4} (h : r'.val = r.val + 1) :
    k1_off2 i t (BitVec.ofNat 32 (1 + r.val)) 0 = chOff1 i r' 0 + 432 * row0 t.val := by
  rw [congrFun (k1_off2_eq i t r) 0]
  change 13713408 * (i 0).val + 857088 * (i 1).val + 214272 * r.val + 432 * min (48 * t.val) 448 + 214272
    = 13713408 * (i 0).val + 857088 * (i 1).val + 214272 * r'.val + 432 * min (48 * t.val) 448
  omega

/-- The first channel's copy in, and the second's load started. -/
theorem wp_part25 (hG : ∀ r : Fin 4, ∀ j n, n < 214272 → (j 0).val = chOff1 i r 0 + n → G j = v r n) (t : Fin k1_t1_loop.trips) :
    iprop(Transfers.MayWaits (thr1 d i) none O ∗ owing (thr1 d i) O W₀ ∗ img d i arg2 1 G ∗ slotAny d i arg4 1 inb_S2x20736_S1x20736_1_0 ∗ semVal (thr1 d i, .dma arg8.sem) 0
        ∗ Transfers.Flight EC (thr1 d i) (.dma arg7.sem) none (ldCredit arg4) iprop(slotOwn d i arg4 0 inb_S2x20736_S1x20736_0_0 (fun m => v 0 (432 * row0 t.val + m)) ∗ img d i arg2 0 G) ∗ pend d i arg9.sem (outCredit arg3) t.val arg5 (plane d i arg3 2 (v 2) t.val))
      ⊢ (wp frame (wpE (defs₀ (F := F)) 𝒱₀ (thr1 d i) none) Set.univ (k1_part25 i arg2 harg2 arg3 harg3 arg4 harg4 arg5 harg5 arg6 harg6
            arg7 arg8 arg9 arg10 (BitVec.ofNat 32 (i 0).val) (BitVec.ofNat 32 (i 1).val) 0#32 1#32 t)
          fun x => iprop(⌜x = ⟨Scf.iv 0#32 1#32 t, 0#32⟩⌝ ∗ owing (thr1 d i) O W₀ ∗ Transfers.Flight EC (thr1 d i) (.dma arg8.sem) none (ldCredit arg4) iprop(slotOwn d i arg4 1 inb_S2x20736_S1x20736_1_0 (fun m => v 1 (432 * row0 t.val + m)) ∗ img d i arg2 1 G)
            ∗ slotOwn d i arg4 0 inb_S2x20736_S1x20736_0_0 (fun m => v 0 (432 * row0 t.val + m)) ∗ img d i arg2 0 G ∗ semVal (thr1 d i, .dma arg7.sem) 0 ∗ plane d i arg3 2 (v 2) t.val ∗ (∃ f, owns (thr1 d i) arg5 fullShare f) ∗ semVal (thr1 d i, .dma arg9.sem) 0) : sProp 𝕄) := by
  rw [k1_part25_eq_skeleton]
  unfold k1_part25_skel
  simp only [Prog.lift, Prog.bind_op, Prog.bind_ret, Prog.pure_eq_ret]
  iintro ⟨#Hmw, HO, Hi1, Hs1, H8, H7, H9⟩
  iapply (wp_load1 d i arg2 arg4 1 1 (k := t.val) (v := v 1) (off2_at i t 0 rfl) (hG 1)) $$ [Hi1 Hs1 H8]
  · isplitl [Hi1]; · iexact Hi1
    isplitl [Hs1]; · iexact Hs1
    iexact H8
  iintro H8
  iapply (wp_wait_ld d i (N := ldCredit arg4) rfl) $$ [HO H7]
  · isplitr; · iexact Hmw
    isplitl [HO]; · iexact HO
    iexact H7
  iintro ⟨HO, ⟨Hs0, Hi0⟩, H7⟩
  iapply (wp_wait_pend d i (N := outCredit arg3) (n := t.val) (flag0 t) rfl) $$ [HO H9]
  · isplitr; · iexact Hmw
    isplitl [HO]; · iexact HO
    iexact H9
  iintro ⟨HO, Hp, H5, H9⟩
  rw [wp_ret]
  imodintro
  isplitr; · ipureintro; rfl
  · isplitl [HO]; · iexact HO
    isplitl [H8]; · iexact H8
    isplitl [Hs0]; · iexact Hs0
    isplitl [Hi0]; · iexact Hi0
    isplitl [H7]; · iexact H7
    isplitl [Hp]; · iexact Hp
    isplitl [H5]; · iexact H5
    iexact H9

/-- The first channel's rows out, the third's load started. -/
theorem wp_part26 (hG : ∀ r : Fin 4, ∀ j n, n < 214272 → (j 0).val = chOff1 i r 0 + n → G j = v r n) (t : Fin k1_t1_loop.trips) :
    iprop(Transfers.MayWaits (thr1 d i) none O ∗ owing (thr1 d i) O W₀ ∗ slotOwn d i arg4 0 inb_S2x20736_S1x20736_0_0 (fun m => v 0 (432 * row0 t.val + m)) ∗ (∃ f, owns (thr1 d i) arg5 fullShare f) ∗ plane d i arg3 0 (v 0) t.val ∗ semVal (thr1 d i, .dma arg9.sem) 0 ∗ semVal (thr1 d i, .dma arg7.sem) 0 ∗ img d i arg2 2 G
        ∗ Transfers.Flight EC (thr1 d i) (.dma arg8.sem) none (ldCredit arg4) iprop(slotOwn d i arg4 1 inb_S2x20736_S1x20736_1_0 (fun m => v 1 (432 * row0 t.val + m)) ∗ img d i arg2 1 G))
      ⊢ (wp frame (wpE (defs₀ (F := F)) 𝒱₀ (thr1 d i) none) Set.univ (k1_part26 i arg2 harg2 arg3 harg3 arg4 harg4 arg5 harg5 arg6 harg6
            arg7 arg8 arg9 arg10 (BitVec.ofNat 32 (i 0).val) (BitVec.ofNat 32 (i 1).val) t (Scf.iv 0#32 1#32 t) 0#32)
          fun _ => iprop(owing (thr1 d i) O W₀ ∗ pend d i arg9.sem (outCredit arg3) 1 arg5 (plane d i arg3 0 (v 0) (t.val + 1)) ∗ Transfers.Flight EC (thr1 d i) (.dma arg7.sem) none (ldCredit arg4) iprop(slotOwn d i arg4 0 inb_S2x20736_S1x20736_0_0 (fun m => v 2 (432 * row0 t.val + m)) ∗ img d i arg2 2 G) ∗ slotOwn d i arg4 1 inb_S2x20736_S1x20736_1_0 (fun m => v 1 (432 * row0 t.val + m)) ∗ img d i arg2 1 G ∗ semVal (thr1 d i, .dma arg8.sem) 0) : sProp 𝕄) := by
  rw [k1_part26_eq_skeleton]
  unfold k1_part26_skel
  simp only [Prog.lift, Prog.bind_op, Prog.bind_ret, Prog.pure_eq_ret]
  iintro ⟨#Hmw, HO, Hs0, H5, Hp, H9, H7, Hi2, H8⟩
  iapply (wp_rows d i 0 trips_t2 (isRow_t2 i arg2 harg2 arg3 harg3 arg4 harg4 arg5 harg5 arg6 harg6
            arg7 arg8 arg9 arg10 _ _ _ t) (fun m => v 0 (432 * row0 t.val + m))) $$ [Hs0 H5]
  · isplitl [Hs0] <;> iassumption
  iintro ⟨Hs0, %f, %hf, H5⟩
  iapply (wp_out1 d i arg3 arg5 0 (k1_off31_eq i t 0) hf) $$ [H5 Hp H9]
  · isplitl [H5]; · iexact H5
    isplitl [Hp]; · iexact Hp
    iexact H9
  iintro H9
  iapply (wp_load1 d i arg2 arg4 0 2 (k := t.val) (v := v 2) (off2_at i t 1 rfl) (hG 2)) $$ [Hi2 Hs0 H7]
  · isplitl [Hi2]; · iexact Hi2
    isplitl [Hs0]
    · iexists _; iexact Hs0
    iexact H7
  iintro H7
  iapply (wp_wait_ld d i (N := ldCredit arg4) (dstw := (arg4.slice (Rect.unit (s := S2x20736) ![1, 0] S1x20736.size inb_S2x20736_S1x20736_1_0) (fun _ => rfl)).squeeze S20736 squeezes_S1x20736_S20736) rfl) $$ [HO H8]
  · isplitr; · iexact Hmw
    isplitl [HO]; · iexact HO
    iexact H8
  iintro ⟨HO, ⟨Hs1, Hi1⟩, H8⟩
  rw [wp_ret]
  imodintro
  isplitl [HO]; · iexact HO
  isplitl [H9]
  · iapply (pend_intro d i Nat.one_ne_zero) $$ H9
  isplitl [H7]; · iexact H7
  isplitl [Hs1]; · iexact Hs1
  isplitl [Hi1] <;> iassumption

/-- The second channel's rows out, the fourth's load started. -/
theorem wp_part27 (hG : ∀ r : Fin 4, ∀ j n, n < 214272 → (j 0).val = chOff1 i r 0 + n → G j = v r n) (t : Fin k1_t1_loop.trips) :
    iprop(Transfers.MayWaits (thr1 d i) none O ∗ owing (thr1 d i) O W₀ ∗ pend d i arg10.sem (outCredit arg3) t.val arg6 (plane d i arg3 3 (v 3) t.val) ∗ slotOwn d i arg4 1 inb_S2x20736_S1x20736_1_0 (fun m => v 1 (432 * row0 t.val + m)) ∗ plane d i arg3 1 (v 1) t.val ∗ img d i arg2 3 G ∗ semVal (thr1 d i, .dma arg8.sem) 0)
      ⊢ (wp frame (wpE (defs₀ (F := F)) 𝒱₀ (thr1 d i) none) Set.univ (k1_part27 i arg2 harg2 arg3 harg3 arg4 harg4 arg5 harg5 arg6 harg6
            arg7 arg8 arg9 arg10 (BitVec.ofNat 32 (i 0).val) (BitVec.ofNat 32 (i 1).val) t (Scf.iv 0#32 1#32 t))
          fun _ => iprop(owing (thr1 d i) O W₀ ∗ plane d i arg3 3 (v 3) t.val ∗ pend d i arg10.sem (outCredit arg3) 1 arg6 (plane d i arg3 1 (v 1) (t.val + 1)) ∗ Transfers.Flight EC (thr1 d i) (.dma arg8.sem) none (ldCredit arg4) iprop(slotOwn d i arg4 1 inb_S2x20736_S1x20736_1_0 (fun m => v 3 (432 * row0 t.val + m)) ∗ img d i arg2 3 G)) : sProp 𝕄) := by
  rw [k1_part27_eq_skeleton]
  unfold k1_part27_skel
  simp only [Prog.lift, Prog.bind_op, Prog.bind_ret, Prog.pure_eq_ret]
  iintro ⟨#Hmw, HO, H10, Hs1, Hp1, Hi3, H8⟩
  iapply (wp_wait_pend d i (N := outCredit arg3) (n := t.val) (flag1 t) rfl) $$ [HO H10]
  · isplitr; · iexact Hmw
    isplitl [HO]; · iexact HO
    iexact H10
  iintro ⟨HO, Hp3, H6, H10⟩
  iapply (wp_rows d i 1 trips_t3 (isRow_t3 i arg2 harg2 arg3 harg3 arg4 harg4 arg5 harg5 arg6 harg6
            arg7 arg8 arg9 arg10 _ _ _ t) (fun m => v 1 (432 * row0 t.val + m))) $$ [Hs1 H6]
  · isplitl [Hs1] <;> iassumption
  iintro ⟨Hs1, %f, %hf, H6⟩
  iapply (wp_out1 d i arg3 arg6 1 (k1_off31_eq i t 1) hf) $$ [H6 Hp1 H10]
  · isplitl [H6]; · iexact H6
    isplitl [Hp1]; · iexact Hp1
    iexact H10
  iintro H10
  iapply (wp_load1 d i arg2 arg4 1 3 (k := t.val) (v := v 3) (off2_at i t 2 rfl) (hG 3)) $$ [Hi3 Hs1 H8]
  · isplitl [Hi3]; · iexact Hi3
    isplitl [Hs1]
    · iexists _; iexact Hs1
    iexact H8
  iintro H8
  rw [wp_ret]
  imodintro
  isplitl [HO]; · iexact HO
  isplitl [Hp3]; · iexact Hp3
  isplitl [H10]
  · iapply (pend_intro d i Nat.one_ne_zero) $$ H10
  iexact H8

/-- The third channel's rows out, the next block's first load started. -/
theorem wp_part28 (hG : ∀ r : Fin 4, ∀ j n, n < 214272 → (j 0).val = chOff1 i r 0 + n → G j = v r n) (t : Fin k1_t1_loop.trips) :
    iprop(Transfers.MayWaits (thr1 d i) none O ∗ owing (thr1 d i) O W₀ ∗ Transfers.Flight EC (thr1 d i) (.dma arg7.sem) none (ldCredit arg4) iprop(slotOwn d i arg4 0 inb_S2x20736_S1x20736_0_0 (fun m => v 2 (432 * row0 t.val + m)) ∗ img d i arg2 2 G) ∗ pend d i arg9.sem (outCredit arg3) 1 arg5 (plane d i arg3 0 (v 0) (t.val + 1)) ∗ plane d i arg3 2 (v 2) t.val ∗ img d i arg2 0 G)
      ⊢ (wp frame (wpE (defs₀ (F := F)) 𝒱₀ (thr1 d i) none) Set.univ (k1_part28 i arg2 harg2 arg3 harg3 arg4 harg4 arg5 harg5 arg6 harg6
            arg7 arg8 arg9 arg10 (BitVec.ofNat 32 (i 0).val) (BitVec.ofNat 32 (i 1).val) t (Scf.iv 0#32 1#32 t))
          fun _ => iprop(owing (thr1 d i) O W₀ ∗ img d i arg2 2 G ∗ plane d i arg3 0 (v 0) (t.val + 1) ∗ pend d i arg9.sem (outCredit arg3) (t.val + 1) arg5 (plane d i arg3 2 (v 2) (t.val + 1))
            ∗ ld d i arg2 arg4 arg7.sem G (v 0) (t.val + 1)) : sProp 𝕄) := by
  rw [k1_part28_eq_skeleton]
  unfold k1_part28_skel
  simp only [Prog.lift, Prog.bind_op, Prog.bind_ret, Prog.pure_eq_ret]
  iintro ⟨#Hmw, HO, H7, H9, Hp2, Hi0⟩
  iapply (wp_wait_ld d i (N := ldCredit arg4) rfl) $$ [HO H7]
  · isplitr; · iexact Hmw
    isplitl [HO]; · iexact HO
    iexact H7
  iintro ⟨HO, ⟨Hs0, Hi2⟩, H7⟩
  iapply (wp_wait_pend d i (N := outCredit arg3) (n := 1) (flag2 t) rfl) $$ [HO H9]
  · isplitr; · iexact Hmw
    isplitl [HO]; · iexact HO
    iexact H9
  iintro ⟨HO, Hp0, H5, H9⟩
  iapply (wp_rows d i 0 trips_t4 (isRow_t4 i arg2 harg2 arg3 harg3 arg4 harg4 arg5 harg5 arg6 harg6
            arg7 arg8 arg9 arg10 _ _ _ t) (fun m => v 2 (432 * row0 t.val + m))) $$ [Hs0 H5]
  · isplitl [Hs0] <;> iassumption
  iintro ⟨Hs0, %f, %hf, H5⟩
  iapply (wp_out1 d i arg3 arg5 2 (k1_off31_eq i t 2) hf) $$ [H5 Hp2 H9]
  · isplitl [H5]; · iexact H5
    isplitl [Hp2]; · iexact Hp2
    iexact H9
  iintro H9
  iapply (wp_prefetch d i arg2 arg4 (v := v 0) (hG 0)) $$ [Hi0 Hs0 H7]
  · isplitl [Hi0]; · iexact Hi0
    isplitl [Hs0]; · iexact Hs0
    iexact H7
  iintro H7
  rw [wp_ret]
  imodintro
  isplitl [HO]; · iexact HO
  isplitl [Hi2]; · iexact Hi2
  isplitl [Hp0]; · iexact Hp0
  isplitl [H9]
  · iapply (pend_intro d i (Nat.succ_ne_zero _)) $$ H9
  iexact H7

/-- What a tile holds between two blocks. -/
def between1 (arg2 : Memref sig .scVector .hbm S27426816 .f32) (arg3 : Memref sig .scVector .hbm S2x64x496x432 .f32) (arg4 : Memref sig .scVector .vmem S2x20736 .f32)
    (arg5 arg6 : Memref sig .scVector .vmem S48x432 .f32) (arg7 arg8 arg9 arg10 : DmaSems sig S_) (G : S27426816.Idx → Elt F .f32) (v : Fin 4 → ℕ → Elt F .f32)
    (O : CellTallies nD τ sig (HIx 2)) (W₀ : Waits sig (HIx 2)) (n : ℕ) : sProp 𝕄 :=
  iprop(owing (thr1 d i) O W₀ ∗ ld d i arg2 arg4 arg7.sem G (v 0) n ∗ slotAny d i arg4 1 inb_S2x20736_S1x20736_1_0 ∗ semVal (thr1 d i, .dma arg8.sem) 0 ∗ img d i arg2 1 G ∗ img d i arg2 2 G ∗ img d i arg2 3 G
    ∗ pend d i arg9.sem (outCredit arg3) n arg5 (plane d i arg3 2 (v 2) n) ∗ pend d i arg10.sem (outCredit arg3) n arg6 (plane d i arg3 3 (v 3) n) ∗ plane d i arg3 0 (v 0) n ∗ plane d i arg3 1 (v 1) n)

/-- One block: its rows of all four channels. -/
theorem wp_block1 (hG : ∀ r : Fin 4, ∀ j n, n < 214272 → (j 0).val = chOff1 i r 0 + n → G j = v r n) (t : Fin k1_t1_loop.trips) (u : Unit) :
    iprop(Transfers.MayWaits (thr1 d i) none O ∗ between1 d i arg2 arg3 arg4 arg5 arg6 arg7 arg8 arg9 arg10 G v O W₀ t.val)
      ⊢ (wp frame (wpE (defs₀ (F := F)) 𝒱₀ (thr1 d i) none) Set.univ (k1_t1_body i arg2 harg2 arg3 harg3 arg4 harg4 arg5 harg5 arg6 harg6
            arg7 arg8 arg9 arg10 (BitVec.ofNat 32 (i 0).val) (BitVec.ofNat 32 (i 1).val) t u)
          fun _ => between1 d i arg2 arg3 arg4 arg5 arg6 arg7 arg8 arg9 arg10 G v O W₀ (t.val + 1) : sProp 𝕄) := by
  unfold k1_t1_body between1
  have ht : t.val < 11 := lt_of_lt_of_eq t.isLt trips_t1
  rw [show ld d i arg2 arg4 arg7.sem G (v 0) t.val = _ from if_pos ht]
  iintro ⟨#Hmw, HO, H7, Hs1, H8, Hi1, Hi2, Hi3, H9, H10, Hp0, Hp1⟩
  iapply (wp_seq1 d i (wp_part25 d i arg2 harg2 arg3 harg3 arg4 harg4 arg5 harg5 arg6 harg6
            arg7 arg8 arg9 arg10 hG t)) $$ [HO Hi1 Hs1 H8 H7 H9]
  · isplitr; · iexact Hmw
    isplitl [HO]; · iexact HO
    isplitl [Hi1]; · iexact Hi1
    isplitl [Hs1]; · iexact Hs1
    isplitl [H8]; · iexact H8
    isplitl [H7]; · iexact H7
    iexact H9
  iintro %x ⟨%hx, HO, H8, Hs0, Hi0, H7, Hp2, H5, H9⟩
  subst hx
  iapply (wp_seq1 d i (wp_part26 d i arg2 harg2 arg3 harg3 arg4 harg4 arg5 harg5 arg6 harg6
            arg7 arg8 arg9 arg10 hG t)) $$ [HO Hs0 H5 Hp0 H9 H7 Hi2 H8]
  · isplitr; · iexact Hmw
    isplitl [HO]; · iexact HO
    isplitl [Hs0]; · iexact Hs0
    isplitl [H5]; · iexact H5
    isplitl [Hp0]; · iexact Hp0
    isplitl [H9]; · iexact H9
    isplitl [H7]; · iexact H7
    isplitl [Hi2]; · iexact Hi2
    iexact H8
  iintro %_ ⟨HO, H9, H7, Hs1, Hi1, H8⟩
  iapply (wp_seq1 d i (wp_part27 d i arg2 harg2 arg3 harg3 arg4 harg4 arg5 harg5 arg6 harg6
            arg7 arg8 arg9 arg10 hG t)) $$ [HO H10 Hs1 Hp1 Hi3 H8]
  · isplitr; · iexact Hmw
    isplitl [HO]; · iexact HO
    isplitl [H10]; · iexact H10
    isplitl [Hs1]; · iexact Hs1
    isplitl [Hp1]; · iexact Hp1
    isplitl [Hi3]; · iexact Hi3
    iexact H8
  iintro %_ ⟨HO, Hp3, H10, H8⟩
  iapply (wp_seq1 d i (wp_part28 d i arg2 harg2 arg3 harg3 arg4 harg4 arg5 harg5 arg6 harg6
            arg7 arg8 arg9 arg10 hG t)) $$ [HO H7 H9 Hp2 Hi0]
  · isplitr; · iexact Hmw
    isplitl [HO]; · iexact HO
    isplitl [H7]; · iexact H7
    isplitl [H9]; · iexact H9
    isplitl [Hp2]; · iexact Hp2
    iexact Hi0
  iintro %_ ⟨HO, Hi2, Hp0, H9, H7⟩
  simp only [Prog.lift, Prog.bind_op, Prog.bind_ret, Prog.pure_eq_ret]
  iapply (wp_wait_ld d i (N := ldCredit arg4) (dstw := (arg4.slice (Rect.unit (s := S2x20736) ![1, 0] S1x20736.size inb_S2x20736_S1x20736_1_0) (fun _ => rfl)).squeeze S20736 squeezes_S1x20736_S20736) rfl) $$ [HO H8]
  · isplitr; · iexact Hmw
    isplitl [HO]; · iexact HO
    iexact H8
  iintro ⟨HO, ⟨Hs1, Hi3⟩, H8⟩
  iapply (wp_wait_pend d i (N := outCredit arg3) (n := 1) (flag3 t) rfl) $$ [HO H10]
  · isplitr; · iexact Hmw
    isplitl [HO]; · iexact HO
    iexact H10
  iintro ⟨HO, Hp1, H6, H10⟩
  iapply (wp_rows d i 1 trips_t5 (isRow_t5 i arg2 harg2 arg3 harg3 arg4 harg4 arg5 harg5 arg6 harg6
            arg7 arg8 arg9 arg10) (fun m => v 3 (432 * row0 t.val + m))) $$ [Hs1 H6]
  · isplitl [Hs1] <;> iassumption
  iintro ⟨Hs1, %f, %hf, H6⟩
  iapply (wp_out1 d i arg3 arg6 3 (k1_off31_eq i t 3) hf) $$ [H6 Hp3 H10]
  · isplitl [H6]; · iexact H6
    isplitl [Hp3]; · iexact Hp3
    iexact H10
  iintro H10
  rw [wp_ret]
  imodintro
  isplitl [HO]; · iexact HO
  isplitl [H7]; · iexact H7
  isplitl [Hs1]
  · iexists _; iexact Hs1
  isplitl [H8]; · iexact H8
  isplitl [Hi1]; · iexact Hi1
  isplitl [Hi2]; · iexact Hi2
  isplitl [Hi3]; · iexact Hi3
  isplitl [H9]; · iexact H9
  isplitl [H10]
  · iapply (pend_intro d i (Nat.succ_ne_zero _)) $$ H10
  isplitl [Hp0] <;> iassumption

end Cert.Pillars

end
-- ==== Proof.Tile1.lean ====
/-
  The relayout's tile: eleven blocks of four channels.
-/
module

public import proofs.«01_k».proof.Proof.Block1

@[expose] public section

set_option maxRecDepth 16384

noncomputable section

namespace Cert.Pillars

open Cert.KernelIdeal Cert.KernelIdeal.Gen
open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (d : Dev nD) (i : grid1.Coords) (arg2 : Memref sig .scVector .hbm S27426816 .f32) (harg2 : arg2.IsWhole) (arg3 : Memref sig .scVector .hbm S2x64x496x432 .f32) (harg3 : arg3.IsWhole) (arg4 : Memref sig .scVector .vmem S2x20736 .f32) (harg4 : arg4.IsWhole) (arg5 : Memref sig .scVector .vmem S48x432 .f32) (harg5 : arg5.IsWhole) (arg6 : Memref sig .scVector .vmem S48x432 .f32) (harg6 : arg6.IsWhole) (arg7 : DmaSems sig S_) (arg8 : DmaSems sig S_) (arg9 : DmaSems sig S_) (arg10 : DmaSems sig S_)

variable {α : Type} {kk : PUnit → TileProg1 F i α} {Q : α → sProp (MT nD τ sig (HIx 2) (Elt F) ℕ UU ℕ)}
variable {O : CellTallies nD τ sig (HIx 2)} {W₀ : Waits sig (HIx 2)}

variable {G : S27426816.Idx → Elt F .f32} {v : Fin 4 → ℕ → Elt F .f32}

theorem bigSep_two (Φ : Fin 2 → sProp (MT nD τ sig (HIx 2) (Elt F) ℕ UU ℕ)) : bigSep Finset.univ Φ = iprop(Φ 0 ∗ Φ 1) := BI.bigSep_fin_two Φ

/-- The two halves of the flat memory. -/
def halfR (t : Fin 2) : Rect S2x20736 := Rect.unit (s := S2x20736) ![t.val, 0] S1x20736.size (by
  intro a
  have := t.isLt
  match a with
  | ⟨0, _⟩ => change t.val + 1 ≤ 2; omega
  | ⟨1, _⟩ => exact le_rfl)

theorem halfR_disjoint (t t' : Fin 2) (h : t ≠ t') : Disjoint (halfR t).set (halfR t').set := by
  rw [Finset.disjoint_left]
  intro j hj hj'
  have h0 : t.val ≤ (j 0).val ∧ (j 0).val < t.val + 1 := Rect.mem_set_unit.mp hj 0
  have h1 : t'.val ≤ (j 0).val ∧ (j 0).val < t'.val + 1 := Rect.mem_set_unit.mp hj' 0
  exact h (Fin.ext (by omega))

theorem halfR_cover : (Finset.univ : Finset (Fin 2)).biUnion (fun t => (halfR t).set) = Finset.univ := by
  refine Finset.eq_univ_of_forall fun j => Finset.mem_biUnion.mpr ⟨j 0, Finset.mem_univ _, Rect.mem_set_unit.mpr fun a => ?_⟩
  match a with
  | ⟨0, _⟩ => exact ⟨le_rfl, Nat.lt_succ_self _⟩
  | ⟨1, _⟩ => exact ⟨Nat.zero_le _, (j 1).isLt.trans_le (Nat.zero_add _).ge⟩

/-- The flat memory as its halves, -/
theorem halves_split (arg4 : Memref sig .scVector .vmem S2x20736 .f32) :
    iprop(∃ f, owns (thr1 d i) arg4 fullShare f) ⊢ (iprop(slotAny d i arg4 0 inb_S2x20736_S1x20736_0_0 ∗ slotAny d i arg4 1 inb_S2x20736_S1x20736_1_0) : sProp 𝕄) := by
  iintro ⟨%f, H⟩
  ihave H := (BIBase.Entails.trans (owns_rects (thr1 d i) arg4 fullShare halfR (fun _ _ => rfl) halfR_disjoint halfR_cover f)
    (BIBase.Entails.of_eq (bigSep_two _))) $$ H
  icases H with ⟨H0, H1⟩
  isplitl [H0]
  · iexists _; iexact H0
  · iexists _; iexact H1

/-- and back. -/
theorem halves_join (arg4 : Memref sig .scVector .vmem S2x20736 .f32) :
    iprop(slotAny d i arg4 0 inb_S2x20736_S1x20736_0_0 ∗ slotAny d i arg4 1 inb_S2x20736_S1x20736_1_0) ⊢ (iprop(∃ f, owns (thr1 d i) arg4 fullShare f) : sProp 𝕄) := by
  iintro ⟨⟨%Y0, H0⟩, %Y1, H1⟩
  iexists (fun j => if (j 0).val = 0 then Y0 (ix2 (0 : Fin 1) (j 1)) else Y1 (ix2 (0 : Fin 1) (j 1)))
  iapply (owns_of_rects (thr1 d i) arg4 fullShare halfR (fun _ _ => rfl) halfR_disjoint halfR_cover _)
  rw [bigSep_two]
  have e : ∀ (t : Fin 2) (y : S1x20736.Idx), ((halfR t).emb y 0).val = t.val ∧ (ix2 (0 : Fin 1) ((halfR t).emb y 1) : S1x20736.Idx) = y := by
    intro t y
    have h0 : (y 0).val = 0 := Nat.lt_one_iff.mp (y 0).isLt
    refine ⟨(emb_unit_val (s := S2x20736) (off := ![t.val, 0]) (size := S1x20736.size) _ y 0).trans ?_, funext fun a => Fin.ext ?_⟩
    · rw [h0]; exact Nat.add_zero _
    · match a with
      | ⟨0, _⟩ => exact h0.symm
      | ⟨1, _⟩ => exact (emb_unit_val (s := S2x20736) (off := ![t.val, 0]) (size := S1x20736.size) _ y 1).trans (Nat.zero_add _)
  isplitl [H0]
  · have h : (fun y : S1x20736.Idx => if ((halfR 0).emb y 0).val = 0 then Y0 (ix2 (0 : Fin 1) ((halfR 0).emb y 1)) else Y1 (ix2 (0 : Fin 1) ((halfR 0).emb y 1))) = Y0 := by
      funext y
      exact (if_pos (e 0 y).1).trans (congrArg Y0 (e 0 y).2)
    have hh := BIBase.Entails.of_eq (congrArg (owns (Ix := HIx 2) (Name := ℕ) (U := UU) (Lvl := ℕ) (Val := Elt F) (thr1 d i) (arg4.slice (halfR 0) (fun _ => rfl)) fullShare) h.symm)
    iapply hh
    iexact H0
  · have h : (fun y : S1x20736.Idx => if ((halfR 1).emb y 0).val = 0 then Y0 (ix2 (0 : Fin 1) ((halfR 1).emb y 1)) else Y1 (ix2 (0 : Fin 1) ((halfR 1).emb y 1))) = Y1 := by
      funext y
      exact (if_neg fun h => Nat.one_ne_zero ((e 1 y).1.symm.trans h)).trans (congrArg Y1 (e 1 y).2)
    have hh := BIBase.Entails.of_eq (congrArg (owns (Ix := HIx 2) (Name := ℕ) (U := UU) (Lvl := ℕ) (Val := Elt F) (thr1 d i) (arg4.slice (halfR 1) (fun _ => rfl)) fullShare) h.symm)
    iapply hh
    iexact H1

theorem plane_zero (r : Fin 4) (w : ℕ → Elt F .f32) :
    iprop(∃ Z, owns (thr1 d i) (arg3.slice (plR i r) (fun _ => rfl)) fullShare Z) ⊢ (plane d i arg3 r w 0 : sProp 𝕄) := by
  unfold plane
  iintro ⟨%Z, H⟩
  iexists Z
  isplitr
  · ipureintro
    intro j hj
    exact absurd hj (Nat.not_lt_zero _)
  · iexact H

/-- The relayout's tile: its four planes of the result filled from its channels of the flat map. -/
theorem wp_tile1 (hG : ∀ r : Fin 4, ∀ j n, n < 214272 → (j 0).val = chOff1 i r 0 + n → G j = v r n) :
    iprop(Transfers.MayWaits (thr1 d i) none O ∗ owing (thr1 d i) O W₀ ∗ img d i arg2 0 G ∗ img d i arg2 1 G ∗ img d i arg2 2 G ∗ img d i arg2 3 G
        ∗ (∃ Z, owns (thr1 d i) (arg3.slice (plR i 0) (fun _ => rfl)) fullShare Z) ∗ (∃ Z, owns (thr1 d i) (arg3.slice (plR i 1) (fun _ => rfl)) fullShare Z) ∗ (∃ Z, owns (thr1 d i) (arg3.slice (plR i 2) (fun _ => rfl)) fullShare Z) ∗ (∃ Z, owns (thr1 d i) (arg3.slice (plR i 3) (fun _ => rfl)) fullShare Z)
        ∗ (∃ f, owns (thr1 d i) arg4 fullShare f) ∗ (∃ f, owns (thr1 d i) arg5 fullShare f) ∗ (∃ f, owns (thr1 d i) arg6 fullShare f) ∗ semVal (thr1 d i, .dma arg7.sem) 0 ∗ semVal (thr1 d i, .dma arg8.sem) 0 ∗ semVal (thr1 d i, .dma arg9.sem) 0 ∗ semVal (thr1 d i, .dma arg10.sem) 0)
      ⊢ (wp frame (wpE (defs₀ (F := F)) 𝒱₀ (thr1 d i) none) Set.univ (cc1_body i arg2 harg2 arg3 harg3 arg4 harg4 arg5 harg5 arg6 harg6
            arg7 arg8 arg9 arg10)
          fun _ => iprop(owing (thr1 d i) O W₀ ∗ img d i arg2 0 G ∗ img d i arg2 1 G ∗ img d i arg2 2 G ∗ img d i arg2 3 G
            ∗ plane d i arg3 0 (v 0) 11 ∗ plane d i arg3 1 (v 1) 11 ∗ plane d i arg3 2 (v 2) 11 ∗ plane d i arg3 3 (v 3) 11
            ∗ (∃ f, owns (thr1 d i) arg4 fullShare f) ∗ (∃ f, owns (thr1 d i) arg5 fullShare f) ∗ (∃ f, owns (thr1 d i) arg6 fullShare f) ∗ semVal (thr1 d i, .dma arg7.sem) 0 ∗ semVal (thr1 d i, .dma arg8.sem) 0 ∗ semVal (thr1 d i, .dma arg9.sem) 0 ∗ semVal (thr1 d i, .dma arg10.sem) 0) : sProp 𝕄) := by
  rw [cc1_body_eq_skeleton]
  unfold cc1_body_skel
  simp only [Prog.lift, Prog.bind_op, Prog.bind_ret, Prog.pure_eq_ret]
  iintro ⟨#Hmw, HO, Hi0, Hi1, Hi2, Hi3, Hp0, Hp1, Hp2, Hp3, H4, H5, H6, H7, H8, H9, H10⟩
  ihave H4 := (halves_split d i arg4) $$ H4
  icases H4 with ⟨Hs0, Hs1⟩
  ihave Hp0 := (plane_zero d i arg3 0 (v 0)) $$ Hp0
  ihave Hp1 := (plane_zero d i arg3 1 (v 1)) $$ Hp1
  ihave Hp2 := (plane_zero d i arg3 2 (v 2)) $$ Hp2
  ihave Hp3 := (plane_zero d i arg3 3 (v 3)) $$ Hp3
  iapply (wp_load1 d i arg2 arg4 0 0 (k := 0) (v := v 0) (off := k1_off1 i) (by
    rw [congrFun (k1_off1_eq i) 0]
    rfl) (hG 0)) $$ [Hi0 Hs0 H7]
  · isplitl [Hi0]; · iexact Hi0
    isplitl [Hs0]; · iexact Hs0
    iexact H7
  iintro H7
  iapply (Scf.wp_for_bind frame (wpE (defs₀ (F := F)) 𝒱₀ (thr1 d i) none) Set.univ k1_t1_loop.lb k1_t1_loop.ub k1_t1_loop.st k1_t1_ok ⟨⟩ _
    (fun n _ => iprop(Transfers.MayWaits (thr1 d i) none O ∗ between1 d i arg2 arg3 arg4 arg5 arg6 arg7 arg8 arg9 arg10 G v O W₀ n)) (fun n acc => ?_)) $$ [HO H7 Hs1 H8 Hi1 Hi2 Hi3 Hp0 Hp1 Hp2 Hp3 H5 H6 H9 H10]
  · iintro ⟨#Hmw, Hb⟩
    iapply (wp_wand frame (wpE (defs₀ (F := F)) 𝒱₀ (thr1 d i) none) Set.univ (Q := fun _ => between1 d i arg2 arg3 arg4 arg5 arg6 arg7 arg8 arg9 arg10 G v O W₀ (n.val + 1))) $$ [Hb]
    · iapply (wp_block1 d i arg2 harg2 arg3 harg3 arg4 harg4 arg5 harg5 arg6 harg6
            arg7 arg8 arg9 arg10 hG n acc) $$ [Hb]
      isplitr; · iexact Hmw
      iexact Hb
    · iintro %_ Hb
      isplitr; · iexact Hmw
      iexact Hb
  · isplitr; · iexact Hmw
    unfold between1 pend ld
    rw [if_pos (by decide : 0 < 11), if_pos rfl, if_pos rfl]
    isplitl [HO]; · iexact HO
    isplitl [H7]; · iexact H7
    isplitl [Hs1]; · iexact Hs1
    isplitl [H8]; · iexact H8
    isplitl [Hi1]; · iexact Hi1
    isplitl [Hi2]; · iexact Hi2
    isplitl [Hi3]; · iexact Hi3
    isplitl [Hp2 H5 H9]
    · isplitl [Hp2]; · iexact Hp2
      isplitl [H5] <;> iassumption
    isplitl [Hp3 H6 H10]
    · isplitl [Hp3]; · iexact Hp3
      isplitl [H6] <;> iassumption
    isplitl [Hp0] <;> iassumption
  rw [show Scf.trips k1_t1_loop.lb k1_t1_loop.ub k1_t1_loop.st = 11 from trips_t1]
  have hout : ∀ (sem : DmaSem sig) (buf : Memref sig .scVector .vmem S48x432 .f32) (D : sProp (MT nD τ sig (HIx 2) (Elt F) ℕ UU ℕ)),
      pend d i sem (outCredit arg3) 11 buf D ⊢ iprop(∃ f, Transfers.Flight EC (thr1 d i) (.dma sem) none (outCredit arg3) iprop(D ∗ owns (thr1 d i) buf fullShare f)) := by
    intro sem buf D
    unfold pend
    rw [if_neg (by decide)]
  have hld : ld d i arg2 arg4 arg7.sem G (v 0) 11 ⊢ (iprop(slotAny d i arg4 0 inb_S2x20736_S1x20736_0_0 ∗ img d i arg2 0 G ∗ semVal (thr1 d i, .dma arg7.sem) 0) : sProp 𝕄) := by
    unfold ld
    rw [if_neg (by decide)]
  iintro %acc ⟨-, Hb⟩
  unfold between1
  icases Hb with ⟨HO, H7, Hs1, H8, Hi1, Hi2, Hi3, H9, H10, Hp0, Hp1⟩
  ihave H7 := hld $$ H7
  icases H7 with ⟨Hs0, Hi0, H7⟩
  ihave H9 := (hout _ _ _) $$ H9
  icases H9 with ⟨%f, H9⟩
  ihave H10 := (hout _ _ _) $$ H10
  icases H10 with ⟨%g, H10⟩
  iapply (wp_wait_ld d i (N := outCredit arg3) rfl) $$ [HO H9]
  · isplitr; · iexact Hmw
    isplitl [HO]; · iexact HO
    iexact H9
  iintro ⟨HO, ⟨Hp2, H5⟩, H9⟩
  iapply (wp_wait_ld d i (N := outCredit arg3) rfl) $$ [HO H10]
  · isplitr; · iexact Hmw
    isplitl [HO]; · iexact HO
    iexact H10
  iintro ⟨HO, ⟨Hp3, H6⟩, H10⟩
  ihave H4 := (halves_join d i arg4) $$ [Hs0 Hs1]
  · isplitl [Hs0] <;> iassumption
  rw [wp_ret]
  imodintro
  isplitl [HO]; · iexact HO
  isplitl [Hi0]; · iexact Hi0
  isplitl [Hi1]; · iexact Hi1
  isplitl [Hi2]; · iexact Hi2
  isplitl [Hi3]; · iexact Hi3
  isplitl [Hp0]; · iexact Hp0
  isplitl [Hp1]; · iexact Hp1
  isplitl [Hp2]; · iexact Hp2
  isplitl [Hp3]; · iexact Hp3
  isplitl [H4]; · iexact H4
  isplitl [H5]; · iexists _; iexact H5
  isplitl [H6]; · iexists _; iexact H6
  isplitl [H7]; · iexact H7
  isplitl [H8]; · iexact H8
  isplitl [H9]; · iexact H9
  iexact H10

end Cert.Pillars

end
-- ==== Proof.Tasks.lean ====
/-
  What the launch hands each tile and takes back, and the two calls' tasks on a tile.
-/
module

public import proofs.«01_k».proof.Proof.Tile0
public import proofs.«01_k».proof.Proof.Tile1

@[expose] public section

set_option maxRecDepth 16384

noncomputable section

namespace Cert.Pillars

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## The data of one device -/

/-- The flat arrays the first call reads and what they say: each batch's cells and rows, each channel's values. -/
structure Data (F : FTy → Type) [FloatOps F] where
  VF : Vec F S1540096 .f32
  PV : Vec F S24064 .i32
  YV : Vec F S24064 .i32
  pv : ℕ → ℕ → ℕ
  yv : ℕ → ℕ → ℕ
  w : ℕ → ℕ → ℕ → Elt F .f32
  placed : ∀ b, Placed (yv b) (pv b)
  sources : ∀ i : grid0.Coords, Sources i (fun r n => w (i 0).val (4 * (i 1).val + r) n) (pv (i 0).val) (yv (i 0).val) VF PV YV

/-- The flat map. -/
def Data.G (X : Data F) : S27426816.Idx → Elt F .f32 := fun j =>
  canvas (X.pv ((j 0).val / 13713408)) (X.w ((j 0).val / 13713408) ((j 0).val % 13713408 / 214272)) zeroF ((j 0).val % 214272)

/-- The result. -/
def Data.R (X : Data F) : S2x64x496x432.Idx → Elt F .f32 := fun j =>
  canvas (X.pv (j 0).val) (X.w (j 0).val (j 1).val) zeroF (432 * (j 2).val + (j 3).val)

theorem flat_split {a b r n : ℕ} (hb : b < 16) (hr : r < 4) (hn : n < 214272) :
    (13713408 * a + 857088 * b + 214272 * r + n) / 13713408 = a
      ∧ (13713408 * a + 857088 * b + 214272 * r + n) % 13713408 / 214272 = 4 * b + r
      ∧ (13713408 * a + 857088 * b + 214272 * r + n) % 214272 = n := by
  refine ⟨by omega, ?_, by omega⟩
  have h : (13713408 * a + 857088 * b + 214272 * r + n) % 13713408 = 857088 * b + 214272 * r + n := by omega
  rw [h]
  omega

theorem Data.G_at (X : Data F) (i : grid1.Coords) (r : Fin 4) (j : S27426816.Idx) (n : ℕ) (hn : n < 214272) (hj : (j 0).val = chOff1 i r 0 + n) :
    X.G j = canvas (X.pv (i 0).val) (X.w (i 0).val (4 * (i 1).val + r.val)) zeroF n := by
  have h1 : (i 1).val < 16 := (i 1).isLt
  have e : (j 0).val = 13713408 * (i 0).val + 857088 * (i 1).val + 214272 * r.val + n := hj
  obtain ⟨ha, hb, hc⟩ := flat_split (a := (i 0).val) h1 r.isLt hn
  unfold Data.G
  rw [e, ha, hb, hc]

/-! ## The pieces -/

theorem bigSep_four (Φ : Fin 4 → sProp (MT nD τ sig (HIx 2) (Elt F) ℕ UU ℕ)) : bigSep Finset.univ Φ = iprop(Φ 0 ∗ Φ 1 ∗ Φ 2 ∗ Φ 3) := by
  rw [show (Finset.univ : Finset (Fin 4)) = {0, 1, 2, 3} from rfl, SparseCore.bigSep_insert' (by decide), SparseCore.bigSep_insert' (by decide),
    SparseCore.bigSep_insert' (by decide), bigSep_singleton]

/-- The share of the inputs a tile reads by. -/
def tileShare (c : Fin 2) (s : Fin 16) : PosShare TreeShare := Transfers.dealOf (Transfers.dealOf fullShare Finset.univ c) Finset.univ s

abbrev mV : Memref sig .scVector .hbm S1540096 .f32 := Memref.whole main_v14_scv
abbrev mP : Memref sig .scVector .hbm S24064 .i32 := Memref.whole main_v15_scv
abbrev mY : Memref sig .scVector .hbm S24064 .i32 := Memref.whole main_v16_scv
abbrev mG : Memref sig .scVector .hbm S27426816 .f32 := Memref.whole main_v17_scv
abbrev mR : Memref sig .scVector .hbm S2x64x496x432 .f32 := Memref.whole main_v18_scv

/-- A tile's share of the first call's inputs. -/
def ins0 (X : Data F) (d : Dev nD) (i : grid0.Coords) : sProp 𝕄 :=
  iprop(owns (thr d i) mV (tileShare (i 0) (i 1)) X.VF ∗ owns (thr d i) mP (tileShare (i 0) (i 1)) X.PV ∗ owns (thr d i) mY (tileShare (i 0) (i 1)) X.YV)

/-- What the first call hands a tile: its share of the inputs, its channels of the map. -/
def go0 (X : Data F) (d : Dev nD) (i : grid0.Coords) : sProp 𝕄 :=
  iprop(ins0 X d i ∗ bigSep Finset.univ fun r : Fin 4 => iprop(∃ Y, owns (thr d i) (mG.slice (chR i r) (fun _ => rfl)) fullShare Y))

/-- What it takes back: the channels filled. -/
def td0 (X : Data F) (d : Dev nD) (i : grid0.Coords) : sProp 𝕄 :=
  iprop(ins0 X d i ∗ bigSep Finset.univ fun r : Fin 4 => owns (thr d i) (mG.slice (chR i r) (fun _ => rfl)) fullShare (fun y => X.G ((chR i r).emb y)))

/-- What the second call hands a tile: its channels of the map, its planes of the result. -/
def go1 (X : Data F) (d : Dev nD) (i : grid1.Coords) : sProp 𝕄 :=
  iprop((bigSep Finset.univ fun r : Fin 4 => img d i mG r X.G)
    ∗ bigSep Finset.univ fun r : Fin 4 => iprop(∃ Z, owns (thr1 d i) (mR.slice (plR i r) (fun _ => rfl)) fullShare Z))

/-- What it takes back: the planes filled. -/
def td1 (X : Data F) (d : Dev nD) (i : grid1.Coords) : sProp 𝕄 :=
  iprop((bigSep Finset.univ fun r : Fin 4 => img d i mG r X.G)
    ∗ bigSep Finset.univ fun r : Fin 4 => owns (thr1 d i) (mR.slice (plR i r) (fun _ => rfl)) fullShare (fun y => X.R ((plR i r).emb y)))

/-- A channel all of whose blocks are filled is the map's. -/
theorem chan_full (X : Data F) (d : Dev nD) (i : grid0.Coords) (r : Fin 4) :
    (chan d i mG r (X.pv (i 0).val) (X.w (i 0).val (4 * (i 1).val + r.val)) 11 : sProp 𝕄)
      ⊢ owns (thr d i) (mG.slice (chR i r) (fun _ => rfl)) fullShare (fun y => X.G ((chR i r).emb y)) := by
  unfold chan
  iintro ⟨%Y, %hY, H⟩
  have h : Y = fun y => X.G ((chR i r).emb y) := by
    funext y
    have hy : (y 0).val < 214272 := (y 0).isLt
    refine (hY y ?_).trans (X.G_at i r _ _ hy (emb_unit_val (chOff_inb i r) y 0)).symm
    change (y 0).val < 432 * min (48 * 11) 496
    omega
  have hh := BIBase.Entails.of_eq (congrArg (owns (Ix := HIx 2) (Name := ℕ) (U := UU) (Lvl := ℕ) (thr d i) (mG.slice (chR i r) (fun _ => rfl)) fullShare) h)
  iapply hh
  iexact H

/-- A plane all of whose blocks are filled is the result's. -/
theorem plane_full (X : Data F) (d : Dev nD) (i : grid1.Coords) (r : Fin 4) :
    (plane d i mR r (canvas (X.pv (i 0).val) (X.w (i 0).val (4 * (i 1).val + r.val)) zeroF) 11 : sProp 𝕄)
      ⊢ owns (thr1 d i) (mR.slice (plR i r) (fun _ => rfl)) fullShare (fun y => X.R ((plR i r).emb y)) := by
  unfold plane
  iintro ⟨%Z, %hZ, H⟩
  have h : Z = fun y => X.R ((plR i r).emb y) := by
    funext y
    have hy0 : (y 0).val < 1 := (y 0).isLt
    have hy1 : (y 1).val < 1 := (y 1).isLt
    have hy : (y 2).val < 496 := (y 2).isLt
    have e0 : ((plR i r).emb y 0).val = (i 0).val := by
      refine (emb_unit_val (plOff_inb i r) y 0).trans ?_
      change (i 0).val + (y 0).val = (i 0).val
      omega
    have e1 : ((plR i r).emb y 1).val = 4 * (i 1).val + r.val := by
      refine (emb_unit_val (plOff_inb i r) y 1).trans ?_
      change 4 * (i 1).val + r.val + (y 1).val = 4 * (i 1).val + r.val
      omega
    have e2 : ((plR i r).emb y 2).val = (y 2).val := (emb_unit_val (plOff_inb i r) y 2).trans (Nat.zero_add _)
    have e3 : ((plR i r).emb y 3).val = (y 3).val := (emb_unit_val (plOff_inb i r) y 3).trans (Nat.zero_add _)
    refine (hZ y (by omega)).trans ?_
    unfold Data.R
    rw [e0, e1, e2, e3]
  have hh := BIBase.Entails.of_eq (congrArg (owns (Ix := HIx 2) (Name := ℕ) (U := UU) (Lvl := ℕ) (thr1 d i) (mR.slice (plR i r) (fun _ => rfl)) fullShare) h)
  iapply hh
  iexact H

/-! ## A tile's own memories and semaphores -/

theorem ownBufs_take (c : Fin τ.nSC) (s : Fin τ.nSub) (d : Dev nD) (B : Finset (Ref sig .scVector)) (hB : ∀ b ∈ B, ((Proc.scVector c s).devRef b : DevRef τ sig).owner = .proc (.scVector c s)) :
    ∃ rest : sProp 𝕄, (ownBufs (V d c s) : sProp 𝕄) = iprop((bigSep B fun b => iprop(∃ f, (V d c s : Thread nD τ).loc b ↦{fullShare} f)) ∗ rest) := by
  classical
  have hsub : B.map ⟨(Proc.scVector c s).devRef, Proc.devRef_injective _⟩ ⊆ (ownRefs (.scVector c s) : Finset (DevRef τ sig)) := by
    intro b hb
    obtain ⟨b', hb', rfl⟩ := Finset.mem_map.mp hb
    exact SparseCore.Cfg.mem_ownRefs_of_owner (hB b' hb')
  have e := SparseCore.bigSep_sdiff_split' hsub (Φ := fun b => (iprop(∃ f, ((d, b) : Loc nD τ sig) ↦{fullShare} f) : sProp 𝕄))
  rw [BI.bigSep_map] at e
  exact ⟨_, e⟩

theorem ownSems0_take (c : Fin τ.nSC) (s : Fin τ.nSub) (d : Dev nD) (B : Finset (SemLoc sig)) (hB : ∀ b ∈ B, b.isScoped .scVector = true) :
    ∃ rest : sProp 𝕄, (ownSems0 (V d c s) : sProp 𝕄) = iprop((bigSep B fun b => semVal ((V d c s : Thread nD τ), b) 0) ∗ rest) := by
  classical
  have hsub : B.map ⟨fun b => ((V d c s : Thread nD τ), b), fun a b h => (Prod.mk.inj h).2⟩ ⊆ (ownCells (V d c s) : Finset (GSem nD τ sig)) := by
    intro b hb
    obtain ⟨b', hb', rfl⟩ := Finset.mem_map.mp hb
    exact mem_ownCells.mpr ⟨rfl, hB b' hb'⟩
  have e := SparseCore.bigSep_sdiff_split' hsub (Φ := fun g => (semVal g 0 : sProp 𝕄))
  rw [BI.bigSep_map] at e
  exact ⟨_, e⟩

/-- A memory held at some contents, as a whole memref's words. -/
theorem some_owns (c : Fin τ.nSC) (s : Fin τ.nSub) (d : Dev nD) (b : Ref sig .scVector) :
    (iprop(∃ f, (V d c s : Thread nD τ).loc b ↦{fullShare} f) : sProp 𝕄)
      = iprop(∃ f : b.ty.Contents (Elt F), owns (V d c s) (Memref.whole b) fullShare f) := by
  simp only [owns_whole]

theorem bufs0 (d : Dev nD) (i : grid0.Coords) : ∃ rest : sProp 𝕄, (scopedBufs (thr d i) : sProp 𝕄)
    = iprop(((∃ f, owns (thr d i) (Memref.whole cc0_scratch0) fullShare f) ∗ (∃ f, owns (thr d i) (Memref.whole cc0_scratch1) fullShare f) ∗ (∃ f, owns (thr d i) (Memref.whole cc0_scratch2) fullShare f) ∗ (∃ f, owns (thr d i) (Memref.whole cc0_scratch3) fullShare f) ∗ (∃ f, owns (thr d i) (Memref.whole cc0_scratch4) fullShare f) ∗ (∃ f, owns (thr d i) (Memref.whole cc0_scratch5) fullShare f)) ∗ rest) := by
  obtain ⟨rest, e⟩ := ownBufs_take (F := F) ((i 0).castLE hcore0) ((i 1).castLE hsub0) d {cc0_scratch0, cc0_scratch1, cc0_scratch2, cc0_scratch3, cc0_scratch4, cc0_scratch5} (by
    intro b hb
    simp only [Finset.mem_insert, Finset.mem_singleton] at hb
    rcases hb with rfl | rfl | rfl | rfl | rfl | rfl <;> rfl)
  refine ⟨rest, ((K (F := F)).scopedBufs_V facts d _ _).trans (e.trans (congrArg (fun x => iprop(x ∗ rest)) ?_))⟩
  rw [BI.bigSep_congr fun b _ => some_owns _ _ d b]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [bigSep_singleton]

theorem sems0 (d : Dev nD) (i : grid0.Coords) : ∃ rest : sProp 𝕄, (scopedSems0 (thr d i) : sProp 𝕄)
    = iprop((semVal (thr d i, .dma cc0_scratch6.sem) 0 ∗ semVal (thr d i, .dma cc0_scratch7.sem) 0 ∗ semVal (thr d i, .dma cc0_scoped0.sem) 0 ∗ semVal (thr d i, .dma cc0_scoped1.sem) 0 ∗ semVal (thr d i, .dma cc0_scoped2.sem) 0 ∗ semVal (thr d i, .dma cc0_scoped3.sem) 0 ∗ semVal (thr d i, .dma cc0_scoped4.sem) 0 ∗ semVal (thr d i, .dma cc0_scoped5.sem) 0) ∗ rest) := by
  obtain ⟨rest, e⟩ := ownSems0_take (F := F) ((i 0).castLE hcore0) ((i 1).castLE hsub0) d {.dma cc0_scratch6.sem, .dma cc0_scratch7.sem, .dma cc0_scoped0.sem, .dma cc0_scoped1.sem, .dma cc0_scoped2.sem, .dma cc0_scoped3.sem, .dma cc0_scoped4.sem, .dma cc0_scoped5.sem} (by decide +kernel)
  refine ⟨rest, (SparseCore.Cfg.scopedSems0_V (Val := Elt F) d _ _).trans (e.trans (congrArg (fun x => iprop(x ∗ rest)) ?_))⟩
  rw [SparseCore.bigSep_insert' (by decide +kernel)]
  rw [SparseCore.bigSep_insert' (by decide +kernel)]
  rw [SparseCore.bigSep_insert' (by decide +kernel)]
  rw [SparseCore.bigSep_insert' (by decide +kernel)]
  rw [SparseCore.bigSep_insert' (by decide +kernel)]
  rw [SparseCore.bigSep_insert' (by decide +kernel)]
  rw [SparseCore.bigSep_insert' (by decide +kernel)]
  rw [bigSep_singleton]

theorem bufs1 (d : Dev nD) (i : grid1.Coords) : ∃ rest : sProp 𝕄, (scopedBufs (thr1 d i) : sProp 𝕄)
    = iprop(((∃ f, owns (thr1 d i) (Memref.whole cc1_scratch0) fullShare f) ∗ (∃ f, owns (thr1 d i) (Memref.whole cc1_scratch1) fullShare f) ∗ (∃ f, owns (thr1 d i) (Memref.whole cc1_scratch2) fullShare f)) ∗ rest) := by
  obtain ⟨rest, e⟩ := ownBufs_take (F := F) ((i 0).castLE hcore1) ((i 1).castLE hsub1) d {cc1_scratch0, cc1_scratch1, cc1_scratch2} (by
    intro b hb
    simp only [Finset.mem_insert, Finset.mem_singleton] at hb
    rcases hb with rfl | rfl | rfl <;> rfl)
  refine ⟨rest, ((K (F := F)).scopedBufs_V facts d _ _).trans (e.trans (congrArg (fun x => iprop(x ∗ rest)) ?_))⟩
  rw [BI.bigSep_congr fun b _ => some_owns _ _ d b]
  rw [SparseCore.bigSep_insert' (by decide)]
  rw [SparseCore.bigSep_insert' (by decide)]
  rw [bigSep_singleton]

theorem sems1 (d : Dev nD) (i : grid1.Coords) : ∃ rest : sProp 𝕄, (scopedSems0 (thr1 d i) : sProp 𝕄)
    = iprop((semVal (thr1 d i, .dma cc1_scratch3.sem) 0 ∗ semVal (thr1 d i, .dma cc1_scratch4.sem) 0 ∗ semVal (thr1 d i, .dma cc1_scratch5.sem) 0 ∗ semVal (thr1 d i, .dma cc1_scratch6.sem) 0) ∗ rest) := by
  obtain ⟨rest, e⟩ := ownSems0_take (F := F) ((i 0).castLE hcore1) ((i 1).castLE hsub1) d {.dma cc1_scratch3.sem, .dma cc1_scratch4.sem, .dma cc1_scratch5.sem, .dma cc1_scratch6.sem} (by decide +kernel)
  refine ⟨rest, (SparseCore.Cfg.scopedSems0_V (Val := Elt F) d _ _).trans (e.trans (congrArg (fun x => iprop(x ∗ rest)) ?_))⟩
  rw [SparseCore.bigSep_insert' (by decide +kernel)]
  rw [SparseCore.bigSep_insert' (by decide +kernel)]
  rw [SparseCore.bigSep_insert' (by decide +kernel)]
  rw [bigSep_singleton]

/-- A channel before its first block is at any contents. -/
theorem chan_zero (d : Dev nD) (i : grid0.Coords) (m : Memref sig .scVector .hbm S27426816 .f32) (r : Fin 4) (pv : ℕ → ℕ) (w : ℕ → Elt F .f32) :
    (iprop(∃ Y, owns (thr d i) (m.slice (chR i r) (fun _ => rfl)) fullShare Y) : sProp 𝕄) ⊢ chan d i m r pv w 0 := by
  unfold chan
  iintro ⟨%Y, H⟩
  iexists Y
  isplitr
  · ipureintro
    intro j hj
    exact absurd hj (Nat.not_lt_zero _)
  · iexact H

/-- The task of call 0 on a tile. -/
theorem tile_body0 (X : Data F) (d : Dev nD) (i : grid0.Coords) (O : CellTallies nD τ sig (HIx 2)) (W : Waits sig (HIx 2)) (hO : ∀ g, O g none = 0) :
    iprop(levAts (K (F := F)).L (K (F := F)).lev ∗ emp ∗ go0 X d i
        ∗ scopedBufs (thr d i) ∗ scopedSems0 (thr d i) ∗ owes (thr d i) O W)
      ⊢ (wp frame (wpE (defs₀ (F := F)) 𝒱₀ (thr d i) none) Set.univ
          (cc0_body i (Memref.whole main_v14_scv) (Memref.isWhole_whole _) (Memref.whole main_v15_scv) (Memref.isWhole_whole _) (Memref.whole main_v16_scv) (Memref.isWhole_whole _) (Memref.whole main_v17_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
            cc0_scratch6 cc0_scratch7 cc0_scoped0 cc0_scoped1 cc0_scoped2 cc0_scoped3 cc0_scoped4 cc0_scoped5)
          fun _ => iprop(td0 X d i ∗ scopedBufs (thr d i) ∗ scopedSems0 (thr d i)
            ∗ ∃ W', ⌜∀ p ∈ W', p ∈ W ∨ p.2 = none⌝ ∗ owes (thr d i) O W') : sProp 𝕄) := by
  obtain ⟨rb, eb⟩ := bufs0 (F := F) d i
  obtain ⟨rs, es⟩ := sems0 (F := F) d i
  rw [eb, es]
  unfold go0 ins0
  iintro ⟨#Hlv, -, ⟨⟨HV, HP, HY⟩, Hc⟩, ⟨⟨Hb0, Hb1, Hb2, Hb3, Hb4, Hb5⟩, Hrb⟩, ⟨⟨Hs0, Hs1, Hs2, Hs3, Hs4, Hs5, Hs6, Hs7⟩, Hrs⟩, HO⟩
  ihave Hc := (BIBase.Entails.of_eq (bigSep_four _)) $$ Hc
  icases Hc with ⟨Hc0, Hc1, Hc2, Hc3⟩
  ihave Hc0 := (chan_zero d i mG 0 (X.pv (i 0).val) (fun n => X.w (i 0).val (4 * (i 1).val + (((0 : Fin 4).val)) ) n)) $$ Hc0
  ihave Hc1 := (chan_zero d i mG 1 (X.pv (i 0).val) (fun n => X.w (i 0).val (4 * (i 1).val + (((1 : Fin 4).val)) ) n)) $$ Hc1
  ihave Hc2 := (chan_zero d i mG 2 (X.pv (i 0).val) (fun n => X.w (i 0).val (4 * (i 1).val + (((2 : Fin 4).val)) ) n)) $$ Hc2
  ihave Hc3 := (chan_zero d i mG 3 (X.pv (i 0).val) (fun n => X.w (i 0).val (4 * (i 1).val + (((3 : Fin 4).val)) ) n)) $$ Hc3
  ihave #Hmw := (show levAts (K (F := F)).L (K (F := F)).lev ⊢ (Transfers.MayWaits (thr d i) none O : sProp 𝕄) from
    (K (F := F)).mayWaits_none (thr := thr d i) hO) $$ Hlv
  iapply (wp_wand frame (wpE (defs₀ (F := F)) 𝒱₀ (thr d i) none) Set.univ) $$ [HO HV HP HY Hb0 Hb1 Hb2 Hb3 Hb4 Hb5 Hc0 Hc1 Hc2 Hc3 Hs0 Hs1 Hs2 Hs3 Hs4 Hs5 Hs6 Hs7]
  · iapply (wp_tile0 d i (Memref.whole main_v14_scv) (Memref.isWhole_whole _) (Memref.whole main_v15_scv) (Memref.isWhole_whole _) (Memref.whole main_v16_scv) (Memref.isWhole_whole _) (Memref.whole main_v17_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
            cc0_scratch6 cc0_scratch7 cc0_scoped0 cc0_scoped1 cc0_scoped2 cc0_scoped3 cc0_scoped4 cc0_scoped5
      (w := fun r n => X.w (i 0).val (4 * (i 1).val + r) n) (q := tileShare (i 0) (i 1)) (O := O) (W₀ := W) (X.placed (i 0).val) (X.sources i)) $$ [HO HV HP HY Hb0 Hb1 Hb2 Hb3 Hb4 Hb5 Hc0 Hc1 Hc2 Hc3 Hs0 Hs1 Hs2 Hs3 Hs4 Hs5 Hs6 Hs7]
    isplitr; · iexact Hmw
    isplitl [HO]
    · iexists W
      isplitr
      · ipureintro
        exact fun p hp => .inl hp
      · iexact HO
    isplitl [HV]; · iexact HV
    isplitl [HP]; · iexact HP
    isplitl [HY]; · iexact HY
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hc0]; · iexact Hc0
    isplitl [Hc1]; · iexact Hc1
    isplitl [Hc2]; · iexact Hc2
    isplitl [Hc3]; · iexact Hc3
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  iintro %_ ⟨HO, HV, HP, HY, Hb0, Hb1, Hb2, Hb3, Hb4, Hb5, Hc0, Hc1, Hc2, Hc3, Hs0, Hs1, Hs2, Hs3, Hs4, Hs5, Hs6, Hs7⟩
  ihave Hc0 := (chan_full X d i 0) $$ Hc0
  ihave Hc1 := (chan_full X d i 1) $$ Hc1
  ihave Hc2 := (chan_full X d i 2) $$ Hc2
  ihave Hc3 := (chan_full X d i 3) $$ Hc3
  unfold td0
  isplitl [HV HP HY Hc0 Hc1 Hc2 Hc3]
  · isplitl [HV HP HY]
    · unfold ins0
      isplitl [HV]; · iexact HV
      isplitl [HP]; · iexact HP
      iexact HY
    iapply (BIBase.Entails.of_eq (bigSep_four (F := F) _).symm)
    isplitl [Hc0]; · iexact Hc0
    isplitl [Hc1]; · iexact Hc1
    isplitl [Hc2]; · iexact Hc2
    iexact Hc3
  isplitl [Hb0 Hb1 Hb2 Hb3 Hb4 Hb5 Hrb]
  · isplitr [Hrb]
    · isplitl [Hb0]; · iexact Hb0
      isplitl [Hb1]; · iexact Hb1
      isplitl [Hb2]; · iexact Hb2
      isplitl [Hb3]; · iexact Hb3
      isplitl [Hb4]; · iexact Hb4
      iexact Hb5
    · iexact Hrb
  isplitl [Hs0 Hs1 Hs2 Hs3 Hs4 Hs5 Hs6 Hs7 Hrs]
  · isplitr [Hrs]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hs7
    · iexact Hrs
  iexact HO

/-- The task of call 1 on a tile. -/
theorem tile_body1 (X : Data F) (d : Dev nD) (i : grid1.Coords) (O : CellTallies nD τ sig (HIx 2)) (W : Waits sig (HIx 2)) (hO : ∀ g, O g none = 0) :
    iprop(levAts (K (F := F)).L (K (F := F)).lev ∗ emp ∗ go1 X d i
        ∗ scopedBufs (thr1 d i) ∗ scopedSems0 (thr1 d i) ∗ owes (thr1 d i) O W)
      ⊢ (wp frame (wpE (defs₀ (F := F)) 𝒱₀ (thr1 d i) none) Set.univ
          (cc1_body i (Memref.whole main_v17_scv) (Memref.isWhole_whole _) (Memref.whole main_v18_scv) (Memref.isWhole_whole _) (Memref.whole cc1_scratch0) (Memref.isWhole_whole _) (Memref.whole cc1_scratch1) (Memref.isWhole_whole _) (Memref.whole cc1_scratch2) (Memref.isWhole_whole _)
            cc1_scratch3 cc1_scratch4 cc1_scratch5 cc1_scratch6)
          fun _ => iprop(td1 X d i ∗ scopedBufs (thr1 d i) ∗ scopedSems0 (thr1 d i)
            ∗ ∃ W', ⌜∀ p ∈ W', p ∈ W ∨ p.2 = none⌝ ∗ owes (thr1 d i) O W') : sProp 𝕄) := by
  obtain ⟨rb, eb⟩ := bufs1 (F := F) d i
  obtain ⟨rs, es⟩ := sems1 (F := F) d i
  rw [eb, es]
  unfold go1
  iintro ⟨#Hlv, -, ⟨Hc, Hp⟩, ⟨⟨Hb0, Hb1, Hb2⟩, Hrb⟩, ⟨⟨Hs0, Hs1, Hs2, Hs3⟩, Hrs⟩, HO⟩
  ihave Hc := (BIBase.Entails.of_eq (bigSep_four _)) $$ Hc
  icases Hc with ⟨Hc0, Hc1, Hc2, Hc3⟩
  ihave Hp := (BIBase.Entails.of_eq (bigSep_four _)) $$ Hp
  icases Hp with ⟨Hp0, Hp1, Hp2, Hp3⟩
  ihave #Hmw := (show levAts (K (F := F)).L (K (F := F)).lev ⊢ (Transfers.MayWaits (thr1 d i) none O : sProp 𝕄) from
    (K (F := F)).mayWaits_none (thr := thr1 d i) hO) $$ Hlv
  iapply (wp_wand frame (wpE (defs₀ (F := F)) 𝒱₀ (thr1 d i) none) Set.univ) $$ [HO Hc0 Hc1 Hc2 Hc3 Hp0 Hp1 Hp2 Hp3 Hb0 Hb1 Hb2 Hs0 Hs1 Hs2 Hs3]
  · iapply (wp_tile1 d i (Memref.whole main_v17_scv) (Memref.isWhole_whole _) (Memref.whole main_v18_scv) (Memref.isWhole_whole _) (Memref.whole cc1_scratch0) (Memref.isWhole_whole _) (Memref.whole cc1_scratch1) (Memref.isWhole_whole _) (Memref.whole cc1_scratch2) (Memref.isWhole_whole _)
            cc1_scratch3 cc1_scratch4 cc1_scratch5 cc1_scratch6
      (G := X.G) (v := fun r => canvas (X.pv (i 0).val) (X.w (i 0).val (4 * (i 1).val + r.val)) zeroF) (O := O) (W₀ := W) (fun r j n hn hj => X.G_at i r j n hn hj)) $$ [HO Hc0 Hc1 Hc2 Hc3 Hp0 Hp1 Hp2 Hp3 Hb0 Hb1 Hb2 Hs0 Hs1 Hs2 Hs3]
    isplitr; · iexact Hmw
    isplitl [HO]
    · iexists W
      isplitr
      · ipureintro
        exact fun p hp => .inl hp
      · iexact HO
    isplitl [Hc0]; · iexact Hc0
    isplitl [Hc1]; · iexact Hc1
    isplitl [Hc2]; · iexact Hc2
    isplitl [Hc3]; · iexact Hc3
    isplitl [Hp0]; · iexact Hp0
    isplitl [Hp1]; · iexact Hp1
    isplitl [Hp2]; · iexact Hp2
    isplitl [Hp3]; · iexact Hp3
    isplitl [Hb0]; · iexact Hb0
    isplitl [Hb1]; · iexact Hb1
    isplitl [Hb2]; · iexact Hb2
    isplitl [Hs0]; · iexact Hs0
    isplitl [Hs1]; · iexact Hs1
    isplitl [Hs2]; · iexact Hs2
    iexact Hs3
  iintro %_ ⟨HO, Hc0, Hc1, Hc2, Hc3, Hp0, Hp1, Hp2, Hp3, Hb0, Hb1, Hb2, Hs0, Hs1, Hs2, Hs3⟩
  ihave Hp0 := (plane_full X d i 0) $$ Hp0
  ihave Hp1 := (plane_full X d i 1) $$ Hp1
  ihave Hp2 := (plane_full X d i 2) $$ Hp2
  ihave Hp3 := (plane_full X d i 3) $$ Hp3
  unfold td1
  isplitl [Hc0 Hc1 Hc2 Hc3 Hp0 Hp1 Hp2 Hp3]
  · isplitl [Hc0 Hc1 Hc2 Hc3]
    · iapply (BIBase.Entails.of_eq (bigSep_four (F := F) _).symm)
      isplitl [Hc0]; · iexact Hc0
      isplitl [Hc1]; · iexact Hc1
      isplitl [Hc2]; · iexact Hc2
      iexact Hc3
    iapply (BIBase.Entails.of_eq (bigSep_four (F := F) _).symm)
    isplitl [Hp0]; · iexact Hp0
    isplitl [Hp1]; · iexact Hp1
    isplitl [Hp2]; · iexact Hp2
    iexact Hp3
  isplitl [Hb0 Hb1 Hb2 Hrb]
  · isplitr [Hrb]
    · isplitl [Hb0]; · iexact Hb0
      isplitl [Hb1]; · iexact Hb1
      iexact Hb2
    · iexact Hrb
  isplitl [Hs0 Hs1 Hs2 Hs3 Hrs]
  · isplitr [Hrs]
    · isplitl [Hs0]; · iexact Hs0
      isplitl [Hs1]; · iexact Hs1
      isplitl [Hs2]; · iexact Hs2
      iexact Hs3
    · iexact Hrs
  iexact HO

end Cert.Pillars

end
-- ==== Proof.Arrays.lean ====
/-
  The arrays of the two calls as the tiles' pieces: the shares of the inputs, the channels of the map, the planes of the result.
-/
module

public import proofs.«01_k».proof.Proof.Tasks

@[expose] public section

set_option maxRecDepth 16384

noncomputable section

namespace Cert.Pillars

open Cert.KernelIdeal Cert.KernelIdeal.Gen
open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- The tile of SparseCore `c`, vector subcore `s`. -/
def coords0 (c : Fin 2) (s : Fin 16) : grid0.Coords :=
  fun | 0 => c | 1 => s | ⟨_ + 2, h⟩ => absurd h (Nat.not_lt.2 (Nat.le_add_left _ _))
def coords1 (c : Fin 2) (s : Fin 16) : grid1.Coords :=
  fun | 0 => c | 1 => s | ⟨_ + 2, h⟩ => absurd h (Nat.not_lt.2 (Nat.le_add_left _ _))

/-- A conjunction over the tiles. -/
abbrev tiles (Φ : Fin 2 → Fin 16 → sProp (MT nD τ sig (HIx 2) (Elt F) ℕ UU ℕ)) : sProp 𝕄 :=
  bigSep Finset.univ fun c : Fin 2 => bigSep Finset.univ fun s : Fin 16 => Φ c s

theorem tiles_sep (Φ Ψ : Fin 2 → Fin 16 → sProp (MT nD τ sig (HIx 2) (Elt F) ℕ UU ℕ)) :
    tiles (fun c s => iprop(Φ c s ∗ Ψ c s)) = iprop(tiles Φ ∗ tiles Ψ) := by
  unfold tiles
  rw [← bigSep_sep']
  exact BI.bigSep_congr fun c _ => bigSep_sep' _ _ _

theorem tiles_mono {Φ Ψ : Fin 2 → Fin 16 → sProp (MT nD τ sig (HIx 2) (Elt F) ℕ UU ℕ)} (h : ∀ c s, Φ c s ⊢ Ψ c s) : tiles Φ ⊢ tiles Ψ :=
  BI.bigSep_mono fun c _ => BI.bigSep_mono fun s _ => h c s

/-! ## The channels of the map -/

abbrev TI : Type := Fin 2 × Fin 16 × Fin 4

abbrev chT (t : TI) : Rect S27426816 := chR (coords0 t.1 t.2.1) t.2.2

theorem mem_chT (t : TI) (j : S27426816.Idx) : j ∈ (chT t).set ↔
    13713408 * t.1.val + 857088 * t.2.1.val + 214272 * t.2.2.val ≤ (j 0).val
      ∧ (j 0).val < 13713408 * t.1.val + 857088 * t.2.1.val + 214272 * t.2.2.val + 214272 := by
  refine Rect.mem_set_unit.trans ⟨fun h => h 0, fun h a => ?_⟩
  obtain rfl : a = 0 := Fin.eq_zero a
  exact h

theorem chT_disjoint (t t' : TI) (h : t ≠ t') : Disjoint (chT t).set (chT t').set := by
  refine Finset.disjoint_left.mpr fun j hj hj' => h ?_
  have a := (mem_chT t j).mp hj
  have b := (mem_chT t' j).mp hj'
  obtain ⟨c, s, r⟩ := t
  obtain ⟨c', s', r'⟩ := t'
  have := c.isLt
  have := s.isLt
  have := r.isLt
  have := c'.isLt
  have := s'.isLt
  have := r'.isLt
  dsimp only at a b
  refine Prod.ext (Fin.ext ?_) (Prod.ext (Fin.ext ?_) (Fin.ext ?_)) <;> dsimp only <;> omega

theorem chT_cover : (Finset.univ : Finset TI).biUnion (fun t => (chT t).set) = Finset.univ := by
  refine Finset.eq_univ_iff_forall.mpr fun j => Finset.mem_biUnion.mpr ?_
  have hj : (j 0).val < 27426816 := (j 0).isLt
  refine ⟨(⟨(j 0).val / 13713408, by omega⟩, ⟨(j 0).val % 13713408 / 857088, by omega⟩, ⟨(j 0).val % 857088 / 214272, by omega⟩), Finset.mem_univ _, (mem_chT _ j).mpr ?_⟩
  dsimp only
  omega

/-- The map whole is its tiles' channels. -/
theorem split_G (d : Dev nD) (f : S27426816.Idx → Elt F .f32) :
    ((SparseCore.T d).loc main_v17 ↦{fullShare} f : sProp 𝕄)
      ⊢ tiles fun c s => bigSep Finset.univ fun r : Fin 4 =>
          owns (thr d (coords0 c s)) (mG.slice (chR (coords0 c s) r) (fun _ => rfl)) fullShare (fun y => f ((chR (coords0 c s) r).emb y)) := by
  have e : ((SparseCore.T d).loc main_v17 ↦{fullShare} f : sProp 𝕄) = owns (thr d (coords0 0 0)) mG fullShare f :=
    (owns_whole (thr d (coords0 0 0)) main_v17_scv fullShare f).symm
  rw [e]
  refine (owns_rects (thr d (coords0 0 0)) mG fullShare chT (fun _ _ => rfl) chT_disjoint chT_cover f).trans (BIBase.Entails.of_eq ?_)
  rw [BI.bigSep_univ_prod]
  refine BI.bigSep_congr fun c _ => ?_
  rw [BI.bigSep_univ_prod]
  rfl

theorem join_G [∀ e, Nonempty (Elt F e)] (d : Dev nD) (f : S27426816.Idx → Elt F .f32) :
    (tiles fun c s => bigSep Finset.univ fun r : Fin 4 =>
          owns (thr d (coords0 c s)) (mG.slice (chR (coords0 c s) r) (fun _ => rfl)) fullShare (fun y => f ((chR (coords0 c s) r).emb y)))
      ⊢ ((SparseCore.T d).loc main_v17 ↦{fullShare} f : sProp 𝕄) := by
  have e : ((SparseCore.T d).loc main_v17 ↦{fullShare} f : sProp 𝕄) = owns (thr d (coords0 0 0)) mG fullShare f :=
    (owns_whole (thr d (coords0 0 0)) main_v17_scv fullShare f).symm
  rw [e]
  refine BIBase.Entails.trans (BIBase.Entails.of_eq ?_) (owns_of_rects (thr d (coords0 0 0)) mG fullShare chT (fun _ _ => rfl) chT_disjoint chT_cover f)
  rw [BI.bigSep_univ_prod]
  refine BI.bigSep_congr fun c _ => ?_
  rw [BI.bigSep_univ_prod]
  rfl

/-! ## The planes of the result -/

abbrev plT (t : TI) : Rect S2x64x496x432 := plR (coords1 t.1 t.2.1) t.2.2

theorem mem_plT (t : TI) (j : S2x64x496x432.Idx) : j ∈ (plT t).set ↔ (j 0).val = t.1.val ∧ (j 1).val = 4 * t.2.1.val + t.2.2.val := by
  have h2 : (j 2).val < 496 := (j 2).isLt
  have h3 : (j 3).val < 432 := (j 3).isLt
  refine Rect.mem_set_unit.trans ⟨fun h => ?_, fun h a => ?_⟩
  · have a : t.1.val ≤ (j 0).val ∧ (j 0).val < t.1.val + 1 := h 0
    have b : 4 * t.2.1.val + t.2.2.val ≤ (j 1).val ∧ (j 1).val < 4 * t.2.1.val + t.2.2.val + 1 := h 1
    omega
  · match a with
    | ⟨0, _⟩ =>
      change t.1.val ≤ (j 0).val ∧ (j 0).val < t.1.val + 1
      omega
    | ⟨1, _⟩ =>
      change 4 * t.2.1.val + t.2.2.val ≤ (j 1).val ∧ (j 1).val < 4 * t.2.1.val + t.2.2.val + 1
      omega
    | ⟨2, _⟩ => exact ⟨Nat.zero_le _, h2.trans_le (Nat.zero_add _).ge⟩
    | ⟨3, _⟩ => exact ⟨Nat.zero_le _, h3.trans_le (Nat.zero_add _).ge⟩

theorem plT_disjoint (t t' : TI) (h : t ≠ t') : Disjoint (plT t).set (plT t').set := by
  refine Finset.disjoint_left.mpr fun j hj hj' => h ?_
  have a := (mem_plT t j).mp hj
  have b := (mem_plT t' j).mp hj'
  obtain ⟨c, s, r⟩ := t
  obtain ⟨c', s', r'⟩ := t'
  have := r.isLt
  have := r'.isLt
  dsimp only at a b
  refine Prod.ext (Fin.ext ?_) (Prod.ext (Fin.ext ?_) (Fin.ext ?_)) <;> dsimp only <;> omega

theorem plT_cover : (Finset.univ : Finset TI).biUnion (fun t => (plT t).set) = Finset.univ := by
  refine Finset.eq_univ_iff_forall.mpr fun j => Finset.mem_biUnion.mpr ?_
  have hj : (j 0).val < 2 := (j 0).isLt
  have hj1 : (j 1).val < 64 := (j 1).isLt
  refine ⟨(⟨(j 0).val, hj⟩, ⟨(j 1).val / 4, by omega⟩, ⟨(j 1).val % 4, by omega⟩), Finset.mem_univ _, (mem_plT _ j).mpr ?_⟩
  dsimp only
  omega

/-- The result whole is its tiles' planes. -/
theorem split_R (d : Dev nD) (f : S2x64x496x432.Idx → Elt F .f32) :
    ((SparseCore.T d).loc main_v18 ↦{fullShare} f : sProp 𝕄)
      ⊢ tiles fun c s => bigSep Finset.univ fun r : Fin 4 =>
          owns (thr1 d (coords1 c s)) (mR.slice (plR (coords1 c s) r) (fun _ => rfl)) fullShare (fun y => f ((plR (coords1 c s) r).emb y)) := by
  have e : ((SparseCore.T d).loc main_v18 ↦{fullShare} f : sProp 𝕄) = owns (thr1 d (coords1 0 0)) mR fullShare f :=
    (owns_whole (thr1 d (coords1 0 0)) main_v18_scv fullShare f).symm
  rw [e]
  refine (owns_rects (thr1 d (coords1 0 0)) mR fullShare plT (fun _ _ => rfl) plT_disjoint plT_cover f).trans (BIBase.Entails.of_eq ?_)
  rw [BI.bigSep_univ_prod]
  refine BI.bigSep_congr fun c _ => ?_
  rw [BI.bigSep_univ_prod]
  rfl

theorem join_R [∀ e, Nonempty (Elt F e)] (d : Dev nD) (f : S2x64x496x432.Idx → Elt F .f32) :
    (tiles fun c s => bigSep Finset.univ fun r : Fin 4 =>
          owns (thr1 d (coords1 c s)) (mR.slice (plR (coords1 c s) r) (fun _ => rfl)) fullShare (fun y => f ((plR (coords1 c s) r).emb y)))
      ⊢ ((SparseCore.T d).loc main_v18 ↦{fullShare} f : sProp 𝕄) := by
  have e : ((SparseCore.T d).loc main_v18 ↦{fullShare} f : sProp 𝕄) = owns (thr1 d (coords1 0 0)) mR fullShare f :=
    (owns_whole (thr1 d (coords1 0 0)) main_v18_scv fullShare f).symm
  rw [e]
  refine BIBase.Entails.trans (BIBase.Entails.of_eq ?_) (owns_of_rects (thr1 d (coords1 0 0)) mR fullShare plT (fun _ _ => rfl) plT_disjoint plT_cover f)
  rw [BI.bigSep_univ_prod]
  refine BI.bigSep_congr fun c _ => ?_
  rw [BI.bigSep_univ_prod]
  rfl

/-! ## The inputs' shares -/

theorem dealt {ℓ : Loc nD τ sig} (f : Buf (Elt F) ℓ) : (ℓ ↦{fullShare} f : sProp 𝕄) = tiles fun c s => ℓ ↦{tileShare c s} f := by
  refine (Transfers.pointsTo_deal (Finset.univ : Finset (Fin 2)) Finset.univ_nonempty fullShare).trans (BI.bigSep_congr fun c _ => ?_)
  exact Transfers.pointsTo_deal (Finset.univ : Finset (Fin 16)) Finset.univ_nonempty _

theorem sep3 {A A' B B' C C' : sProp (MT nD τ sig (HIx 2) (Elt F) ℕ UU ℕ)} (ha : A = A') (hb : B = B') (hc : C = C') :
    (iprop(A ∗ B ∗ C) : sProp 𝕄) = iprop(A' ∗ B' ∗ C') := by
  rw [ha, hb, hc]

theorem some_of {sp : Space} {sh : Shape} {e : EltTy} (c : Thread nD τ) (m : Memref sig c.2.kind sp sh e) (X : Vec F sh e) :
    (owns c m fullShare X : sProp 𝕄) ⊢ iprop(∃ Y, owns c m fullShare Y) := by
  iintro H
  iexists X
  iexact H

theorem ins_eq (X : Data F) (d : Dev nD) :
    (iprop(((SparseCore.T d).loc main_v14 ↦{fullShare} X.VF) ∗ ((SparseCore.T d).loc main_v15 ↦{fullShare} X.PV) ∗ ((SparseCore.T d).loc main_v16 ↦{fullShare} X.YV)) : sProp 𝕄)
      = tiles fun c s => ins0 X d (coords0 c s) := by
  rw [dealt (F := F) (ℓ := (SparseCore.T d).loc main_v14), dealt (F := F) (ℓ := (SparseCore.T d).loc main_v15), dealt (F := F) (ℓ := (SparseCore.T d).loc main_v16),
    ← tiles_sep, ← tiles_sep]
  refine BI.bigSep_congr fun c _ => BI.bigSep_congr fun s _ => ?_
  exact sep3 (owns_whole (thr d (coords0 c s)) main_v14_scv (tileShare c s) X.VF).symm (owns_whole (thr d (coords0 c s)) main_v15_scv (tileShare c s) X.PV).symm
    (owns_whole (thr d (coords0 c s)) main_v16_scv (tileShare c s) X.YV).symm

/-! ## What the calls take and give -/

theorem split0 (X : Data F) (d : Dev nD) (f : S27426816.Idx → Elt F .f32) :
    (iprop((((SparseCore.T d).loc main_v14 ↦{fullShare} X.VF) ∗ ((SparseCore.T d).loc main_v15 ↦{fullShare} X.PV) ∗ ((SparseCore.T d).loc main_v16 ↦{fullShare} X.YV))
        ∗ ((SparseCore.T d).loc main_v17 ↦{fullShare} f)) : sProp 𝕄)
      ⊢ tiles fun c s => go0 X d (coords0 c s) := by
  rw [ins_eq]
  unfold go0
  rw [tiles_sep]
  iintro ⟨Hi, Hg⟩
  isplitl [Hi]; · iexact Hi
  ihave Hg := (split_G d f) $$ Hg
  iapply (tiles_mono (F := F) fun c s => BI.bigSep_mono fun r _ => some_of _ _ _)
  iexact Hg

theorem join0 [∀ e, Nonempty (Elt F e)] (X : Data F) (d : Dev nD) :
    (tiles fun c s => td0 X d (coords0 c s))
      ⊢ (iprop((((SparseCore.T d).loc main_v14 ↦{fullShare} X.VF) ∗ ((SparseCore.T d).loc main_v15 ↦{fullShare} X.PV) ∗ ((SparseCore.T d).loc main_v16 ↦{fullShare} X.YV))
        ∗ ((SparseCore.T d).loc main_v17 ↦{fullShare} X.G)) : sProp 𝕄) := by
  rw [ins_eq]
  unfold td0
  rw [tiles_sep]
  iintro ⟨Hi, Hg⟩
  isplitl [Hi]; · iexact Hi
  iapply (join_G d X.G)
  iexact Hg

theorem split1 (X : Data F) (d : Dev nD) (f : S2x64x496x432.Idx → Elt F .f32) :
    (iprop(((SparseCore.T d).loc main_v17 ↦{fullShare} X.G) ∗ ((SparseCore.T d).loc main_v18 ↦{fullShare} f)) : sProp 𝕄)
      ⊢ tiles fun c s => go1 X d (coords1 c s) := by
  unfold go1
  rw [tiles_sep]
  iintro ⟨Hi, Hg⟩
  isplitl [Hi]
  · iapply (split_G d X.G)
    iexact Hi
  ihave Hg := (split_R d f) $$ Hg
  iapply (tiles_mono (F := F) fun c s => BI.bigSep_mono fun r _ => some_of _ _ _)
  iexact Hg

theorem join1 [∀ e, Nonempty (Elt F e)] (X : Data F) (d : Dev nD) :
    (tiles fun c s => td1 X d (coords1 c s))
      ⊢ (iprop(((SparseCore.T d).loc main_v17 ↦{fullShare} X.G) ∗ ((SparseCore.T d).loc main_v18 ↦{fullShare} X.R)) : sProp 𝕄) := by
  unfold td1
  rw [tiles_sep]
  iintro ⟨Hi, Hg⟩
  isplitl [Hi]
  · iapply (join_G d X.G)
    iexact Hi
  iapply (join_R d X.R)
  iexact Hg

end Cert.Pillars

end
-- ==== Proof.Host.lean ====
/-
  The operations the host runs before the two calls, and what the arrays hold after them.
-/
module

public import proofs.«01_k».proof.Proof.Arrays
public import Idealize.ShloMosaic.Lib.StableHlo.Run
public import Idealize.ShloMosaic.Lib.Pipeline.Frame

@[expose] public section

set_option maxRecDepth 16384

noncomputable section

namespace Cert.Pillars

open Cert.KernelIdeal Cert.KernelIdeal.Gen
open Idealize.ShloMosaic Idealize.ShloMosaic.ValueIdx
open Idealize.ShloMosaic.StableHlo
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- The operations before the calls. -/
abbrev hostOps : List (HloOp τ sig (Elt F)) :=
  [ unary main_arg1 main_v0 ((extractStridedSlice S24000x1 ![0, 2] · slices_S24000x4_S24000x1_0_2) : (⟨S24000x4, .i32⟩ : BufTy).Contents (Elt F) → (⟨S24000x1, .i32⟩ : BufTy).Contents (Elt F)),
    reshape main_v0 main_v1 (rfl : (.i32 : EltTy) = .i32) shapeCasts_S24000x1_S24000,
    nullary main_c (constantI S_ 32 432#32),
    unary main_c main_v2 (broadcastInDim S24000 ![] bcast_S_S24000 : (⟨S_, .i32⟩ : BufTy).Contents (Elt F) → (⟨S24000, .i32⟩ : BufTy).Contents (Elt F)),
    binary main_v1 main_v2 main_v3 (muli : (⟨S24000, .i32⟩ : BufTy).Contents (Elt F) → (⟨S24000, .i32⟩ : BufTy).Contents (Elt F) → (⟨S24000, .i32⟩ : BufTy).Contents (Elt F)),
    unary main_arg1 main_v4 ((extractStridedSlice S24000x1 ![0, 3] · slices_S24000x4_S24000x1_0_3) : (⟨S24000x4, .i32⟩ : BufTy).Contents (Elt F) → (⟨S24000x1, .i32⟩ : BufTy).Contents (Elt F)),
    reshape main_v4 main_v5 (rfl : (.i32 : EltTy) = .i32) shapeCasts_S24000x1_S24000,
    binary main_v3 main_v5 main_v6 (addi : (⟨S24000, .i32⟩ : BufTy).Contents (Elt F) → (⟨S24000, .i32⟩ : BufTy).Contents (Elt F) → (⟨S24000, .i32⟩ : BufTy).Contents (Elt F)),
    unary main_arg0 main_v7 ((transpose S64x24000 [1, 0] · transposes_S24000x64_S64x24000_1_0) : (⟨S24000x64, .f32⟩ : BufTy).Contents (Elt F) → (⟨S64x24000, .f32⟩ : BufTy).Contents (Elt F)),
    reshape main_v7 main_v8 (rfl : (.f32 : EltTy) = .f32) shapeCasts_S64x24000_S64x2x12000,
    nullary main_c_0 (constantI S_ 32 0#32),
    unary main_c_0 main_call0_v0 ((sitofp .f32) : (⟨S_, .i32⟩ : BufTy).Contents (Elt F) → (⟨S_, .f32⟩ : BufTy).Contents (Elt F)),
    binary main_v8 main_call0_v0 main_v9 ((fun x v => pad S64x2x12032 ![0, 0, 0] ![0, 0, 32] ![0, 0, 0] x v pads_S64x2x12000_S64x2x12032_000_000_0320 h_S_) : (⟨S64x2x12000, .f32⟩ : BufTy).Contents (Elt F) → (⟨S_, .f32⟩ : BufTy).Contents (Elt F) → (⟨S64x2x12032, .f32⟩ : BufTy).Contents (Elt F)),
    reshape main_v6 main_v10 (rfl : (.i32 : EltTy) = .i32) shapeCasts_S24000_S2x12000,
    nullary main_c_1 (constantI S_ 32 0#32),
    unary main_c_1 main_call1_v0 (id : (⟨S_, .i32⟩ : BufTy).Contents (Elt F) → (⟨S_, .i32⟩ : BufTy).Contents (Elt F)),
    binary main_v10 main_call1_v0 main_v11 ((fun x v => pad S2x12032 ![0, 0] ![0, 32] ![0, 0] x v pads_S2x12000_S2x12032_000_0320 h_S_) : (⟨S2x12000, .i32⟩ : BufTy).Contents (Elt F) → (⟨S_, .i32⟩ : BufTy).Contents (Elt F) → (⟨S2x12032, .i32⟩ : BufTy).Contents (Elt F)),
    reshape main_v1 main_v12 (rfl : (.i32 : EltTy) = .i32) shapeCasts_S24000_S2x12000,
    nullary main_c_2 (constantI S_ 32 0#32),
    unary main_c_2 main_call2_v0 (id : (⟨S_, .i32⟩ : BufTy).Contents (Elt F) → (⟨S_, .i32⟩ : BufTy).Contents (Elt F)),
    binary main_v12 main_call2_v0 main_v13 ((fun x v => pad S2x12032 ![0, 0] ![0, 32] ![0, 0] x v pads_S2x12000_S2x12032_000_0320 h_S_) : (⟨S2x12000, .i32⟩ : BufTy).Contents (Elt F) → (⟨S_, .i32⟩ : BufTy).Contents (Elt F) → (⟨S2x12032, .i32⟩ : BufTy).Contents (Elt F)),
    reshape main_v9 main_v14 (rfl : (.f32 : EltTy) = .f32) shapeCasts_S64x2x12032_S1540096,
    reshape main_v11 main_v15 (rfl : (.i32 : EltTy) = .i32) shapeCasts_S2x12032_S24064,
    reshape main_v13 main_v16 (rfl : (.i32 : EltTy) = .i32) shapeCasts_S2x12032_S24064 ]

/-- The two calls. -/
def callsProg (d : Dev nD) : Prog (TpuEff nD τ sig (Elt F) (SparseCore.Sig (ΛP (F := F)) 2) .tc) PUnit := do
  sc.run d 0
  sc.run d 1
  pure ⟨⟩

theorem main_eq (d : Dev nD) : main (F := F) d = seq hostOps >>= fun _ => callsProg d := rfl

theorem hostOps_sub : (hostOps : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., binary_bufs_sub .., unary_bufs_sub .., reshape_bufs_sub .., nullary_bufs_sub .., unary_bufs_sub .., binary_bufs_sub .., reshape_bufs_sub .., nullary_bufs_sub .., unary_bufs_sub .., binary_bufs_sub .., reshape_bufs_sub .., nullary_bufs_sub .., unary_bufs_sub .., binary_bufs_sub .., reshape_bufs_sub .., reshape_bufs_sub .., reshape_bufs_sub ..⟩

theorem hostOps_fresh : (hostOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

theorem hostOps_in : ∀ op ∈ (hostOps : List (HloOp τ sig (Elt F))), op.bufs ⊆ Pipeline.ucRefs τ sig :=
  fun op h => Pipeline.sub_ucRefs op (List.forall_iff_forall_mem.mp hostOps_sub op h)

/-! ## What the arrays hold -/

variable (m : (ℓ : Loc nD τ sig) → Buf (Elt F) ℓ) (d : Dev nD)

/-- The arguments. -/
abbrev feats : Vec F S24000x64 .f32 := m ((d.tc : Thread nD τ).loc main_arg0)
abbrev coords : Vec F S24000x4 .i32 := m ((d.tc : Thread nD τ).loc main_arg1)

/-- A column of the coordinates. -/
def col2 (C : Vec F S24000x4 .i32) : Vec F S24000 .i32 := shapeCast _ (extractStridedSlice S24000x1 ![0, 2] C slices_S24000x4_S24000x1_0_2) shapeCasts_S24000x1_S24000
def col3 (C : Vec F S24000x4 .i32) : Vec F S24000 .i32 := shapeCast _ (extractStridedSlice S24000x1 ![0, 3] C slices_S24000x4_S24000x1_0_3) shapeCasts_S24000x1_S24000

/-- The cells. -/
def cells (C : Vec F S24000x4 .i32) : Vec F S24000 .i32 :=
  addi (muli (col2 C) (broadcastInDim S24000 ![] bcast_S_S24000 (constantI S_ 32 432#32))) (col3 C)

/-- A word per pillar, two batches each padded. -/
def padded (V : Vec F S24000 .i32) : Vec F S24064 .i32 :=
  shapeCast _ (pad S2x12032 ![0, 0] ![0, 32] ![0, 0] (shapeCast S2x12000 V shapeCasts_S24000_S2x12000) (constantI S_ 32 0#32) pads_S2x12000_S2x12032_000_0320 h_S_) shapeCasts_S2x12032_S24064

/-- The features by channel, two batches each padded. -/
def channels (A : Vec F S24000x64 .f32) : Vec F S1540096 .f32 :=
  shapeCast _ (pad S64x2x12032 ![0, 0, 0] ![0, 0, 32] ![0, 0, 0]
    (shapeCast S64x2x12000 (transpose S64x24000 [1, 0] A transposes_S24000x64_S64x24000_1_0) shapeCasts_S64x24000_S64x2x12000)
    (sitofp .f32 (constantI S_ 32 0#32)) pads_S64x2x12000_S64x2x12032_000_000_0320 h_S_) shapeCasts_S64x2x12032_S1540096

/-- The arrays at launch, and when the host's operations have run. -/
def V0 : Valuation τ sig (Elt F) := fun b => m (d, b)
def V1 : Valuation τ sig (Elt F) := after hostOps (V0 m d)

theorem V1_v14 : V1 m d (Proc.devRef .tc main_v14) = channels (feats m d) := by
  unfold V1
  after_results_simp <;> rfl
theorem V1_v15 : V1 m d (Proc.devRef .tc main_v15) = padded (cells (coords m d)) := by
  unfold V1
  after_results_simp <;> rfl
theorem V1_v16 : V1 m d (Proc.devRef .tc main_v16) = padded (col2 (coords m d)) := by
  unfold V1
  after_results_simp <;> rfl
theorem V1_arg0 : V1 m d (Proc.devRef .tc main_arg0) = m ((d.tc : Thread nD τ).loc main_arg0) := by
  unfold V1
  after_results_simp <;> rfl
theorem V1_arg1 : V1 m d (Proc.devRef .tc main_arg1) = m ((d.tc : Thread nD τ).loc main_arg1) := by
  unfold V1
  after_results_simp <;> rfl

end Cert.Pillars

end
-- ==== Proof.Grid.lean ====
/-
  What the precondition says of the coordinates: every pillar's batch, row and column.
-/
module

public import proofs.«01_k».proof.Proof.Host
public import proofs.«01_k».proof.Proof.Gen.Pre_pillars
public import Idealize.ShloMosaic.Lib.ReduceAll
public import Idealize.ShloMosaic.Lib.WordCmp
public import Idealize.ShloMosaic.Lib.Pipeline.Value
public import Idealize.ShloMosaic.Lib.KernelVsHost

@[expose] public section

set_option maxRecDepth 16384

noncomputable section

namespace Cert.Pillars

open Cert.KernelIdeal Cert.KernelIdeal.Gen
open Idealize.ShloMosaic Idealize.ShloMosaic.ValueIdx Idealize.ShloMosaic.WordCmp
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## The columns, read -/

/-- A column of the coordinates, as the programs cut it. -/
theorem column_apply {α : Type} (C : S24000x4.Idx → α) (c : Fin 4) (hs : S24000x4.Slices ![0, c.val] S24000x1) (hc : S24000x1.ShapeCasts S24000)
    (n : Fin 24000) : shapeCast S24000 (extractStridedSlice S24000x1 ![0, c.val] C hs) hc (ix1 n) = C (ix2 n c) := by
  rw [shapeCast_apply _ hc (ix1 n) (ix2 n (0 : Fin 1)) (by
    rw [Shape.rowMajor_val_one, Shape.rowMajor_val_two]
    show n.val * 1 + 0 = n.val
    omega)]
  refine extractStridedSlice_apply _ C hs _ _ fun a => ?_
  match a with
  | ⟨0, _⟩ => exact (Nat.zero_add _).symm
  | ⟨1, _⟩ => rfl

theorem col2_apply (C : Vec F S24000x4 .i32) (n : Fin 24000) : col2 C (ix1 n) = C (ix2 n 2) := column_apply C 2 _ _ n
theorem col3_apply (C : Vec F S24000x4 .i32) (n : Fin 24000) : col3 C (ix1 n) = C (ix2 n 3) := column_apply C 3 _ _ n

/-! ## The precondition -/

/-- Every pillar's batch is the one its number lies in, and its cell lies in the grid. -/
def InGrid (C : Vec F S24000x4 .i32) : Prop :=
  ∀ n : Fin 24000, C (ix2 n 0) = BitVec.ofNat 32 (n.val / 12000) ∧ (C (ix2 n 2)).toNat < 496 ∧ (C (ix2 n 3)).toNat < 432

theorem toNat_lt_of_range {x : BitVec 32} {N : ℕ} (hN : N < 2147483648)
    (h : IntOp.andi (IntOp.cmpi .sge x 0#32) (IntOp.cmpi .slt x (BitVec.ofNat 32 N)) = 1#1) : x.toNat < N := by
  rw [cmpi_sge_eq, cmpi_slt_eq, andi_ofBool, ofBool_eq_one_iff, Bool.and_eq_true, decide_eq_true_iff, decide_eq_true_iff] at h
  have e : (BitVec.ofNat 32 N).toInt = N := by
    rw [BitVec.toInt_eq_toNat_cond, BitVec.toNat_ofNat, Nat.mod_eq_of_lt (by omega), if_pos (by omega)]
  rw [e] at h
  have h0 := h.1
  have h1 := h.2
  rw [show (0#32 : BitVec 32).toInt = 0 by decide, BitVec.toInt_eq_toNat_cond] at h0
  rw [BitVec.toInt_eq_toNat_cond] at h1
  have h2 := x.isLt
  split at h0 <;> omega

/-- The quotient of a small number by 12000, as the precondition computes it. -/
def floorWord (x : BitVec 32) : BitVec 32 :=
  Scalar.select (IntOp.andi (IntOp.cmpi .ne (if x = 0 then 0 else if x.msb then -1 else 1 : BitVec 32) (if (12000#32 : BitVec 32) = 0 then 0 else if (12000#32 : BitVec 32).msb then -1 else 1))
    (IntOp.cmpi .ne (IntOp.remsi .host x 12000#32) 0#32)) (IntOp.subi (IntOp.divsi .host x 12000#32) 1#32) (IntOp.divsi .host x 12000#32)

theorem floorWord_ofNat {n : ℕ} (hn : n < 24000) : floorWord (BitVec.ofNat 32 n) = BitVec.ofNat 32 (n / 12000) := by
  have hx : (BitVec.ofNat 32 n).toNat = n := by rw [BitVec.toNat_ofNat, Nat.mod_eq_of_lt (by omega)]
  have hm : (BitVec.ofNat 32 n).msb = false := by
    rw [BitVec.msb_eq_decide, hx]
    exact decide_eq_false (by omega)
  have hm' : (12000#32 : BitVec 32).msb = false := by decide
  have hc : ¬ IntOp.SDivCorner (BitVec.ofNat 32 n) 12000#32 := by
    rintro (h | ⟨-, h⟩) <;> revert h <;> decide
  have hd : IntOp.divsi .host (BitVec.ofNat 32 n) 12000#32 = BitVec.ofNat 32 (n / 12000) := by
    unfold IntOp.divsi
    rw [if_neg hc, BitVec.sdiv_eq, hm, hm']
    apply BitVec.eq_of_toNat_eq
    show (BitVec.ofNat 32 n).toNat / 12000 = _
    rw [hx, BitVec.toNat_ofNat, Nat.mod_eq_of_lt (by omega)]
  have hr : n = 0 → IntOp.remsi .host (BitVec.ofNat 32 n) 12000#32 = 0#32 := by
    rintro rfl
    unfold IntOp.remsi
    rw [if_neg hc]
    decide
  unfold floorWord
  rw [hd, hm]
  by_cases h0 : n = 0
  · rw [hr h0, h0]
    decide
  · have hz : ¬ BitVec.ofNat 32 n = 0 := fun h => h0 (hx.symm.trans (congrArg BitVec.toNat h))
    rw [if_neg hz, hm', if_neg (by decide : ¬ (12000#32 : BitVec 32) = 0)]
    have e : IntOp.cmpi .ne (if false = true then -1 else 1 : BitVec 32) (if false = true then -1 else 1) = 0#1 := by decide
    rw [e]
    unfold IntOp.andi Scalar.select
    rw [BitVec.zero_and, if_neg (by decide)]

attribute [local instance] Cert.Pre_pillars.Gen.facts

theorem and_parts {x y : IVec Cert.Pre_pillars.S_ 1} (h : andi x y = fun _ => 1#1) : x = (fun _ => 1#1) ∧ y = fun _ => 1#1 := by
  have hb : ∀ a b : BitVec 1, a &&& b = 1#1 → a = 1#1 ∧ b = 1#1 := by decide
  exact ⟨funext fun i => (hb _ _ (congrFun h i)).1, funext fun i => (hb _ _ (congrFun h i)).2⟩

instance : Subsingleton Cert.Pre_pillars.S_.Idx := ⟨fun _ _ => funext fun a => a.elim0⟩

/-- The precondition puts the pillars in the grid. -/
theorem inGrid_of_pre {A : Vec F S24000x64 .f32} {C : Vec F S24000x4 .i32} (h : Cert.Pre_pillars.fn (F := F) A C = fun _ => 1#1) : InGrid (F := F) C := by
  unfold Cert.Pre_pillars.fn Cert.Pre_pillars.fn_part1 at h
  dsimp only at h
  obtain ⟨h', hx⟩ := and_parts h
  obtain ⟨hb, hy⟩ := and_parts h'
  intro n
  have hb := Host.reduce_andi_all _ _ _ _ _ (congrFun hb (Shape.Idx.first Cert.Pre_pillars.Facts.h_S_)) (ix1 n)
  have hy := Host.reduce_andi_all _ _ _ _ _ (congrFun hy (Shape.Idx.first Cert.Pre_pillars.Facts.h_S_)) (ix1 n)
  have hx := Host.reduce_andi_all _ _ _ _ _ (congrFun hx (Shape.Idx.first Cert.Pre_pillars.Facts.h_S_)) (ix1 n)
  refine ⟨?_, ?_, ?_⟩
  · have e := column_apply C 0 Cert.Pre_pillars.Facts.slices_S24000x4_S24000x1_0_0 Cert.Pre_pillars.Facts.shapeCasts_S24000x1_S24000 n
    refine e.symm.trans (Eq.trans ?_ (floorWord_ofNat n.isLt))
    exact of_decide_eq_true ((ofBool_eq_one_iff _).mp ((cmpi_eq_eq _ _).symm.trans hb))
  · refine toNat_lt_of_range (by decide) (Eq.trans ?_ hy)
    exact congrArg (fun x => IntOp.andi (IntOp.cmpi .sge x 0#32) (IntOp.cmpi .slt x 496#32))
      (column_apply C 2 Cert.Pre_pillars.Facts.slices_S24000x4_S24000x1_0_2 Cert.Pre_pillars.Facts.shapeCasts_S24000x1_S24000 n).symm
  · refine toNat_lt_of_range (by decide) (Eq.trans ?_ hx)
    exact congrArg (fun x => IntOp.andi (IntOp.cmpi .sge x 0#32) (IntOp.cmpi .slt x 432#32))
      (column_apply C 3 Cert.Pre_pillars.Facts.slices_S24000x4_S24000x1_0_3 Cert.Pre_pillars.Facts.shapeCasts_S24000x1_S24000 n).symm

end Cert.Pillars

end
-- ==== Proof.Launch.lean ====
/-
  The launch: what each call takes and gives, its tiles' obligations, and @main's run.
-/
module

public import proofs.«01_k».proof.Proof.Host

@[expose] public section

set_option maxRecDepth 16384

noncomputable section

namespace Cert.Pillars

open Cert.KernelIdeal Cert.KernelIdeal.Gen
open Idealize.ShloMosaic Idealize.ShloMosaic.ValueIdx
open Idealize.ShloMosaic.StableHlo (held held_sub_split seq after)
open Idealize.ShloMosaic.SparseCore.Cfg (HIx Pay)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (X : Dev nD → Data F)

/-! ## What the calls hand over -/

instance owns_storable {sp : Space} {sh : Shape} {e : EltTy} (c : Thread nD τ) (m : Memref sig c.2.kind sp sh e) (q : PosShare TreeShare) (Y : sh.Idx → Elt F e) :
    BI.Storable (upEmb : UEmb _ 𝕄) (owns c m q Y) :=
  inferInstanceAs (BI.Storable (upEmb : UEmb _ 𝕄) iprop(∃ f, ⌜m.view.read (Elt F) f = Y⌝ ∗ (m.view.loc c ↦[m.view.set]{q} f)))

instance go0_storable (X : Data F) (d : Dev nD) (i : grid0.Coords) : BI.Storable (upEmb : UEmb _ 𝕄) (go0 X d i) := by
  unfold go0 ins0
  infer_instance
instance td0_storable (X : Data F) (d : Dev nD) (i : grid0.Coords) : BI.Storable (upEmb : UEmb _ 𝕄) (td0 X d i) := by
  unfold td0 ins0
  infer_instance
instance go1_storable (X : Data F) (d : Dev nD) (i : grid1.Coords) : BI.Storable (upEmb : UEmb _ 𝕄) (go1 X d i) := by
  unfold go1
  infer_instance
instance td1_storable (X : Data F) (d : Dev nD) (i : grid1.Coords) : BI.Storable (upEmb : UEmb _ 𝕄) (td1 X d i) := by
  unfold td1
  infer_instance

abbrev go0s (X : Data F) (d : Dev nD) (c : Fin 2) : sProp 𝕄 := bigSep Finset.univ fun s : Fin 16 => go0 X d (coords0 c s)
abbrev td0s (X : Data F) (d : Dev nD) (c : Fin 2) : sProp 𝕄 := bigSep Finset.univ fun s : Fin 16 => td0 X d (coords0 c s)
abbrev go1s (X : Data F) (d : Dev nD) (c : Fin 2) : sProp 𝕄 := bigSep Finset.univ fun s : Fin 16 => go1 X d (coords1 c s)
abbrev td1s (X : Data F) (d : Dev nD) (c : Fin 2) : sProp 𝕄 := bigSep Finset.univ fun s : Fin 16 => td1 X d (coords1 c s)

/-- What the two calls take and give: each SparseCore its tiles' pieces. -/
def P : (K (F := F)).Pay (nD := nD) (Val := Elt F) (Name := ℕ) (U := UU) where
  st := fun q d c => match q, c with
    | 0, c => go0s (X d) d c
    | 1, c => go1s (X d) d c
  dn := fun q d c => match q, c with
    | 0, c => td0s (X d) d c
    | 1, c => td1s (X d) d c
  go := fun q d c i => match q, c, i with
    | 0, c, i => go0 (X d) d (coords0 c i)
    | 1, c, i => go1 (X d) d (coords1 c i)
  td := fun q d c i => match q, c, i with
    | 0, c, i => td0 (X d) d (coords0 c i)
    | 1, c, i => td1 (X d) d (coords1 c i)
  x := fun _ _ => iprop(emp)

instance P_storable : (P (F := F) X).IsStorable where
  st q d c := match q, c with
    | 0, c => (inferInstance : BI.Storable (upEmb : UEmb _ 𝕄) (go0s (X d) d c))
    | 1, c => (inferInstance : BI.Storable (upEmb : UEmb _ 𝕄) (go1s (X d) d c))
  dn q d c := match q, c with
    | 0, c => (inferInstance : BI.Storable (upEmb : UEmb _ 𝕄) (td0s (X d) d c))
    | 1, c => (inferInstance : BI.Storable (upEmb : UEmb _ 𝕄) (td1s (X d) d c))
  go q d c i := match q, c, i with
    | 0, c, i => (inferInstance : BI.Storable (upEmb : UEmb _ 𝕄) (go0 (X d) d (coords0 c i)))
    | 1, c, i => (inferInstance : BI.Storable (upEmb : UEmb _ 𝕄) (go1 (X d) d (coords1 c i)))
  td q d c i := match q, c, i with
    | 0, c, i => (inferInstance : BI.Storable (upEmb : UEmb _ 𝕄) (td0 (X d) d (coords0 c i)))
    | 1, c, i => (inferInstance : BI.Storable (upEmb : UEmb _ 𝕄) (td1 (X d) d (coords1 c i)))

theorem vecSplit0 : (K (F := F)).VecSplit' (P X) 0 := by
  intro d c
  change go0s (X d) d c ⊢ |={Set.univ}=> iprop(go0s (X d) d c ∗ (td0s (X d) d c -∗ td0s (X d) d c))
  iintro H
  imodintro
  isplitl [H]; · iexact H
  iintro H
  iexact H

theorem vecSplit1 : (K (F := F)).VecSplit' (P X) 1 := by
  intro d c
  change go1s (X d) d c ⊢ |={Set.univ}=> iprop(go1s (X d) d c ∗ (td1s (X d) d c -∗ td1s (X d) d c))
  iintro H
  imodintro
  isplitl [H]; · iexact H
  iintro H
  iexact H

/-! ## The tiles' obligations -/

theorem defs₀_vector0 (c : Fin τ.nSC) (s : Fin τ.nSub) :
    defs₀ (F := F) (.scVector c s) 0 ()
      = SparseCore.onTile hcore0 hsub0 (fun c s => cc0_body (coords0 c s) (Memref.whole main_v14_scv) (Memref.isWhole_whole _) (Memref.whole main_v15_scv) (Memref.isWhole_whole _) (Memref.whole main_v16_scv) (Memref.isWhole_whole _) (Memref.whole main_v17_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
            cc0_scratch6 cc0_scratch7 cc0_scoped0 cc0_scoped1 cc0_scoped2 cc0_scoped3 cc0_scoped4 cc0_scoped5) ⟨⟩ c s := rfl

theorem defs₀_vector1 (c : Fin τ.nSC) (s : Fin τ.nSub) :
    defs₀ (F := F) (.scVector c s) 1 ()
      = SparseCore.onTile hcore1 hsub1 (fun c s => cc1_body (coords1 c s) (Memref.whole main_v17_scv) (Memref.isWhole_whole _) (Memref.whole main_v18_scv) (Memref.isWhole_whole _) (Memref.whole cc1_scratch0) (Memref.isWhole_whole _) (Memref.whole cc1_scratch1) (Memref.isWhole_whole _) (Memref.whole cc1_scratch2) (Memref.isWhole_whole _)
            cc1_scratch3 cc1_scratch4 cc1_scratch5 cc1_scratch6) ⟨⟩ c s := rfl

theorem obl_post {thr : Thread nD τ} {A B C : sProp (MT nD τ sig (HIx 2) (Elt F) ℕ UU ℕ)} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro
    exact fun p hp => (hW' p hp).imp_right Or.inl
  · iexact HO

theorem tileObl0 : (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]
  simp only [SparseCore.onTile, hc, and_self, ↓reduceDIte]
  exact (tile_body0 (X d) d (coords0 ⟨_, hc.1⟩ ⟨_, hc.2⟩) O W hO).trans (wp_mono frame _ _ fun _ => obl_post)

theorem tileObl1 : (K (F := F)).TileObl (D (F := F)) 𝒱 (P X) v₀ 1 := by
  intro d c i O W hO _ _
  simp only [show (P X).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]
  simp only [SparseCore.onTile, hc, and_self, ↓reduceDIte]
  exact (tile_body1 (X d) d (coords1 ⟨_, hc.1⟩ ⟨_, hc.2⟩) O W hO).trans (wp_mono frame _ _ fun _ => obl_post)

/-! ## The launch element: the handshakes' rounds -/

def u₀ : UU := (initOf (K (F := F)).hsCells (K (F := F)).hsToks, 1)

theorem no_emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P X).x q thr) := by
  have e : (bigSep Finset.univ fun thr : Thread nD τ => bigSep Finset.univ fun q : Fin 2 => (P X).x q thr) = (iprop(emp) : sProp 𝕄) :=
    (BI.bigSep_congr fun _ _ => no_emps _).trans (no_emps _)
  rw [e, no_emps]
  unfold u₀
  iintro Hu
  ihave H := (ownU_pair _ _) $$ Hu
  icases H with ⟨HH, -⟩
  imodintro
  isplitl [HH]; · iexact HH
  isplitr <;> iempintro

/-! ## @main -/

variable (m : (ℓ : Loc nD τ sig) → Buf (Elt F) ℓ) (ρ : Dev nD → PrngReg)

/-- The seven arrays the proof follows. -/
abbrev S7 : Finset (DevRef τ sig) :=
  {Proc.devRef .tc main_arg0, Proc.devRef .tc main_arg1, Proc.devRef .tc main_v14, Proc.devRef .tc main_v15, Proc.devRef .tc main_v16,
    Proc.devRef .tc main_v17, Proc.devRef .tc main_v18}

theorem S7_sub : S7 ⊆ Pipeline.ucRefs τ sig := by
  intro b hb
  refine Finset.mem_filter.mpr ?_
  simp only [Finset.mem_insert, Finset.mem_singleton] at hb
  rcases hb with rfl | rfl | rfl | rfl | rfl | rfl | rfl <;> exact ⟨StableHlo.devRef_mem_tcRefs _, by decide⟩

theorem held_S7 (d : Dev nD) (W : Valuation τ sig (Elt F)) :
    (held (SparseCore.T d) S7 W : sProp 𝕄) = iprop(((SparseCore.T d).loc main_arg0 ↦{fullShare} W (Proc.devRef .tc main_arg0)) ∗ ((SparseCore.T d).loc main_arg1 ↦{fullShare} W (Proc.devRef .tc main_arg1))
      ∗ ((SparseCore.T d).loc main_v14 ↦{fullShare} W (Proc.devRef .tc main_v14)) ∗ ((SparseCore.T d).loc main_v15 ↦{fullShare} W (Proc.devRef .tc main_v15))
      ∗ ((SparseCore.T d).loc main_v16 ↦{fullShare} W (Proc.devRef .tc main_v16)) ∗ ((SparseCore.T d).loc main_v17 ↦{fullShare} W (Proc.devRef .tc main_v17))
      ∗ ((SparseCore.T d).loc main_v18 ↦{fullShare} W (Proc.devRef .tc main_v18))) := by
  unfold held S7
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- What @main leaves: the arguments as they were, the result. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1)) ∗ ((SparseCore.T d).loc main_v18 ↦{fullShare} (X d).R))

theorem done0 [∀ e, Nonempty (Elt F e)] (d : Dev nD) : (bigSep Finset.univ fun c : Fin ((K (F := F)).nCore 0) => (P X).dn 0 d c : sProp 𝕄)
    ⊢ iprop((((SparseCore.T d).loc main_v14 ↦{fullShare} (X d).VF) ∗ ((SparseCore.T d).loc main_v15 ↦{fullShare} (X d).PV) ∗ ((SparseCore.T d).loc main_v16 ↦{fullShare} (X d).YV))
        ∗ ((SparseCore.T d).loc main_v17 ↦{fullShare} (X d).G)) :=
  join0 (X d) d

theorem done1 [∀ e, Nonempty (Elt F e)] (d : Dev nD) : (bigSep Finset.univ fun c : Fin ((K (F := F)).nCore 1) => (P X).dn 1 d c : sProp 𝕄)
    ⊢ iprop(((SparseCore.T d).loc main_v17 ↦{fullShare} (X d).G) ∗ ((SparseCore.T d).loc main_v18 ↦{fullShare} (X d).R)) :=
  join1 (X d) d

theorem hostOps_pure : ∀ op ∈ (hostOps : List (HloOp τ sig (Elt F))), op.fresh = ∅ := List.forall_iff_forall_mem.mp hostOps_fresh

/-- The two calls, one after the other. -/
theorem wp_calls [∀ e, Nonempty (Elt F e)] (κ : GSem nD τ sig → ℕ) (d : Dev nD) (f17 : S27426816.Idx → Elt F .f32) (f18 : S2x64x496x432.Idx → Elt F .f32) :
    (iprop((K (F := F)).ctx EH (P X) κ ∗ (K (F := F)).tcSt EH d 0
        ∗ ((((SparseCore.T d).loc main_v14 ↦{fullShare} (X d).VF) ∗ ((SparseCore.T d).loc main_v15 ↦{fullShare} (X d).PV) ∗ ((SparseCore.T d).loc main_v16 ↦{fullShare} (X d).YV))
          ∗ ((SparseCore.T d).loc main_v17 ↦{fullShare} f17)) ∗ ((SparseCore.T d).loc main_v18 ↦{fullShare} f18)) : sProp 𝕄)
      ⊢ wp frame (wpE ((K (F := F)).defs (D (F := F))) 𝒱 (SparseCore.T d) none) Set.univ (callsProg d)
          fun _ => iprop((K (F := F)).tcSt EH d 2 ∗ ((SparseCore.T d).loc main_v18 ↦{fullShare} (X d).R)) := by
  simp only [callsProg, wp_bind, wp_pure]
  iintro ⟨#Hctx, Hst, H0, H18⟩
  ihave H0 := (split0 (X d) d f17) $$ H0
  iapply ((K (F := F)).wp_run (D (F := F)) 𝒱 (EH := EH) (P := P X) κ d 0) $$ [Hst H0 H18]
  isplitr; · iexact Hctx
  isplitl [Hst]; · iexact Hst
  isplitl [H0]; · iexact H0
  iintro ⟨Hst, Hdn⟩
  ihave Hdn := (done0 X d) $$ Hdn
  icases Hdn with ⟨-, H17⟩
  ihave H1 := (split1 (X d) d f18) $$ [H17 H18]
  · isplitl [H17]; · iexact H17
    iexact H18
  iapply ((K (F := F)).wp_run (D (F := F)) 𝒱 (EH := EH) (P := P X) κ d 1) $$ [Hst H1]
  isplitr; · iexact Hctx
  isplitl [Hst]; · iexact Hst
  isplitl [H1]; · iexact H1
  iintro ⟨Hst, Hdn⟩
  ihave Hdn := (done1 X d) $$ Hdn
  icases Hdn with ⟨-, H18⟩
  imodintro
  isplitl [Hst]; · iexact Hst
  iexact H18

/-- The arrays the calls read hold the data. -/
def Loaded : Prop := ∀ d, V1 m d (Proc.devRef .tc main_v14) = (X d).VF ∧ V1 m d (Proc.devRef .tc main_v15) = (X d).PV ∧ V1 m d (Proc.devRef .tc main_v16) = (X d).YV

theorem held_V1 (hX : Loaded X m) (d : Dev nD) :
    (held (d.tc : Thread nD τ) (Pipeline.ucRefs τ sig) (after hostOps (V0 m d)) : sProp 𝕄)
      ⊢ iprop(((SparseCore.T d).loc main_arg0 ↦{fullShare} m ((SparseCore.T d).loc main_arg0)) ∗ ((SparseCore.T d).loc main_arg1 ↦{fullShare} m ((SparseCore.T d).loc main_arg1))
      ∗ ((((SparseCore.T d).loc main_v14 ↦{fullShare} (X d).VF) ∗ ((SparseCore.T d).loc main_v15 ↦{fullShare} (X d).PV) ∗ ((SparseCore.T d).loc main_v16 ↦{fullShare} (X d).YV))
        ∗ ((SparseCore.T d).loc main_v17 ↦{fullShare} V1 m d (Proc.devRef .tc main_v17)))
      ∗ ((SparseCore.T d).loc main_v18 ↦{fullShare} V1 m d (Proc.devRef .tc main_v18))) := by
  change (held (SparseCore.T d) (Pipeline.ucRefs τ sig) (V1 m d) : sProp 𝕄) ⊢ _
  rw [held_sub_split (SparseCore.T d) S7_sub (V1 m d), held_S7, V1_arg0, V1_arg1, (hX d).1, (hX d).2.1, (hX d).2.2]
  iintro ⟨⟨H0, H1, H14, H15, H16, H17, H18⟩, -⟩
  isplitl [H0]; · iexact H0
  isplitl [H1]; · iexact H1
  isplitr [H18]
  · isplitr [H17]
    · isplitl [H14]; · iexact H14
      isplitl [H15]; · iexact H15
      iexact H16
    · iexact H17
  · iexact H18

/-- @main on device `d`'s TensorCore: the host's operations, then the two calls. -/
theorem hmain [∀ e, Nonempty (Elt F e)] (hX : Loaded X m) (κ : GSem nD τ sig → ℕ) (d : Dev nD) :
    iprop((K (F := F)).ctx EH (P X) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN X m d ∗ (K (F := F)).tcEnd d) := by
  have e : (unscopedBufs d (fun b => m ((SparseCore.T d).loc b)) : sProp 𝕄) = held (SparseCore.T d) (Pipeline.ucRefs τ sig) (V0 m d) :=
    Pipeline.unscopedBufs_held d (V0 m d)
  unfold SparseCore.Cfg.tcRes SparseCore.Cfg.tcEnd
  rw [e, main_eq]
  iintro ⟨#Hctx, Hst, ⟨Hb, Hheld, Hts, -⟩, -⟩
  iapply (StableHlo.wp_seq 𝒱 none Set.univ d (Pipeline.ucRefs τ sig) (fun _ => callsProg d) hostOps hostOps_in
    hostOps_pure (V0 m d)) $$ [Hb Hheld]
  · isplitl [Hb]; · iexact Hb
    iexact Hheld
  iintro ⟨Hb, Hheld⟩
  ihave Hheld := (held_V1 X m hX d) $$ Hheld
  icases Hheld with ⟨H0, H1, Hin, H18⟩
  iapply (wp_wand frame (wpE ((K (F := F)).defs (D (F := F))) 𝒱 (SparseCore.T d) none) Set.univ) $$ [Hst Hin H18]
  · iapply (wp_calls X κ d (V1 m d (Proc.devRef .tc main_v17)) (V1 m d (Proc.devRef .tc main_v18)))
    isplitr; · iexact Hctx
    isplitl [Hst]; · iexact Hst
    isplitl [Hin]; · iexact Hin
    iexact H18
  iintro %_ ⟨Hst, H18⟩
  isplitl [Hst]; · iexact Hst
  isplitr [Hb Hts]
  · isplitl [H0]; · iexact H0
    isplitl [H1]; · iexact H1
    iexact H18
  isplitl [Hb] <;> iassumption

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1) ∧ s'.mem.mem ((SparseCore.T d).loc main_v18) = (X d).R

theorem hfin (d : Dev nD) (s' : Phys nD τ sig (Elt F)) : iprop(FIN X m d ∗ SI s') ⊢ (⌜fq X m d s'⌝ : sProp 𝕄) := by
  iintro ⟨⟨H0, H1, H2⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (SI_pointsTo_agree (st := s') (ℓ := (SparseCore.T d).loc main_v18) (I := Finset.univ) (q := fullShare) (f := (X d).R)) $$ [HSI H2]
  · isplitl [HSI] <;> iassumption
  icases H with %h2
  ipureintro
  exact ⟨funext fun i => h0 i (Finset.mem_univ i), funext fun i => h1 i (Finset.mem_univ i), funext fun i => h2 i (Finset.mem_univ i)⟩

/-- Where every run ends: the arguments as they were, the result the data's, every counter at zero. -/
def QC : PUnit × MemSt nD τ sig (Elt F) → Prop := fun r =>
  (∀ d : Dev nD, r.2.mem ((SparseCore.T d).loc main_arg0) = m ((SparseCore.T d).loc main_arg0) ∧ r.2.mem ((SparseCore.T d).loc main_arg1) = m ((SparseCore.T d).loc main_arg1)
    ∧ r.2.mem ((SparseCore.T d).loc main_v18) = (X d).R) ∧ r.2.sem = fun _ => 0

/-- The whole program's run. -/
theorem run_main [∀ e, Nonempty (Elt F e)] (hX : Loaded X m) :
    θ_run (Cert.KernelIdeal.defs (F := F)) (Cert.KernelIdeal.threads (F := F)) ⟨m, fun _ => 0, ρ⟩ (QC X m) :=
  SparseCore.Cfg.θ_run_sc_quiescent (K := K (F := F)) (D := D (F := F)) (𝒱 := 𝒱) (EH := EH) (P := P X) (A := ∅) facts v₀
    (fun q hq => match q with | 0 => nomatch hq | 1 => nomatch hq)
    (fun q _ => match q with | 0 => tileObl0 X | 1 => tileObl1 X)
    (fun q _ => match q with | 0 => SparseCore.Cfg.VecSplit.of_plain (vecSplit0 X) | 1 => SparseCore.Cfg.VecSplit.of_plain (vecSplit1 X))
    m ρ main (fun _ => iprop(emp)) (FIN X m) (u₀ (F := F)) (sep_elim_left.trans (hu₀ X)) (hmain X m ρ hX) (fq X m) (hfin X m) (QC X m) (fun _ h hz => ⟨h, hz⟩)

end Cert.Pillars

end
-- ==== Proof.Inputs.lean ====
/-
  The data of a run: what the two calls read, off the arguments, when every pillar lies in the grid.
-/
module

public import proofs.«01_k».proof.Proof.Grid
public import proofs.«01_k».proof.Proof.Launch

@[expose] public section

set_option maxRecDepth 16384

noncomputable section

namespace Cert.Pillars

open Cert.KernelIdeal Cert.KernelIdeal.Gen
open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## The padded arrays, read -/

theorem padded_apply (V : Vec F S24000 .i32) {b n : ℕ} (hb : b < 2) (hn : n < 12000) (j : S24064.Idx) (hj : (j 0).val = 12032 * b + n) :
    padded V j = V (ix1 ⟨12000 * b + n, by omega⟩) := by
  unfold padded
  rw [shapeCast_apply _ _ j (ix2 (⟨b, hb⟩ : Fin 2) (⟨n, by omega⟩ : Fin 12032)) (by
    rw [Shape.rowMajor_val_one, Shape.rowMajor_val_two, hj]
    show b * 12032 + n = 12032 * b + n
    omega)]
  rw [pad_apply_of_inside _ _ _ _ _ _ _ (ix2 (⟨b, hb⟩ : Fin 2) (⟨n, by omega⟩ : Fin 12032)) (ix2 (⟨b, hb⟩ : Fin 2) (⟨n, hn⟩ : Fin 12000)) (fun a => by
    match a with
    | ⟨0, _⟩ => show b = 0 + b * (0 + 1); omega
    | ⟨1, _⟩ => show n = 0 + n * (0 + 1); omega)]
  refine shapeCast_apply _ _ _ _ ?_
  rw [Shape.rowMajor_val_one, Shape.rowMajor_val_two]
  show 12000 * b + n = b * 12000 + n
  omega

theorem channels_apply (A : Vec F S24000x64 .f32) {ch b n : ℕ} (hc : ch < 64) (hb : b < 2) (hn : n < 12000) (j : S1540096.Idx)
    (hj : (j 0).val = 24064 * ch + 12032 * b + n) :
    channels A j = A (ix2 ⟨12000 * b + n, by omega⟩ ⟨ch, hc⟩) := by
  unfold channels
  rw [shapeCast_apply _ _ j (ix3 (⟨ch, hc⟩ : Fin 64) (⟨b, hb⟩ : Fin 2) (⟨n, by omega⟩ : Fin 12032)) (by
    rw [Shape.rowMajor_val_one, Shape.rowMajor_val_three, hj]
    show (ch * 2 + b) * 12032 + n = _
    omega)]
  rw [pad_apply_of_inside _ _ _ _ _ _ _ (ix3 (⟨ch, hc⟩ : Fin 64) (⟨b, hb⟩ : Fin 2) (⟨n, by omega⟩ : Fin 12032)) (ix3 (⟨ch, hc⟩ : Fin 64) (⟨b, hb⟩ : Fin 2) (⟨n, hn⟩ : Fin 12000)) (fun a => by
    match a with
    | ⟨0, _⟩ => show ch = 0 + ch * (0 + 1); omega
    | ⟨1, _⟩ => show b = 0 + b * (0 + 1); omega
    | ⟨2, _⟩ => show n = 0 + n * (0 + 1); omega)]
  rw [shapeCast_apply _ _ _ (ix2 (⟨ch, hc⟩ : Fin 64) (⟨12000 * b + n, by omega⟩ : Fin 24000)) (by
    rw [Shape.rowMajor_val_two, Shape.rowMajor_val_three]
    show ch * 24000 + (12000 * b + n) = (ch * 2 + b) * 12000 + n
    omega)]
  refine transpose_apply _ A _ _ _ fun a => ?_
  match a with
  | ⟨0, _⟩ => rfl
  | ⟨1, _⟩ => rfl

/-! ## The data -/

/-- Pillar `n`'s row and column, and its feature on a channel; nothing beyond the pillars. -/
def rowOf (C : Vec F S24000x4 .i32) (n : ℕ) : ℕ := if h : n < 24000 then BitVec.toNat (C (ix2 ⟨n, h⟩ 2)) else 0
def colOf (C : Vec F S24000x4 .i32) (n : ℕ) : ℕ := if h : n < 24000 then BitVec.toNat (C (ix2 ⟨n, h⟩ 3)) else 0
def cellOf (C : Vec F S24000x4 .i32) (n : ℕ) : ℕ := 432 * rowOf C n + colOf C n
def featOf (A : Vec F S24000x64 .f32) (ch n : ℕ) : Elt F .f32 := if h : n < 24000 ∧ ch < 64 then A (ix2 ⟨n, h.1⟩ ⟨ch, h.2⟩) else zeroF

theorem rowOf_lt {C : Vec F S24000x4 .i32} (h : InGrid (F := F) C) (n : ℕ) : rowOf C n < 496 := by
  unfold rowOf
  split
  · exact (h _).2.1
  · omega

theorem colOf_lt {C : Vec F S24000x4 .i32} (h : InGrid (F := F) C) (n : ℕ) : colOf C n < 432 := by
  unfold colOf
  split
  · exact (h _).2.2
  · omega

theorem col2_word (C : Vec F S24000x4 .i32) (n : Fin 24000) : col2 C (ix1 n) = BitVec.ofNat 32 (rowOf C n.val) := by
  rw [col2_apply]
  unfold rowOf
  rw [dif_pos n.isLt]
  have hw : ∀ x : BitVec 32, x = BitVec.ofNat 32 x.toNat := fun x => by rw [BitVec.ofNat_toNat, BitVec.setWidth_eq]
  exact hw _

theorem cells_word (C : Vec F S24000x4 .i32) (n : Fin 24000) : cells C (ix1 n) = BitVec.ofNat 32 (cellOf C n.val) := by
  have e2 := col2_apply C n
  have e3 := col3_apply C n
  show IntOp.addi (IntOp.muli (col2 C (ix1 n)) 432#32) (col3 C (ix1 n)) = _
  rw [e2, e3]
  unfold cellOf rowOf colOf
  rw [dif_pos n.isLt, dif_pos n.isLt]
  apply BitVec.eq_of_toNat_eq
  show (BitVec.toNat (C (ix2 n 2)) * 432 % 2 ^ 32 + BitVec.toNat (C (ix2 n 3))) % 2 ^ 32 = (432 * BitVec.toNat (C (ix2 n 2)) + BitVec.toNat (C (ix2 n 3))) % 2 ^ 32
  omega

/-- The data of a run over pillars in the grid. -/
def dataOf (A : Vec F S24000x64 .f32) (C : Vec F S24000x4 .i32) (h : InGrid (F := F) C) : Data F where
  VF := channels A
  PV := padded (cells C)
  YV := padded (col2 C)
  pv b n := cellOf C (12000 * b + n)
  yv b n := rowOf C (12000 * b + n)
  w b ch n := featOf A ch (12000 * b + n)
  placed b n := by
    have h2 := rowOf_lt h (12000 * b + n)
    have h3 := colOf_lt h (12000 * b + n)
    dsimp only [cellOf]
    exact ⟨h2, by omega, by omega⟩
  sources i := by
    have hb : (i 0).val < 2 := (i 0).isLt
    have ht : (i 1).val < 16 := (i 1).isLt
    refine ⟨fun r n hn j hj => ?_, fun n hn j hj => ?_, fun n hn j hj => ?_⟩
    · have hr := r.isLt
      rw [channels_apply A (ch := 4 * (i 1).val + r.val) (by omega) hb hn j (by omega)]
      dsimp only [featOf]
      rw [dif_pos (show 12000 * (i 0).val + n < 24000 ∧ 4 * (i 1).val + r.val < 64 from ⟨by omega, by omega⟩)]
    · rw [padded_apply _ hb hn j hj]
      exact cells_word C _
    · rw [padded_apply _ hb hn j hj]
      exact col2_word C _

/-- The run's data, device by device. -/
def dataAt (m : (ℓ : Loc nD τ sig) → Buf (Elt F) ℓ) (h : ∀ d, InGrid (F := F) (coords m d)) (d : Dev nD) : Data F := dataOf (feats m d) (coords m d) (h d)

theorem loaded (m : (ℓ : Loc nD τ sig) → Buf (Elt F) ℓ) (h : ∀ d, InGrid (F := F) (coords m d)) : Loaded (dataAt m h) m :=
  fun d => ⟨V1_v14 m d, V1_v15 m d, V1_v16 m d⟩

/-- The kernel's run: the result at a channel's cell is the feature of the last pillar of the batch there, zero where there is none. -/
theorem run_kernel [∀ e, Nonempty (Elt F e)] (m : (ℓ : Loc nD τ sig) → Buf (Elt F) ℓ) (ρ : Dev nD → PrngReg) (h : ∀ d, InGrid (F := F) (coords m d)) :
    θ_run (Cert.KernelIdeal.defs (F := F)) (Cert.KernelIdeal.threads (F := F)) ⟨m, fun _ => 0, ρ⟩ (QC (dataAt m h) m) :=
  run_main (dataAt m h) m ρ (loaded m h)

end Cert.Pillars

end
-- ==== Proof.Scatter.lean ====
/-
  The reference's scatter, read: at a channel's cell, the feature of the last pillar of the batch there.
-/
module

public import proofs.«01_k».proof.Proof.Inputs
public import proofs.«01_k».proof.Proof.Gen.ReferenceIdeal
public import proofs.«01_k».proof.Proof.Gen.ReferenceIdeal.Run
public import Idealize.ShloMosaic.Lib.Routing.OpsOrder

@[expose] public section

set_option maxRecDepth 16384

noncomputable section

namespace Cert.Pillars

open Cert.ReferenceIdeal Cert.ReferenceIdeal.Gen
open Idealize.ShloMosaic Idealize.ShloMosaic.ValueIdx Idealize.ShloMosaic.WordCmp
open Idealize.SL.Sem
open scoped Classical

variable {F : FTy → Type} [FloatOps F]

/-! ## The last of writes taken row by row -/

section Last
variable {α : Type} {p : ℕ → Prop} {v : ℕ → α} {z : α}

/-- Writes that hit only at one place of every `L` in a row. -/
theorem last_stride {L c : ℕ} (hc : c < L) (h : ∀ k, p k → k % L = c) (n : ℕ) :
    last p v z (L * n) = last (fun i => p (L * i + c)) (fun i => v (L * i + c)) z n := by
  induction n with
  | zero => rfl
  | succ n ih =>
    rw [Nat.mul_succ, last_add, ih]
    have hmod : ∀ k, k < L → p (L * n + k) → k = c := fun k hk hp => by
      have := h _ hp
      rwa [Nat.mul_add_mod, Nat.mod_eq_of_lt hk] at this
    simp only [last]
    by_cases hp : p (L * n + c)
    · rw [if_pos hp]
      exact last_unique hc hp hmod
    · rw [if_neg hp]
      refine last_none fun k hk hk' => ?_
      obtain rfl := hmod k hk hk'
      exact hp hk'

/-- Writes that hit only in one of several runs. -/
theorem last_block {L b : ℕ} (hL : 0 < L) (h : ∀ k, p k → k / L = b) {n : ℕ} (hb : L * (b + 1) ≤ n) :
    last p v z n = last (fun i => p (L * b + i)) (fun i => v (L * b + i)) z L := by
  have e1 : last p v z n = last p v z (L * (b + 1)) := by
    refine last_stop hb fun k hk _ hp => ?_
    have h2 := h k hp
    have := (Nat.le_div_iff_mul_le hL).mpr (show (b + 1) * L ≤ k by rw [Nat.mul_comm]; exact hk)
    omega
  rw [e1, Nat.mul_succ, last_add]
  congr 1
  refine last_none fun k hk hp => ?_
  have h2 := h k hp
  have := Nat.div_lt_of_lt_mul hk
  omega

theorem iter_last [DecidablePred p] (n : ℕ) : iter (fun r k => if p k then v k else r) z n = last p v z n := by
  induction n with
  | zero => rfl
  | succ n ih =>
    simp only [iter, last, ih]
    by_cases h : p n
    · rw [if_pos h, if_pos h]
    · rw [if_neg h, if_neg h]

end Last

/-! ## Where an update lands -/

/-- The scatter's dimension numbers. -/
abbrev dS : ScatterDims S2x64x214272 S24000x2 S24000x64 := scatter_S2x64x214272_S24000x2_S24000x64_1_02_02_1

section Lands
variable (j : S24000x64.Idx) (idx : IVec S24000x2 32)

theorem window0 : (dS).window j 0 = 0 := rfl
theorem window1 : (dS).window j 1 = (j 1).val := rfl
theorem window2 : (dS).window j 2 = 0 := rfl
theorem start1 : (dS).start j idx 1 = 0 := rfl

theorem start0 : (dS).start j idx 0 = (idx (ix2 (j 0) (0 : Fin 2))).toInt := by
  have h : ∀ c : Fin 2, (dS).siIdx j c = ix2 (j 0) c := fun c => funext fun b => by
    match b with
    | ⟨0, _⟩ => rfl
    | ⟨1, _⟩ => rfl
  exact congrArg (fun k => (idx k).toInt) (h 0)

theorem start2 : (dS).start j idx 2 = (idx (ix2 (j 0) (1 : Fin 2))).toInt := by
  have h : ∀ c : Fin 2, (dS).siIdx j c = ix2 (j 0) c := fun c => funext fun b => by
    match b with
    | ⟨0, _⟩ => rfl
    | ⟨1, _⟩ => rfl
  exact congrArg (fun k => (idx k).toInt) (h 1)

theorem toInt_word {n : ℕ} (h : n < 2147483648) : (BitVec.ofNat 32 n).toInt = n := by
  rw [BitVec.toInt_eq_toNat_cond, BitVec.toNat_ofNat, Nat.mod_eq_of_lt (by omega), if_pos (by omega)]

/-- An update lands at its batch, its channel and its cell. -/
theorem lands {cell : ℕ → ℕ} (hcell : ∀ n, cell n < 2147483648)
    (h0 : ∀ n : Fin 24000, idx (ix2 n (0 : Fin 2)) = BitVec.ofNat 32 (n.val / 12000))
    (h1 : ∀ n : Fin 24000, idx (ix2 n (1 : Fin 2)) = BitVec.ofNat 32 (cell n.val)) (i : S2x64x214272.Idx) :
    (dS).resultIdx? j idx = some i ↔ (j 0).val / 12000 = (i 0).val ∧ (j 1).val = (i 1).val ∧ cell (j 0).val = (i 2).val := by
  have hj : (j 0).val < 24000 := (j 0).isLt
  have e0 : (idx (ix2 (j 0) (0 : Fin 2))).toInt = (j 0).val / 12000 := by
    rw [h0 (j 0), toInt_word (by omega)]
    rfl
  have e2 : (idx (ix2 (j 0) (1 : Fin 2))).toInt = cell (j 0).val := by
    rw [h1 (j 0), toInt_word (hcell _)]
  rw [Routing.resultIdx?_eq_some]
  constructor
  · intro h
    have a0 := h 0
    have a1 := h 1
    have a2 := h 2
    rw [start0, window0, e0] at a0
    rw [start1, window1] at a1
    rw [start2, window2, e2] at a2
    omega
  · rintro ⟨a0, a1, a2⟩ a
    match a with
    | ⟨0, _⟩ => exact (congrArg₂ (fun x y => x + y) ((start0 j idx).trans e0) (congrArg Nat.cast (window0 j))).trans ((add_zero _).trans (congrArg Nat.cast a0))
    | ⟨1, _⟩ => exact (congrArg₂ (fun x y => x + y) (start1 j idx) (congrArg Nat.cast (window1 j))).trans ((zero_add _).trans (congrArg Nat.cast a1))
    | ⟨2, _⟩ => exact (congrArg₂ (fun x y => x + y) ((start2 j idx).trans e2) (congrArg Nat.cast (window2 j))).trans ((add_zero _).trans (congrArg Nat.cast a2))

end Lands

/-! ## The scatter -/

theorem numel_upd : S24000x64.numel = 64 * 24000 := by decide +kernel

/-- The scatter at a batch's cell of a channel. -/
theorem scatter_apply {α : Type} (x : S2x64x214272.Idx → α) (idx : IVec S24000x2 32) (upd : S24000x64.Idx → α) {cell : ℕ → ℕ} {w : ℕ → ℕ → α}
    (hcell : ∀ n, cell n < 2147483648)
    (h0 : ∀ n : Fin 24000, idx (ix2 n (0 : Fin 2)) = BitVec.ofNat 32 (n.val / 12000))
    (h1 : ∀ n : Fin 24000, idx (ix2 n (1 : Fin 2)) = BitVec.ofNat 32 (cell n.val))
    (hw : ∀ j, upd j = w (j 1).val (j 0).val) (i : S2x64x214272.Idx) :
    Host.scatter dS (fun _ b => b) x idx upd i
      = last (fun n => cell (12000 * (i 0).val + n) = (i 2).val) (fun n => w (i 1).val (12000 * (i 0).val + n)) (x i) 12000 := by
  have hb : (i 0).val < 2 := (i 0).isLt
  have hch : (i 1).val < 64 := (i 1).isLt
  rw [← Routing.scatterIn_finRange, Routing.scatterIn_at]
  let P : ℕ → Prop := fun k => k / 64 / 12000 = (i 0).val ∧ k % 64 = (i 1).val ∧ cell (k / 64) = (i 2).val
  let V : ℕ → α := fun k => w (k % 64) (k / 64)
  have hs : ∀ (a : α) (k : Fin S24000x64.numel),
      (if (dS).resultIdx? (S24000x64.rowMajor.symm k) idx = some i then upd (S24000x64.rowMajor.symm k) else a) = if P k.val then V k.val else a := by
    intro a k
    generalize hj : S24000x64.rowMajor.symm k = j
    have hk : k.val = (j 0).val * 64 + (j 1).val := by
      have h := Shape.rowMajor_val_two j
      rw [← hj, Equiv.apply_symm_apply, hj] at h
      exact h
    have hj1 : (j 1).val < 64 := (j 1).isLt
    have hd : k.val / 64 = (j 0).val := by omega
    have hm : k.val % 64 = (j 1).val := by omega
    have hP : P k.val ↔ (dS).resultIdx? j idx = some i := by
      rw [lands j idx hcell h0 h1 i]
      show k.val / 64 / 12000 = (i 0).val ∧ k.val % 64 = (i 1).val ∧ cell (k.val / 64) = (i 2).val ↔ _
      rw [hd, hm]
    have hV : V k.val = upd j := by
      show w (k.val % 64) (k.val / 64) = _
      rw [hd, hm, hw]
    rw [hV]
    exact if_congr hP.symm rfl rfl
  have e1 : (List.finRange S24000x64.numel).foldl
        (fun a k => if (dS).resultIdx? (S24000x64.rowMajor.symm k) idx = some i then upd (S24000x64.rowMajor.symm k) else a) (x i)
      = (List.finRange S24000x64.numel).foldl (fun a k => (fun r n => if P n then V n else r) a k.val) (x i) :=
    congrArg (fun g => (List.finRange S24000x64.numel).foldl g (x i)) (funext fun a => funext fun k => hs a k)
  refine Eq.trans ?_ (e1.trans ?_)
  · refine congrArg (fun g => (List.finRange S24000x64.numel).foldl g (x i)) (funext fun a => funext fun k => ?_)
    exact if_congr Iff.rfl rfl rfl
  refine (foldl_finRange (fun r n => if P n then V n else r) (x i) _).trans ?_
  rw [iter_last, numel_upd]
  rw [last_stride hch (fun k hk => hk.2.1)]
  rw [last_block (L := 12000) (b := (i 0).val) (by omega) (fun k hk => by
    have h := hk.1
    rw [show (64 * k + (i 1).val) / 64 = k by omega] at h
    exact h) (by omega)]
  refine last_congr (fun k hk => ?_) fun k hk _ => ?_
  · show ((64 * (12000 * (i 0).val + k) + (i 1).val) / 64 / 12000 = (i 0).val ∧ (64 * (12000 * (i 0).val + k) + (i 1).val) % 64 = (i 1).val
        ∧ cell ((64 * (12000 * (i 0).val + k) + (i 1).val) / 64) = (i 2).val) ↔ _
    rw [show (64 * (12000 * (i 0).val + k) + (i 1).val) / 64 = 12000 * (i 0).val + k by omega]
    exact ⟨fun h => h.2.2, fun h => ⟨by omega, by omega, h⟩⟩
  · show w ((64 * (12000 * (i 0).val + k) + (i 1).val) % 64) ((64 * (12000 * (i 0).val + k) + (i 1).val) / 64) = _
    rw [show (64 * (12000 * (i 0).val + k) + (i 1).val) / 64 = 12000 * (i 0).val + k by omega,
      show (64 * (12000 * (i 0).val + k) + (i 1).val) % 64 = (i 1).val by omega]

/-! ## The reference -/

/-- The reference's pillar numbers: a word of a column, a negative one counted from the end. -/
theorem wrap_apply (x : IVec S24000 32) (N : BitVec 32) (h : S_.BroadcastsInDim S24000 (![] : Fin 0 → Fin S24000.rank)) {n : Fin 24000} {k : ℕ} (hk : k < 2147483648)
    (hx : x (ix1 n) = BitVec.ofNat 32 k) :
    select (cmpi .slt x (broadcastInDim S24000 ![] h (constantI S_ 32 0#32))) (addi x (broadcastInDim S24000 ![] h (constantI S_ 32 N))) x (ix1 n)
      = BitVec.ofNat 32 k := by
  show Scalar.select (IntOp.cmpi .slt (x (ix1 n)) 0#32) (IntOp.addi (x (ix1 n)) N) (x (ix1 n)) = _
  rw [hx, cmpi_slt_eq, toInt_word hk]
  have h0 : (0#32 : BitVec 32).toInt = 0 := by decide
  rw [h0]
  have hf : decide ((k : ℤ) < 0) = false := decide_eq_false (by omega)
  rw [hf]
  unfold Scalar.select
  rw [if_neg (by decide)]

/-- The reference's result, of its arguments. -/
def refOut (A : FVec F S24000x64 .f32) (C : IVec S24000x4 32) : FVec F S2x64x496x432 .f32 :=
  shapeCast _ (Host.scatter dS (fun _ b => b) (broadcastInDim S2x64x214272 ![] bcast_S_S2x64x214272 (constant S_ .f32 0x00000000#32))
    (concatenate S24000x2 1
      [⟨S24000x1, (broadcastInDim S24000x1 ![0] bcast_S24000_S24000x1_0
          (select (cmpi .slt (shapeCast S24000 (extractStridedSlice S24000x1 ![0, 0] C slices_S24000x4_S24000x1_0_0) shapeCasts_S24000x1_S24000) (broadcastInDim S24000 ![] bcast_S_S24000 (constantI S_ 32 0#32)))
            (addi (shapeCast S24000 (extractStridedSlice S24000x1 ![0, 0] C slices_S24000x4_S24000x1_0_0) shapeCasts_S24000x1_S24000) (broadcastInDim S24000 ![] bcast_S_S24000 (constantI S_ 32 2#32)))
            (shapeCast S24000 (extractStridedSlice S24000x1 ![0, 0] C slices_S24000x4_S24000x1_0_0) shapeCasts_S24000x1_S24000)))⟩,
       ⟨S24000x1, (broadcastInDim S24000x1 ![0] bcast_S24000_S24000x1_0
          (select (cmpi .slt (cells (F := F) C) (broadcastInDim S24000 ![] bcast_S_S24000 (constantI S_ 32 0#32)))
            (addi (cells (F := F) C) (broadcastInDim S24000 ![] bcast_S_S24000 (constantI S_ 32 214272#32))) (cells (F := F) C)))⟩]
      concatenates_S24000x1_S24000x1_S24000x2_d1) A) shapeCasts_S2x64x214272_S2x64x496x432

/-- A column of words as the first, or the second, of two columns. -/
theorem columns_apply (a b : IVec S24000 32) (n : Fin 24000) :
    concatenate S24000x2 1 [⟨S24000x1, broadcastInDim S24000x1 ![0] bcast_S24000_S24000x1_0 a⟩, ⟨S24000x1, broadcastInDim S24000x1 ![0] bcast_S24000_S24000x1_0 b⟩]
        concatenates_S24000x1_S24000x1_S24000x2_d1 (ix2 n (0 : Fin 2)) = a (ix1 n)
      ∧ concatenate S24000x2 1 [⟨S24000x1, broadcastInDim S24000x1 ![0] bcast_S24000_S24000x1_0 a⟩, ⟨S24000x1, broadcastInDim S24000x1 ![0] bcast_S24000_S24000x1_0 b⟩]
        concatenates_S24000x1_S24000x1_S24000x2_d1 (ix2 n (1 : Fin 2)) = b (ix1 n) := by
  have col : ∀ c : IVec S24000 32, broadcastInDim S24000x1 ![0] bcast_S24000_S24000x1_0 c (ix2 n (0 : Fin 1)) = c (ix1 n) := fun c => by
    refine broadcastInDim_apply _ _ c _ _ fun d => ?_
    match d with
    | ⟨0, _⟩ => rfl
  constructor
  · refine (concatenate_pair_apply_left (s₁ := S24000x1) (s₂ := S24000x1) (1 : Fin S24000x2.rank) _ _ _ (ix2 n (0 : Fin 2)) rfl (ix2 n (0 : Fin 1)) fun d => ?_).trans (col a)
    match d with
    | ⟨0, _⟩ => rfl
    | ⟨1, _⟩ => rfl
  · refine (concatenate_pair_apply_right (s₁ := S24000x1) (s₂ := S24000x1) (1 : Fin S24000x2.rank) _ _ _ (ix2 n (1 : Fin 2)) rfl rfl (ix2 n (0 : Fin 1)) (fun d hd => ?_) rfl).trans (col b)
    match d with
    | ⟨0, _⟩ => rfl
    | ⟨1, _⟩ => exact absurd rfl hd

/-- The reference's result is the run's. -/
theorem refOut_eq {A : FVec F S24000x64 .f32} {C : IVec S24000x4 32} (h : InGrid (F := F) C) : refOut A C = (dataOf (F := F) A C h).R := by
  funext j
  have h2 : (j 2).val < 496 := (j 2).isLt
  have h3 : (j 3).val < 432 := (j 3).isLt
  have hcell : ∀ n, cellOf (F := F) C n < 2147483648 := fun n => by
    have h4 := rowOf_lt h n
    have h5 := colOf_lt h n
    unfold cellOf
    omega
  unfold refOut
  refine (shapeCast_apply _ _ j (ix3 (j 0) (j 1) (⟨432 * (j 2).val + (j 3).val, by omega⟩ : Fin 214272)) (by
    have e3 := Shape.rowMajor_val_three (ix3 (j 0) (j 1) (⟨432 * (j 2).val + (j 3).val, by omega⟩ : Fin 214272))
    have e4 := Shape.rowMajor_val_four j
    refine e3.trans (Eq.trans ?_ e4.symm)
    show ((j 0).val * 64 + (j 1).val) * 214272 + (432 * (j 2).val + (j 3).val) = (((j 0).val * 64 + (j 1).val) * 496 + (j 2).val) * 432 + (j 3).val
    omega)).trans ?_
  refine scatter_apply (cell := cellOf (F := F) C) (w := fun ch n => featOf (F := F) A ch n) _ _ A hcell (fun n => ?_) (fun n => ?_) (fun k => ?_) _
  · refine (columns_apply _ _ n).1.trans (wrap_apply _ _ _ (by have := n.isLt; omega) ?_)
    exact (column_apply C 0 _ _ n).trans (h n).1
  · refine (columns_apply _ _ n).2.trans (wrap_apply _ _ _ (hcell _) ?_)
    exact cells_word C n
  · unfold featOf
    rw [dif_pos (show (k 0).val < 24000 ∧ (k 1).val < 64 from ⟨(k 0).isLt, (k 1).isLt⟩)]
    exact congrArg A (eq_ix2 k)

/-- The reference's run. -/
theorem run_ref (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v24) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.Pillars

end
-- ==== Proof.lean ====
/-
  The claims. The kernel's run (`Cert.Pillars.run_kernel`) and the reference's (`Cert.Pillars.run_ref`) are proved once, over any
  reading of the floating-point types; each claim reads them at the real numbers or at the words of the hardware.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Pre_pillars
public import proofs.«01_k».proof.Proof.Scatter
public import Idealize.ShloMosaic.Adequacy
public import Idealize.ShloMosaic.Init

@[expose] public section

set_option maxRecDepth 16384

noncomputable section

namespace Cert.Proof

open Idealize.ShloMosaic Idealize.SL.Sem Cert.Pillars

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Reference.Facts := Cert.Reference.Gen.facts
local instance : Cert.Pre_pillars.Facts := Cert.Pre_pillars.Gen.facts

/-! ## Every run ends, with its arguments unchanged -/

theorem frame_kernelIdeal : Cert.quiescent_KernelIdeal := fun m ρ hp =>
  (θ_run Cert.KernelIdeal.defs _ _).mono (fun _ h => ⟨fun c => ⟨(h.1 c).1, (h.1 c).2.1⟩, h.2⟩)
    (run_kernel (F := Ideal) m ρ fun d => inGrid_of_pre (hp d))

theorem frame_kernel : Cert.quiescent_Kernel := fun m ρ hp =>
  (θ_run Cert.KernelIdeal.defs _ _).mono (fun _ h => ⟨fun c => ⟨(h.1 c).1, (h.1 c).2.1⟩, h.2⟩)
    (run_kernel (F := Bits) m ρ fun d => inGrid_of_pre (hp d))

theorem frame_referenceIdeal : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (run_ref (F := Ideal) m ρ)

theorem frame_referenceIdeal_pillars : Cert.quiescent_ReferenceIdeal_pre_pillars := fun m ρ _ => frame_referenceIdeal m ρ trivial

theorem frame_reference : Cert.quiescent_Reference := fun m ρ _ =>
  (θ_run Cert.ReferenceIdeal.defs _ _).mono (fun r h => ⟨fun c => ⟨(h c).2.1, (h c).2.2⟩, sem_eq_zero_of_no_sems (by decide) r.2⟩)
    (run_ref (F := Bits) m ρ)

/-! ## The two results are one -/

theorem algebraic : Cert.algebraic_KernelIdeal_ReferenceIdeal := fun m ρ m' ρ' hp ha => by
  have hg : ∀ d, InGrid (F := Ideal) (coords m d) := fun d => inGrid_of_pre (hp d)
  refine ⟨fun c => (dataAt m hg c).R, ?_, ?_⟩
  · exact (θ_run Cert.KernelIdeal.defs _ _).mono (fun _ h c => ⟨(h.1 c).2.2, (h.1 c).1, (h.1 c).2.1⟩) (run_kernel (F := Ideal) m ρ hg)
  · refine (θ_run Cert.ReferenceIdeal.defs _ _).mono (fun _ h c => ⟨(h c).1.trans ?_, (h c).2.1, (h c).2.2⟩) (run_ref (F := Ideal) m' ρ')
    exact (congrArg₂ (refOut (F := Ideal)) (ha c).1 (ha c).2).trans (refOut_eq (hg c))

theorem bitexact : Cert.bitexact_Kernel_Reference := fun m ρ m' ρ' hp ha => by
  have hg : ∀ d, InGrid (F := Bits) (coords m d) := fun d => inGrid_of_pre (hp d)
  refine ⟨fun c => (dataAt (F := Bits) m hg c).R, ?_, ?_⟩
  · exact (θ_run Cert.KernelIdeal.defs _ _).mono (fun _ h c => ⟨(h.1 c).2.2, (h.1 c).1, (h.1 c).2.1⟩) (run_kernel (F := Bits) m ρ hg)
  · refine (θ_run Cert.ReferenceIdeal.defs _ _).mono (fun _ h c => ⟨(h c).1.trans ?_, (h c).2.1, (h c).2.2⟩) (run_ref (F := Bits) m' ρ')
    exact (congrArg₂ (refOut (F := Bits)) (ha c).1 (ha c).2).trans (refOut_eq (hg c))

theorem claim : Cert.Claim := ⟨Cert.Kernel.Gen.facts, Cert.KernelIdeal.Gen.facts, Cert.ReferenceIdeal.Gen.facts, Cert.Reference.Gen.facts, Cert.Pre_pillars.Gen.facts,
  frame_kernel, frame_kernelIdeal, frame_referenceIdeal, frame_referenceIdeal_pillars, frame_reference, trivial, algebraic, bitexact⟩

end Cert.Proof

end
